-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_ReferenceDnormIdeal (m : (ℓ : Loc Cert.ReferenceDnormIdeal.nD Cert.ReferenceDnormIdeal.τ Cert.ReferenceDnormIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_ReferenceFinishIdeal (m : (ℓ : Loc Cert.ReferenceFinishIdeal.nD Cert.ReferenceFinishIdeal.τ Cert.ReferenceFinishIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_ReferenceBwdIdeal (m : (ℓ : Loc Cert.ReferenceBwdIdeal.nD Cert.ReferenceBwdIdeal.τ Cert.ReferenceBwdIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3)
      ∧ r.2.mem ((c.tc : Thread Cert.Dnorm.nD Cert.Dnorm.τ).loc Cert.Dnorm.main_arg4) = m ((c.tc : Thread Cert.Dnorm.nD Cert.Dnorm.τ).loc Cert.Dnorm.main_arg4)
      ∧ r.2.mem ((c.tc : Thread Cert.Dnorm.nD Cert.Dnorm.τ).loc Cert.Dnorm.main_arg5) = m ((c.tc : Thread Cert.Dnorm.nD Cert.Dnorm.τ).loc Cert.Dnorm.main_arg5)
      ∧ r.2.mem ((c.tc : Thread Cert.Dnorm.nD Cert.Dnorm.τ).loc Cert.Dnorm.main_arg6) = m ((c.tc : Thread Cert.Dnorm.nD Cert.Dnorm.τ).loc Cert.Dnorm.main_arg6)
      ∧ r.2.mem ((c.tc : Thread Cert.Dnorm.nD Cert.Dnorm.τ).loc Cert.Dnorm.main_arg7) = m ((c.tc : Thread Cert.Dnorm.nD Cert.Dnorm.τ).loc Cert.Dnorm.main_arg7)
      ∧ r.2.mem ((c.tc : Thread Cert.Dnorm.nD Cert.Dnorm.τ).loc Cert.Dnorm.main_arg8) = m ((c.tc : Thread Cert.Dnorm.nD Cert.Dnorm.τ).loc Cert.Dnorm.main_arg8)
      ∧ r.2.mem ((c.tc : Thread Cert.Dnorm.nD Cert.Dnorm.τ).loc Cert.Dnorm.main_arg9) = m ((c.tc : Thread Cert.Dnorm.nD Cert.Dnorm.τ).loc Cert.Dnorm.main_arg9))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4)
      ∧ r.2.mem ((c.tc : Thread Cert.DnormIdeal.nD Cert.DnormIdeal.τ).loc Cert.DnormIdeal.main_arg5) = m ((c.tc : Thread Cert.DnormIdeal.nD Cert.DnormIdeal.τ).loc Cert.DnormIdeal.main_arg5)
      ∧ r.2.mem ((c.tc : Thread Cert.DnormIdeal.nD Cert.DnormIdeal.τ).loc Cert.DnormIdeal.main_arg6) = m ((c.tc : Thread Cert.DnormIdeal.nD Cert.DnormIdeal.τ).loc Cert.DnormIdeal.main_arg6)
      ∧ r.2.mem ((c.tc : Thread Cert.DnormIdeal.nD Cert.DnormIdeal.τ).loc Cert.DnormIdeal.main_arg7) = m ((c.tc : Thread Cert.DnormIdeal.nD Cert.DnormIdeal.τ).loc Cert.DnormIdeal.main_arg7)
      ∧ r.2.mem ((c.tc : Thread Cert.DnormIdeal.nD Cert.DnormIdeal.τ).loc Cert.DnormIdeal.main_arg8) = m ((c.tc : Thread Cert.DnormIdeal.nD Cert.DnormIdeal.τ).loc Cert.DnormIdeal.main_arg8)
      ∧ r.2.mem ((c.tc : Thread Cert.DnormIdeal.nD Cert.DnormIdeal.τ).loc Cert.DnormIdeal.main_arg9) = m ((c.tc : Thread Cert.DnormIdeal.nD Cert.DnormIdeal.τ).loc Cert.DnormIdeal.main_arg9))
      ∧ r.2.sem = fun _ => 0)

def quiescent_ReferenceDnormIdeal [hReferenceDnormIdeal : Cert.ReferenceDnormIdeal.Facts] : Prop :=
  ∀ (m : (ℓ : Loc Cert.ReferenceDnormIdeal.nD Cert.ReferenceDnormIdeal.τ Cert.ReferenceDnormIdeal.sig) → Buf (Elt Ideal) ℓ) (g : Dev Cert.ReferenceDnormIdeal.nD → PrngReg), Pre_ReferenceDnormIdeal m →
    θ_run (Cert.ReferenceDnormIdeal.defs (F := Ideal)) (onTc (τ := Cert.ReferenceDnormIdeal.τ) (Cert.ReferenceDnormIdeal.main (F := Ideal))) ⟨m, fun _ => 0, g⟩ (fun r => (∀ c : Dev Cert.ReferenceDnormIdeal.nD,
      r.2.mem ((c.tc : Thread Cert.ReferenceDnormIdeal.nD Cert.ReferenceDnormIdeal.τ).loc Cert.ReferenceDnormIdeal.main_arg0) = m ((c.tc : Thread Cert.ReferenceDnormIdeal.nD Cert.ReferenceDnormIdeal.τ).loc Cert.ReferenceDnormIdeal.main_arg0)
      ∧ r.2.mem ((c.tc : Thread Cert.ReferenceDnormIdeal.nD Cert.ReferenceDnormIdeal.τ).loc Cert.ReferenceDnormIdeal.main_arg1) = m ((c.tc : Thread Cert.ReferenceDnormIdeal.nD Cert.ReferenceDnormIdeal.τ).loc Cert.ReferenceDnormIdeal.main_arg1)
      ∧ r.2.mem ((c.tc : Thread Cert.ReferenceDnormIdeal.nD Cert.ReferenceDnormIdeal.τ).loc Cert.ReferenceDnormIdeal.main_arg2) = m ((c.tc : Thread Cert.ReferenceDnormIdeal.nD Cert.ReferenceDnormIdeal.τ).loc Cert.ReferenceDnormIdeal.main_arg2)
      ∧ r.2.mem ((c.tc : Thread Cert.ReferenceDnormIdeal.nD Cert.ReferenceDnormIdeal.τ).loc Cert.ReferenceDnormIdeal.main_arg3) = m ((c.tc : Thread Cert.ReferenceDnormIdeal.nD Cert.ReferenceDnormIdeal.τ).loc Cert.ReferenceDnormIdeal.main_arg3)
      ∧ r.2.mem ((c.tc : Thread Cert.ReferenceDnormIdeal.nD Cert.ReferenceDnormIdeal.τ).loc Cert.ReferenceDnormIdeal.main_arg4) = m ((c.tc : Thread Cert.ReferenceDnormIdeal.nD Cert.ReferenceDnormIdeal.τ).loc Cert.ReferenceDnormIdeal.main_arg4)
      ∧ r.2.mem ((c.tc : Thread Cert.ReferenceDnormIdeal.nD Cert.ReferenceDnormIdeal.τ).loc Cert.ReferenceDnormIdeal.main_arg5) = m ((c.tc : Thread Cert.ReferenceDnormIdeal.nD Cert.ReferenceDnormIdeal.τ).loc Cert.ReferenceDnormIdeal.main_arg5)
      ∧ r.2.mem ((c.tc : Thread Cert.ReferenceDnormIdeal.nD Cert.ReferenceDnormIdeal.τ).loc Cert.ReferenceDnormIdeal.main_arg6) = m ((c.tc : Thread Cert.ReferenceDnormIdeal.nD Cert.ReferenceDnormIdeal.τ).loc Cert.ReferenceDnormIdeal.main_arg6)
      ∧ r.2.mem ((c.tc : Thread Cert.ReferenceDnormIdeal.nD Cert.ReferenceDnormIdeal.τ).loc Cert.ReferenceDnormIdeal.main_arg7) = m ((c.tc : Thread Cert.ReferenceDnormIdeal.nD Cert.ReferenceDnormIdeal.τ).loc Cert.ReferenceDnormIdeal.main_arg7)
      ∧ r.2.mem ((c.tc : Thread Cert.ReferenceDnormIdeal.nD Cert.ReferenceDnormIdeal.τ).loc Cert.ReferenceDnormIdeal.main_arg8) = m ((c.tc : Thread Cert.ReferenceDnormIdeal.nD Cert.ReferenceDnormIdeal.τ).loc Cert.ReferenceDnormIdeal.main_arg8)
      ∧ r.2.mem ((c.tc : Thread Cert.ReferenceDnormIdeal.nD Cert.ReferenceDnormIdeal.τ).loc Cert.ReferenceDnormIdeal.main_arg9) = m ((c.tc : Thread Cert.ReferenceDnormIdeal.nD Cert.ReferenceDnormIdeal.τ).loc Cert.ReferenceDnormIdeal.main_arg9))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_ReferenceFinishIdeal [hReferenceFinishIdeal : Cert.ReferenceFinishIdeal.Facts] : Prop :=
  ∀ (m : (ℓ : Loc Cert.ReferenceFinishIdeal.nD Cert.ReferenceFinishIdeal.τ Cert.ReferenceFinishIdeal.sig) → Buf (Elt Ideal) ℓ) (g : Dev Cert.ReferenceFinishIdeal.nD → PrngReg), Pre_ReferenceFinishIdeal m →
    θ_run (Cert.ReferenceFinishIdeal.defs (F := Ideal)) (onTc (τ := Cert.ReferenceFinishIdeal.τ) (Cert.ReferenceFinishIdeal.main (F := Ideal))) ⟨m, fun _ => 0, g⟩ (fun r => (∀ c : Dev Cert.ReferenceFinishIdeal.nD,
      r.2.mem ((c.tc : Thread Cert.ReferenceFinishIdeal.nD Cert.ReferenceFinishIdeal.τ).loc Cert.ReferenceFinishIdeal.main_arg0) = m ((c.tc : Thread Cert.ReferenceFinishIdeal.nD Cert.ReferenceFinishIdeal.τ).loc Cert.ReferenceFinishIdeal.main_arg0)
      ∧ r.2.mem ((c.tc : Thread Cert.ReferenceFinishIdeal.nD Cert.ReferenceFinishIdeal.τ).loc Cert.ReferenceFinishIdeal.main_arg1) = m ((c.tc : Thread Cert.ReferenceFinishIdeal.nD Cert.ReferenceFinishIdeal.τ).loc Cert.ReferenceFinishIdeal.main_arg1)
      ∧ r.2.mem ((c.tc : Thread Cert.ReferenceFinishIdeal.nD Cert.ReferenceFinishIdeal.τ).loc Cert.ReferenceFinishIdeal.main_arg2) = m ((c.tc : Thread Cert.ReferenceFinishIdeal.nD Cert.ReferenceFinishIdeal.τ).loc Cert.ReferenceFinishIdeal.main_arg2)
      ∧ r.2.mem ((c.tc : Thread Cert.ReferenceFinishIdeal.nD Cert.ReferenceFinishIdeal.τ).loc Cert.ReferenceFinishIdeal.main_arg3) = m ((c.tc : Thread Cert.ReferenceFinishIdeal.nD Cert.ReferenceFinishIdeal.τ).loc Cert.ReferenceFinishIdeal.main_arg3)
      ∧ r.2.mem ((c.tc : Thread Cert.ReferenceFinishIdeal.nD Cert.ReferenceFinishIdeal.τ).loc Cert.ReferenceFinishIdeal.main_arg4) = m ((c.tc : Thread Cert.ReferenceFinishIdeal.nD Cert.ReferenceFinishIdeal.τ).loc Cert.ReferenceFinishIdeal.main_arg4)
      ∧ r.2.mem ((c.tc : Thread Cert.ReferenceFinishIdeal.nD Cert.ReferenceFinishIdeal.τ).loc Cert.ReferenceFinishIdeal.main_arg5) = m ((c.tc : Thread Cert.ReferenceFinishIdeal.nD Cert.ReferenceFinishIdeal.τ).loc Cert.ReferenceFinishIdeal.main_arg5)
      ∧ r.2.mem ((c.tc : Thread Cert.ReferenceFinishIdeal.nD Cert.ReferenceFinishIdeal.τ).loc Cert.ReferenceFinishIdeal.main_arg6) = m ((c.tc : Thread Cert.ReferenceFinishIdeal.nD Cert.ReferenceFinishIdeal.τ).loc Cert.ReferenceFinishIdeal.main_arg6)
      ∧ r.2.mem ((c.tc : Thread Cert.ReferenceFinishIdeal.nD Cert.ReferenceFinishIdeal.τ).loc Cert.ReferenceFinishIdeal.main_arg7) = m ((c.tc : Thread Cert.ReferenceFinishIdeal.nD Cert.ReferenceFinishIdeal.τ).loc Cert.ReferenceFinishIdeal.main_arg7)
      ∧ r.2.mem ((c.tc : Thread Cert.ReferenceFinishIdeal.nD Cert.ReferenceFinishIdeal.τ).loc Cert.ReferenceFinishIdeal.main_arg8) = m ((c.tc : Thread Cert.ReferenceFinishIdeal.nD Cert.ReferenceFinishIdeal.τ).loc Cert.ReferenceFinishIdeal.main_arg8)
      ∧ r.2.mem ((c.tc : Thread Cert.ReferenceFinishIdeal.nD Cert.ReferenceFinishIdeal.τ).loc Cert.ReferenceFinishIdeal.main_arg9) = m ((c.tc : Thread Cert.ReferenceFinishIdeal.nD Cert.ReferenceFinishIdeal.τ).loc Cert.ReferenceFinishIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10)
      ∧ r.2.mem ((c.tc : Thread Cert.Fwd.nD Cert.Fwd.τ).loc Cert.Fwd.main_arg11) = m ((c.tc : Thread Cert.Fwd.nD Cert.Fwd.τ).loc Cert.Fwd.main_arg11)
      ∧ r.2.mem ((c.tc : Thread Cert.Fwd.nD Cert.Fwd.τ).loc Cert.Fwd.main_arg12) = m ((c.tc : Thread Cert.Fwd.nD Cert.Fwd.τ).loc Cert.Fwd.main_arg12)
      ∧ r.2.mem ((c.tc : Thread Cert.Fwd.nD Cert.Fwd.τ).loc Cert.Fwd.main_arg13) = m ((c.tc : Thread Cert.Fwd.nD Cert.Fwd.τ).loc Cert.Fwd.main_arg13)
      ∧ r.2.mem ((c.tc : Thread Cert.Fwd.nD Cert.Fwd.τ).loc Cert.Fwd.main_arg14) = m ((c.tc : Thread Cert.Fwd.nD Cert.Fwd.τ).loc Cert.Fwd.main_arg14))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
      ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
      ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13)
      ∧ r.2.mem ((c.tc : Thread Cert.FwdIdeal.nD Cert.FwdIdeal.τ).loc Cert.FwdIdeal.main_arg14) = m ((c.tc : Thread Cert.FwdIdeal.nD Cert.FwdIdeal.τ).loc Cert.FwdIdeal.main_arg14))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8)
      ∧ r.2.mem ((c.tc : Thread Cert.ReferenceFwdIdeal.nD Cert.ReferenceFwdIdeal.τ).loc Cert.ReferenceFwdIdeal.main_arg9) = m ((c.tc : Thread Cert.ReferenceFwdIdeal.nD Cert.ReferenceFwdIdeal.τ).loc Cert.ReferenceFwdIdeal.main_arg9)
      ∧ r.2.mem ((c.tc : Thread Cert.ReferenceFwdIdeal.nD Cert.ReferenceFwdIdeal.τ).loc Cert.ReferenceFwdIdeal.main_arg10) = m ((c.tc : Thread Cert.ReferenceFwdIdeal.nD Cert.ReferenceFwdIdeal.τ).loc Cert.ReferenceFwdIdeal.main_arg10)
      ∧ r.2.mem ((c.tc : Thread Cert.ReferenceFwdIdeal.nD Cert.ReferenceFwdIdeal.τ).loc Cert.ReferenceFwdIdeal.main_arg11) = m ((c.tc : Thread Cert.ReferenceFwdIdeal.nD Cert.ReferenceFwdIdeal.τ).loc Cert.ReferenceFwdIdeal.main_arg11)
      ∧ r.2.mem ((c.tc : Thread Cert.ReferenceFwdIdeal.nD Cert.ReferenceFwdIdeal.τ).loc Cert.ReferenceFwdIdeal.main_arg12) = m ((c.tc : Thread Cert.ReferenceFwdIdeal.nD Cert.ReferenceFwdIdeal.τ).loc Cert.ReferenceFwdIdeal.main_arg12)
      ∧ r.2.mem ((c.tc : Thread Cert.ReferenceFwdIdeal.nD Cert.ReferenceFwdIdeal.τ).loc Cert.ReferenceFwdIdeal.main_arg13) = m ((c.tc : Thread Cert.ReferenceFwdIdeal.nD Cert.ReferenceFwdIdeal.τ).loc Cert.ReferenceFwdIdeal.main_arg13)
      ∧ r.2.mem ((c.tc : Thread Cert.ReferenceFwdIdeal.nD Cert.ReferenceFwdIdeal.τ).loc Cert.ReferenceFwdIdeal.main_arg14) = m ((c.tc : Thread Cert.ReferenceFwdIdeal.nD Cert.ReferenceFwdIdeal.τ).loc Cert.ReferenceFwdIdeal.main_arg14))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9)
      ∧ r.2.mem ((c.tc : Thread Cert.Bwd.nD Cert.Bwd.τ).loc Cert.Bwd.main_arg10) = m ((c.tc : Thread Cert.Bwd.nD Cert.Bwd.τ).loc Cert.Bwd.main_arg10)
      ∧ r.2.mem ((c.tc : Thread Cert.Bwd.nD Cert.Bwd.τ).loc Cert.Bwd.main_arg11) = m ((c.tc : Thread Cert.Bwd.nD Cert.Bwd.τ).loc Cert.Bwd.main_arg11)
      ∧ r.2.mem ((c.tc : Thread Cert.Bwd.nD Cert.Bwd.τ).loc Cert.Bwd.main_arg12) = m ((c.tc : Thread Cert.Bwd.nD Cert.Bwd.τ).loc Cert.Bwd.main_arg12)
      ∧ r.2.mem ((c.tc : Thread Cert.Bwd.nD Cert.Bwd.τ).loc Cert.Bwd.main_arg13) = m ((c.tc : Thread Cert.Bwd.nD Cert.Bwd.τ).loc Cert.Bwd.main_arg13))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
      ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
      ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11)
      ∧ r.2.mem ((c.tc : Thread Cert.BwdIdeal.nD Cert.BwdIdeal.τ).loc Cert.BwdIdeal.main_arg12) = m ((c.tc : Thread Cert.BwdIdeal.nD Cert.BwdIdeal.τ).loc Cert.BwdIdeal.main_arg12)
      ∧ r.2.mem ((c.tc : Thread Cert.BwdIdeal.nD Cert.BwdIdeal.τ).loc Cert.BwdIdeal.main_arg13) = m ((c.tc : Thread Cert.BwdIdeal.nD Cert.BwdIdeal.τ).loc Cert.BwdIdeal.main_arg13))
      ∧ r.2.sem = fun _ => 0)

def quiescent_ReferenceBwdIdeal [hReferenceBwdIdeal : Cert.ReferenceBwdIdeal.Facts] : Prop :=
  ∀ (m : (ℓ : Loc Cert.ReferenceBwdIdeal.nD Cert.ReferenceBwdIdeal.τ Cert.ReferenceBwdIdeal.sig) → Buf (Elt Ideal) ℓ) (g : Dev Cert.ReferenceBwdIdeal.nD → PrngReg), Pre_ReferenceBwdIdeal m →
    θ_run (Cert.ReferenceBwdIdeal.defs (F := Ideal)) (onTc (τ := Cert.ReferenceBwdIdeal.τ) (Cert.ReferenceBwdIdeal.main (F := Ideal))) ⟨m, fun _ => 0, g⟩ (fun r => (∀ c : Dev Cert.ReferenceBwdIdeal.nD,
      r.2.mem ((c.tc : Thread Cert.ReferenceBwdIdeal.nD Cert.ReferenceBwdIdeal.τ).loc Cert.ReferenceBwdIdeal.main_arg0) = m ((c.tc : Thread Cert.ReferenceBwdIdeal.nD Cert.ReferenceBwdIdeal.τ).loc Cert.ReferenceBwdIdeal.main_arg0)
      ∧ r.2.mem ((c.tc : Thread Cert.ReferenceBwdIdeal.nD Cert.ReferenceBwdIdeal.τ).loc Cert.ReferenceBwdIdeal.main_arg1) = m ((c.tc : Thread Cert.ReferenceBwdIdeal.nD Cert.ReferenceBwdIdeal.τ).loc Cert.ReferenceBwdIdeal.main_arg1)
      ∧ r.2.mem ((c.tc : Thread Cert.ReferenceBwdIdeal.nD Cert.ReferenceBwdIdeal.τ).loc Cert.ReferenceBwdIdeal.main_arg2) = m ((c.tc : Thread Cert.ReferenceBwdIdeal.nD Cert.ReferenceBwdIdeal.τ).loc Cert.ReferenceBwdIdeal.main_arg2)
      ∧ r.2.mem ((c.tc : Thread Cert.ReferenceBwdIdeal.nD Cert.ReferenceBwdIdeal.τ).loc Cert.ReferenceBwdIdeal.main_arg3) = m ((c.tc : Thread Cert.ReferenceBwdIdeal.nD Cert.ReferenceBwdIdeal.τ).loc Cert.ReferenceBwdIdeal.main_arg3)
      ∧ r.2.mem ((c.tc : Thread Cert.ReferenceBwdIdeal.nD Cert.ReferenceBwdIdeal.τ).loc Cert.ReferenceBwdIdeal.main_arg4) = m ((c.tc : Thread Cert.ReferenceBwdIdeal.nD Cert.ReferenceBwdIdeal.τ).loc Cert.ReferenceBwdIdeal.main_arg4)
      ∧ r.2.mem ((c.tc : Thread Cert.ReferenceBwdIdeal.nD Cert.ReferenceBwdIdeal.τ).loc Cert.ReferenceBwdIdeal.main_arg5) = m ((c.tc : Thread Cert.ReferenceBwdIdeal.nD Cert.ReferenceBwdIdeal.τ).loc Cert.ReferenceBwdIdeal.main_arg5)
      ∧ r.2.mem ((c.tc : Thread Cert.ReferenceBwdIdeal.nD Cert.ReferenceBwdIdeal.τ).loc Cert.ReferenceBwdIdeal.main_arg6) = m ((c.tc : Thread Cert.ReferenceBwdIdeal.nD Cert.ReferenceBwdIdeal.τ).loc Cert.ReferenceBwdIdeal.main_arg6)
      ∧ r.2.mem ((c.tc : Thread Cert.ReferenceBwdIdeal.nD Cert.ReferenceBwdIdeal.τ).loc Cert.ReferenceBwdIdeal.main_arg7) = m ((c.tc : Thread Cert.ReferenceBwdIdeal.nD Cert.ReferenceBwdIdeal.τ).loc Cert.ReferenceBwdIdeal.main_arg7)
      ∧ r.2.mem ((c.tc : Thread Cert.ReferenceBwdIdeal.nD Cert.ReferenceBwdIdeal.τ).loc Cert.ReferenceBwdIdeal.main_arg8) = m ((c.tc : Thread Cert.ReferenceBwdIdeal.nD Cert.ReferenceBwdIdeal.τ).loc Cert.ReferenceBwdIdeal.main_arg8)
      ∧ r.2.mem ((c.tc : Thread Cert.ReferenceBwdIdeal.nD Cert.ReferenceBwdIdeal.τ).loc Cert.ReferenceBwdIdeal.main_arg9) = m ((c.tc : Thread Cert.ReferenceBwdIdeal.nD Cert.ReferenceBwdIdeal.τ).loc Cert.ReferenceBwdIdeal.main_arg9)
      ∧ r.2.mem ((c.tc : Thread Cert.ReferenceBwdIdeal.nD Cert.ReferenceBwdIdeal.τ).loc Cert.ReferenceBwdIdeal.main_arg10) = m ((c.tc : Thread Cert.ReferenceBwdIdeal.nD Cert.ReferenceBwdIdeal.τ).loc Cert.ReferenceBwdIdeal.main_arg10)
      ∧ r.2.mem ((c.tc : Thread Cert.ReferenceBwdIdeal.nD Cert.ReferenceBwdIdeal.τ).loc Cert.ReferenceBwdIdeal.main_arg11) = m ((c.tc : Thread Cert.ReferenceBwdIdeal.nD Cert.ReferenceBwdIdeal.τ).loc Cert.ReferenceBwdIdeal.main_arg11)
      ∧ r.2.mem ((c.tc : Thread Cert.ReferenceBwdIdeal.nD Cert.ReferenceBwdIdeal.τ).loc Cert.ReferenceBwdIdeal.main_arg12) = m ((c.tc : Thread Cert.ReferenceBwdIdeal.nD Cert.ReferenceBwdIdeal.τ).loc Cert.ReferenceBwdIdeal.main_arg12)
      ∧ r.2.mem ((c.tc : Thread Cert.ReferenceBwdIdeal.nD Cert.ReferenceBwdIdeal.τ).loc Cert.ReferenceBwdIdeal.main_arg13) = m ((c.tc : Thread Cert.ReferenceBwdIdeal.nD Cert.ReferenceBwdIdeal.τ).loc Cert.ReferenceBwdIdeal.main_arg13))
      ∧ r.2.sem = fun _ => 0)

def preserves_Down_DownIdeal : Prop :=
  True

def algebraic_DownIdeal_ReferenceDownIdeal [hDownIdeal : Cert.DownIdeal.Facts] [hReferenceDownIdeal : Cert.ReferenceDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_DownIdeal m →
    (∀ c : Dev Cert.DownIdeal.nD,
      m' ((c.tc : Thread Cert.ReferenceDownIdeal.nD Cert.ReferenceDownIdeal.τ).loc Cert.ReferenceDownIdeal.main_arg0) = m ((c.tc : Thread Cert.DownIdeal.nD Cert.DownIdeal.τ).loc Cert.DownIdeal.main_arg0)
      ∧ m' ((c.tc : Thread Cert.ReferenceDownIdeal.nD Cert.ReferenceDownIdeal.τ).loc Cert.ReferenceDownIdeal.main_arg1) = m ((c.tc : Thread Cert.DownIdeal.nD Cert.DownIdeal.τ).loc Cert.DownIdeal.main_arg1)
      ∧ m' ((c.tc : Thread Cert.ReferenceDownIdeal.nD Cert.ReferenceDownIdeal.τ).loc Cert.ReferenceDownIdeal.main_arg2) = m ((c.tc : Thread Cert.DownIdeal.nD Cert.DownIdeal.τ).loc Cert.DownIdeal.main_arg2)
      ∧ m' ((c.tc : Thread Cert.ReferenceDownIdeal.nD Cert.ReferenceDownIdeal.τ).loc Cert.ReferenceDownIdeal.main_arg3) = m ((c.tc : Thread Cert.DownIdeal.nD Cert.DownIdeal.τ).loc Cert.DownIdeal.main_arg3)
      ∧ m' ((c.tc : Thread Cert.ReferenceDownIdeal.nD Cert.ReferenceDownIdeal.τ).loc Cert.ReferenceDownIdeal.main_arg4) = m ((c.tc : Thread Cert.DownIdeal.nD Cert.DownIdeal.τ).loc Cert.DownIdeal.main_arg4)
      ∧ m' ((c.tc : Thread Cert.ReferenceDownIdeal.nD Cert.ReferenceDownIdeal.τ).loc Cert.ReferenceDownIdeal.main_arg5) = m ((c.tc : Thread Cert.DownIdeal.nD Cert.DownIdeal.τ).loc Cert.DownIdeal.main_arg5)
      ∧ m' ((c.tc : Thread Cert.ReferenceDownIdeal.nD Cert.ReferenceDownIdeal.τ).loc Cert.ReferenceDownIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6))

def preserves_Dnorm_DnormIdeal : Prop :=
  True

def algebraic_DnormIdeal_ReferenceDnormIdeal [hDnormIdeal : Cert.DnormIdeal.Facts] [hReferenceDnormIdeal : Cert.ReferenceDnormIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.ReferenceDnormIdeal.nD Cert.ReferenceDnormIdeal.τ Cert.ReferenceDnormIdeal.sig) → Buf (Elt Ideal) ℓ) (g' : Dev Cert.ReferenceDnormIdeal.nD → PrngReg), Pre_DnormIdeal m →
    (∀ c : Dev Cert.DnormIdeal.nD,
      m' ((c.tc : Thread Cert.ReferenceDnormIdeal.nD Cert.ReferenceDnormIdeal.τ).loc Cert.ReferenceDnormIdeal.main_arg0) = m ((c.tc : Thread Cert.DnormIdeal.nD Cert.DnormIdeal.τ).loc Cert.DnormIdeal.main_arg0)
      ∧ m' ((c.tc : Thread Cert.ReferenceDnormIdeal.nD Cert.ReferenceDnormIdeal.τ).loc Cert.ReferenceDnormIdeal.main_arg1) = m ((c.tc : Thread Cert.DnormIdeal.nD Cert.DnormIdeal.τ).loc Cert.DnormIdeal.main_arg1)
      ∧ m' ((c.tc : Thread Cert.ReferenceDnormIdeal.nD Cert.ReferenceDnormIdeal.τ).loc Cert.ReferenceDnormIdeal.main_arg2) = m ((c.tc : Thread Cert.DnormIdeal.nD Cert.DnormIdeal.τ).loc Cert.DnormIdeal.main_arg2)
      ∧ m' ((c.tc : Thread Cert.ReferenceDnormIdeal.nD Cert.ReferenceDnormIdeal.τ).loc Cert.ReferenceDnormIdeal.main_arg3) = m ((c.tc : Thread Cert.DnormIdeal.nD Cert.DnormIdeal.τ).loc Cert.DnormIdeal.main_arg3)
      ∧ m' ((c.tc : Thread Cert.ReferenceDnormIdeal.nD Cert.ReferenceDnormIdeal.τ).loc Cert.ReferenceDnormIdeal.main_arg4) = m ((c.tc : Thread Cert.DnormIdeal.nD Cert.DnormIdeal.τ).loc Cert.DnormIdeal.main_arg4)
      ∧ m' ((c.tc : Thread Cert.ReferenceDnormIdeal.nD Cert.ReferenceDnormIdeal.τ).loc Cert.ReferenceDnormIdeal.main_arg5) = m ((c.tc : Thread Cert.DnormIdeal.nD Cert.DnormIdeal.τ).loc Cert.DnormIdeal.main_arg5)
      ∧ m' ((c.tc : Thread Cert.ReferenceDnormIdeal.nD Cert.ReferenceDnormIdeal.τ).loc Cert.ReferenceDnormIdeal.main_arg6) = m ((c.tc : Thread Cert.DnormIdeal.nD Cert.DnormIdeal.τ).loc Cert.DnormIdeal.main_arg6)
      ∧ m' ((c.tc : Thread Cert.ReferenceDnormIdeal.nD Cert.ReferenceDnormIdeal.τ).loc Cert.ReferenceDnormIdeal.main_arg7) = m ((c.tc : Thread Cert.DnormIdeal.nD Cert.DnormIdeal.τ).loc Cert.DnormIdeal.main_arg7)
      ∧ m' ((c.tc : Thread Cert.ReferenceDnormIdeal.nD Cert.ReferenceDnormIdeal.τ).loc Cert.ReferenceDnormIdeal.main_arg8) = m ((c.tc : Thread Cert.DnormIdeal.nD Cert.DnormIdeal.τ).loc Cert.DnormIdeal.main_arg8)
      ∧ m' ((c.tc : Thread Cert.ReferenceDnormIdeal.nD Cert.ReferenceDnormIdeal.τ).loc Cert.ReferenceDnormIdeal.main_arg9) = m ((c.tc : Thread Cert.DnormIdeal.nD Cert.DnormIdeal.τ).loc Cert.DnormIdeal.main_arg9)) →
    ∃ (v0 : (c : Dev Cert.DnormIdeal.nD) → Buf (Elt Ideal) ((c.tc : Thread Cert.DnormIdeal.nD Cert.DnormIdeal.τ).loc Cert.DnormIdeal.main_v2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v2) = v0 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
          ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4)
          ∧ r.2.mem ((c.tc : Thread Cert.DnormIdeal.nD Cert.DnormIdeal.τ).loc Cert.DnormIdeal.main_arg5) = m ((c.tc : Thread Cert.DnormIdeal.nD Cert.DnormIdeal.τ).loc Cert.DnormIdeal.main_arg5)
          ∧ r.2.mem ((c.tc : Thread Cert.DnormIdeal.nD Cert.DnormIdeal.τ).loc Cert.DnormIdeal.main_arg6) = m ((c.tc : Thread Cert.DnormIdeal.nD Cert.DnormIdeal.τ).loc Cert.DnormIdeal.main_arg6)
          ∧ r.2.mem ((c.tc : Thread Cert.DnormIdeal.nD Cert.DnormIdeal.τ).loc Cert.DnormIdeal.main_arg7) = m ((c.tc : Thread Cert.DnormIdeal.nD Cert.DnormIdeal.τ).loc Cert.DnormIdeal.main_arg7)
          ∧ r.2.mem ((c.tc : Thread Cert.DnormIdeal.nD Cert.DnormIdeal.τ).loc Cert.DnormIdeal.main_arg8) = m ((c.tc : Thread Cert.DnormIdeal.nD Cert.DnormIdeal.τ).loc Cert.DnormIdeal.main_arg8)
          ∧ r.2.mem ((c.tc : Thread Cert.DnormIdeal.nD Cert.DnormIdeal.τ).loc Cert.DnormIdeal.main_arg9) = m ((c.tc : Thread Cert.DnormIdeal.nD Cert.DnormIdeal.τ).loc Cert.DnormIdeal.main_arg9))
      ∧ θ_run (Cert.ReferenceDnormIdeal.defs (F := Ideal)) (onTc (τ := Cert.ReferenceDnormIdeal.τ) (Cert.ReferenceDnormIdeal.main (F := Ideal))) ⟨m', fun _ => 0, g'⟩ (fun r => ∀ c : Dev Cert.ReferenceDnormIdeal.nD,
          r.2.mem ((c.tc : Thread Cert.ReferenceDnormIdeal.nD Cert.ReferenceDnormIdeal.τ).loc Cert.ReferenceDnormIdeal.main_v10) = v0 c
          ∧ r.2.mem ((c.tc : Thread Cert.ReferenceDnormIdeal.nD Cert.ReferenceDnormIdeal.τ).loc Cert.ReferenceDnormIdeal.main_arg0) = m' ((c.tc : Thread Cert.ReferenceDnormIdeal.nD Cert.ReferenceDnormIdeal.τ).loc Cert.ReferenceDnormIdeal.main_arg0)
          ∧ r.2.mem ((c.tc : Thread Cert.ReferenceDnormIdeal.nD Cert.ReferenceDnormIdeal.τ).loc Cert.ReferenceDnormIdeal.main_arg1) = m' ((c.tc : Thread Cert.ReferenceDnormIdeal.nD Cert.ReferenceDnormIdeal.τ).loc Cert.ReferenceDnormIdeal.main_arg1)
          ∧ r.2.mem ((c.tc : Thread Cert.ReferenceDnormIdeal.nD Cert.ReferenceDnormIdeal.τ).loc Cert.ReferenceDnormIdeal.main_arg2) = m' ((c.tc : Thread Cert.ReferenceDnormIdeal.nD Cert.ReferenceDnormIdeal.τ).loc Cert.ReferenceDnormIdeal.main_arg2)
          ∧ r.2.mem ((c.tc : Thread Cert.ReferenceDnormIdeal.nD Cert.ReferenceDnormIdeal.τ).loc Cert.ReferenceDnormIdeal.main_arg3) = m' ((c.tc : Thread Cert.ReferenceDnormIdeal.nD Cert.ReferenceDnormIdeal.τ).loc Cert.ReferenceDnormIdeal.main_arg3)
          ∧ r.2.mem ((c.tc : Thread Cert.ReferenceDnormIdeal.nD Cert.ReferenceDnormIdeal.τ).loc Cert.ReferenceDnormIdeal.main_arg4) = m' ((c.tc : Thread Cert.ReferenceDnormIdeal.nD Cert.ReferenceDnormIdeal.τ).loc Cert.ReferenceDnormIdeal.main_arg4)
          ∧ r.2.mem ((c.tc : Thread Cert.ReferenceDnormIdeal.nD Cert.ReferenceDnormIdeal.τ).loc Cert.ReferenceDnormIdeal.main_arg5) = m' ((c.tc : Thread Cert.ReferenceDnormIdeal.nD Cert.ReferenceDnormIdeal.τ).loc Cert.ReferenceDnormIdeal.main_arg5)
          ∧ r.2.mem ((c.tc : Thread Cert.ReferenceDnormIdeal.nD Cert.ReferenceDnormIdeal.τ).loc Cert.ReferenceDnormIdeal.main_arg6) = m' ((c.tc : Thread Cert.ReferenceDnormIdeal.nD Cert.ReferenceDnormIdeal.τ).loc Cert.ReferenceDnormIdeal.main_arg6)
          ∧ r.2.mem ((c.tc : Thread Cert.ReferenceDnormIdeal.nD Cert.ReferenceDnormIdeal.τ).loc Cert.ReferenceDnormIdeal.main_arg7) = m' ((c.tc : Thread Cert.ReferenceDnormIdeal.nD Cert.ReferenceDnormIdeal.τ).loc Cert.ReferenceDnormIdeal.main_arg7)
          ∧ r.2.mem ((c.tc : Thread Cert.ReferenceDnormIdeal.nD Cert.ReferenceDnormIdeal.τ).loc Cert.ReferenceDnormIdeal.main_arg8) = m' ((c.tc : Thread Cert.ReferenceDnormIdeal.nD Cert.ReferenceDnormIdeal.τ).loc Cert.ReferenceDnormIdeal.main_arg8)
          ∧ r.2.mem ((c.tc : Thread Cert.ReferenceDnormIdeal.nD Cert.ReferenceDnormIdeal.τ).loc Cert.ReferenceDnormIdeal.main_arg9) = m' ((c.tc : Thread Cert.ReferenceDnormIdeal.nD Cert.ReferenceDnormIdeal.τ).loc Cert.ReferenceDnormIdeal.main_arg9))

def preserves_Finish_FinishIdeal : Prop :=
  True

def algebraic_FinishIdeal_ReferenceFinishIdeal [hFinishIdeal : Cert.FinishIdeal.Facts] [hReferenceFinishIdeal : Cert.ReferenceFinishIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.ReferenceFinishIdeal.nD Cert.ReferenceFinishIdeal.τ Cert.ReferenceFinishIdeal.sig) → Buf (Elt Ideal) ℓ) (g' : Dev Cert.ReferenceFinishIdeal.nD → PrngReg), Pre_FinishIdeal m →
    (∀ c : Dev Cert.FinishIdeal.nD,
      m' ((c.tc : Thread Cert.ReferenceFinishIdeal.nD Cert.ReferenceFinishIdeal.τ).loc Cert.ReferenceFinishIdeal.main_arg0) = m ((c.tc : Thread Cert.FinishIdeal.nD Cert.FinishIdeal.τ).loc Cert.FinishIdeal.main_arg0)
      ∧ m' ((c.tc : Thread Cert.ReferenceFinishIdeal.nD Cert.ReferenceFinishIdeal.τ).loc Cert.ReferenceFinishIdeal.main_arg1) = m ((c.tc : Thread Cert.FinishIdeal.nD Cert.FinishIdeal.τ).loc Cert.FinishIdeal.main_arg1)
      ∧ m' ((c.tc : Thread Cert.ReferenceFinishIdeal.nD Cert.ReferenceFinishIdeal.τ).loc Cert.ReferenceFinishIdeal.main_arg2) = m ((c.tc : Thread Cert.FinishIdeal.nD Cert.FinishIdeal.τ).loc Cert.FinishIdeal.main_arg2)
      ∧ m' ((c.tc : Thread Cert.ReferenceFinishIdeal.nD Cert.ReferenceFinishIdeal.τ).loc Cert.ReferenceFinishIdeal.main_arg3) = m ((c.tc : Thread Cert.FinishIdeal.nD Cert.FinishIdeal.τ).loc Cert.FinishIdeal.main_arg3)
      ∧ m' ((c.tc : Thread Cert.ReferenceFinishIdeal.nD Cert.ReferenceFinishIdeal.τ).loc Cert.ReferenceFinishIdeal.main_arg4) = m ((c.tc : Thread Cert.FinishIdeal.nD Cert.FinishIdeal.τ).loc Cert.FinishIdeal.main_arg4)
      ∧ m' ((c.tc : Thread Cert.ReferenceFinishIdeal.nD Cert.ReferenceFinishIdeal.τ).loc Cert.ReferenceFinishIdeal.main_arg5) = m ((c.tc : Thread Cert.FinishIdeal.nD Cert.FinishIdeal.τ).loc Cert.FinishIdeal.main_arg5)
      ∧ m' ((c.tc : Thread Cert.ReferenceFinishIdeal.nD Cert.ReferenceFinishIdeal.τ).loc Cert.ReferenceFinishIdeal.main_arg6) = m ((c.tc : Thread Cert.FinishIdeal.nD Cert.FinishIdeal.τ).loc Cert.FinishIdeal.main_arg6)
      ∧ m' ((c.tc : Thread Cert.ReferenceFinishIdeal.nD Cert.ReferenceFinishIdeal.τ).loc Cert.ReferenceFinishIdeal.main_arg7) = m ((c.tc : Thread Cert.FinishIdeal.nD Cert.FinishIdeal.τ).loc Cert.FinishIdeal.main_arg7)
      ∧ m' ((c.tc : Thread Cert.ReferenceFinishIdeal.nD Cert.ReferenceFinishIdeal.τ).loc Cert.ReferenceFinishIdeal.main_arg8) = m ((c.tc : Thread Cert.FinishIdeal.nD Cert.FinishIdeal.τ).loc Cert.FinishIdeal.main_arg8)
      ∧ m' ((c.tc : Thread Cert.ReferenceFinishIdeal.nD Cert.ReferenceFinishIdeal.τ).loc Cert.ReferenceFinishIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v2_0)) (v1 : (c : Dev Cert.FinishIdeal.nD) → Buf (Elt Ideal) ((c.tc : Thread Cert.FinishIdeal.nD Cert.FinishIdeal.τ).loc Cert.FinishIdeal.main_v2_1)) (v2 : (c : Dev Cert.FinishIdeal.nD) → Buf (Elt Ideal) ((c.tc : Thread Cert.FinishIdeal.nD Cert.FinishIdeal.τ).loc Cert.FinishIdeal.main_v2_2)) (v3 : (c : Dev Cert.FinishIdeal.nD) → Buf (Elt Ideal) ((c.tc : Thread Cert.FinishIdeal.nD Cert.FinishIdeal.τ).loc Cert.FinishIdeal.main_v2_3)) (v4 : (c : Dev Cert.FinishIdeal.nD) → Buf (Elt Ideal) ((c.tc : Thread Cert.FinishIdeal.nD Cert.FinishIdeal.τ).loc Cert.FinishIdeal.main_v2_4)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v2_0) = v0 c
          ∧ r.2.mem ((c.tc : Thread Cert.FinishIdeal.nD Cert.FinishIdeal.τ).loc Cert.FinishIdeal.main_v2_1) = v1 c
          ∧ r.2.mem ((c.tc : Thread Cert.FinishIdeal.nD Cert.FinishIdeal.τ).loc Cert.FinishIdeal.main_v2_2) = v2 c
          ∧ r.2.mem ((c.tc : Thread Cert.FinishIdeal.nD Cert.FinishIdeal.τ).loc Cert.FinishIdeal.main_v2_3) = v3 c
          ∧ r.2.mem ((c.tc : Thread Cert.FinishIdeal.nD Cert.FinishIdeal.τ).loc Cert.FinishIdeal.main_v2_4) = v4 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.ReferenceFinishIdeal.defs (F := Ideal)) (onTc (τ := Cert.ReferenceFinishIdeal.τ) (Cert.ReferenceFinishIdeal.main (F := Ideal))) ⟨m', fun _ => 0, g'⟩ (fun r => ∀ c : Dev Cert.ReferenceFinishIdeal.nD,
          r.2.mem ((c.tc : Thread Cert.ReferenceFinishIdeal.nD Cert.ReferenceFinishIdeal.τ).loc Cert.ReferenceFinishIdeal.main_v21) = v0 c
          ∧ r.2.mem ((c.tc : Thread Cert.ReferenceFinishIdeal.nD Cert.ReferenceFinishIdeal.τ).loc Cert.ReferenceFinishIdeal.main_v27) = v1 c
          ∧ r.2.mem ((c.tc : Thread Cert.ReferenceFinishIdeal.nD Cert.ReferenceFinishIdeal.τ).loc Cert.ReferenceFinishIdeal.main_v22) = v2 c
          ∧ r.2.mem ((c.tc : Thread Cert.ReferenceFinishIdeal.nD Cert.ReferenceFinishIdeal.τ).loc Cert.ReferenceFinishIdeal.main_v23) = v3 c
          ∧ r.2.mem ((c.tc : Thread Cert.ReferenceFinishIdeal.nD Cert.ReferenceFinishIdeal.τ).loc Cert.ReferenceFinishIdeal.main_v26) = v4 c
          ∧ r.2.mem ((c.tc : Thread Cert.ReferenceFinishIdeal.nD Cert.ReferenceFinishIdeal.τ).loc Cert.ReferenceFinishIdeal.main_arg0) = m' ((c.tc : Thread Cert.ReferenceFinishIdeal.nD Cert.ReferenceFinishIdeal.τ).loc Cert.ReferenceFinishIdeal.main_arg0)
          ∧ r.2.mem ((c.tc : Thread Cert.ReferenceFinishIdeal.nD Cert.ReferenceFinishIdeal.τ).loc Cert.ReferenceFinishIdeal.main_arg1) = m' ((c.tc : Thread Cert.ReferenceFinishIdeal.nD Cert.ReferenceFinishIdeal.τ).loc Cert.ReferenceFinishIdeal.main_arg1)
          ∧ r.2.mem ((c.tc : Thread Cert.ReferenceFinishIdeal.nD Cert.ReferenceFinishIdeal.τ).loc Cert.ReferenceFinishIdeal.main_arg2) = m' ((c.tc : Thread Cert.ReferenceFinishIdeal.nD Cert.ReferenceFinishIdeal.τ).loc Cert.ReferenceFinishIdeal.main_arg2)
          ∧ r.2.mem ((c.tc : Thread Cert.ReferenceFinishIdeal.nD Cert.ReferenceFinishIdeal.τ).loc Cert.ReferenceFinishIdeal.main_arg3) = m' ((c.tc : Thread Cert.ReferenceFinishIdeal.nD Cert.ReferenceFinishIdeal.τ).loc Cert.ReferenceFinishIdeal.main_arg3)
          ∧ r.2.mem ((c.tc : Thread Cert.ReferenceFinishIdeal.nD Cert.ReferenceFinishIdeal.τ).loc Cert.ReferenceFinishIdeal.main_arg4) = m' ((c.tc : Thread Cert.ReferenceFinishIdeal.nD Cert.ReferenceFinishIdeal.τ).loc Cert.ReferenceFinishIdeal.main_arg4)
          ∧ r.2.mem ((c.tc : Thread Cert.ReferenceFinishIdeal.nD Cert.ReferenceFinishIdeal.τ).loc Cert.ReferenceFinishIdeal.main_arg5) = m' ((c.tc : Thread Cert.ReferenceFinishIdeal.nD Cert.ReferenceFinishIdeal.τ).loc Cert.ReferenceFinishIdeal.main_arg5)
          ∧ r.2.mem ((c.tc : Thread Cert.ReferenceFinishIdeal.nD Cert.ReferenceFinishIdeal.τ).loc Cert.ReferenceFinishIdeal.main_arg6) = m' ((c.tc : Thread Cert.ReferenceFinishIdeal.nD Cert.ReferenceFinishIdeal.τ).loc Cert.ReferenceFinishIdeal.main_arg6)
          ∧ r.2.mem ((c.tc : Thread Cert.ReferenceFinishIdeal.nD Cert.ReferenceFinishIdeal.τ).loc Cert.ReferenceFinishIdeal.main_arg7) = m' ((c.tc : Thread Cert.ReferenceFinishIdeal.nD Cert.ReferenceFinishIdeal.τ).loc Cert.ReferenceFinishIdeal.main_arg7)
          ∧ r.2.mem ((c.tc : Thread Cert.ReferenceFinishIdeal.nD Cert.ReferenceFinishIdeal.τ).loc Cert.ReferenceFinishIdeal.main_arg8) = m' ((c.tc : Thread Cert.ReferenceFinishIdeal.nD Cert.ReferenceFinishIdeal.τ).loc Cert.ReferenceFinishIdeal.main_arg8)
          ∧ r.2.mem ((c.tc : Thread Cert.ReferenceFinishIdeal.nD Cert.ReferenceFinishIdeal.τ).loc Cert.ReferenceFinishIdeal.main_arg9) = m' ((c.tc : Thread Cert.ReferenceFinishIdeal.nD Cert.ReferenceFinishIdeal.τ).loc Cert.ReferenceFinishIdeal.main_arg9))

def preserves_Fwd_FwdIdeal : Prop :=
  True

def algebraic_FwdIdeal_ReferenceFwdIdeal [hFwdIdeal : Cert.FwdIdeal.Facts] [hReferenceFwdIdeal : Cert.ReferenceFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_FwdIdeal m →
    (∀ c : Dev Cert.FwdIdeal.nD,
      m' ((c.tc : Thread Cert.ReferenceFwdIdeal.nD Cert.ReferenceFwdIdeal.τ).loc Cert.ReferenceFwdIdeal.main_arg0) = m ((c.tc : Thread Cert.FwdIdeal.nD Cert.FwdIdeal.τ).loc Cert.FwdIdeal.main_arg0)
      ∧ m' ((c.tc : Thread Cert.ReferenceFwdIdeal.nD Cert.ReferenceFwdIdeal.τ).loc Cert.ReferenceFwdIdeal.main_arg1) = m ((c.tc : Thread Cert.FwdIdeal.nD Cert.FwdIdeal.τ).loc Cert.FwdIdeal.main_arg1)
      ∧ m' ((c.tc : Thread Cert.ReferenceFwdIdeal.nD Cert.ReferenceFwdIdeal.τ).loc Cert.ReferenceFwdIdeal.main_arg2) = m ((c.tc : Thread Cert.FwdIdeal.nD Cert.FwdIdeal.τ).loc Cert.FwdIdeal.main_arg2)
      ∧ m' ((c.tc : Thread Cert.ReferenceFwdIdeal.nD Cert.ReferenceFwdIdeal.τ).loc Cert.ReferenceFwdIdeal.main_arg3) = m ((c.tc : Thread Cert.FwdIdeal.nD Cert.FwdIdeal.τ).loc Cert.FwdIdeal.main_arg3)
      ∧ m' ((c.tc : Thread Cert.ReferenceFwdIdeal.nD Cert.ReferenceFwdIdeal.τ).loc Cert.ReferenceFwdIdeal.main_arg4) = m ((c.tc : Thread Cert.FwdIdeal.nD Cert.FwdIdeal.τ).loc Cert.FwdIdeal.main_arg4)
      ∧ m' ((c.tc : Thread Cert.ReferenceFwdIdeal.nD Cert.ReferenceFwdIdeal.τ).loc Cert.ReferenceFwdIdeal.main_arg5) = m ((c.tc : Thread Cert.FwdIdeal.nD Cert.FwdIdeal.τ).loc Cert.FwdIdeal.main_arg5)
      ∧ m' ((c.tc : Thread Cert.ReferenceFwdIdeal.nD Cert.ReferenceFwdIdeal.τ).loc Cert.ReferenceFwdIdeal.main_arg6) = m ((c.tc : Thread Cert.FwdIdeal.nD Cert.FwdIdeal.τ).loc Cert.FwdIdeal.main_arg6)
      ∧ m' ((c.tc : Thread Cert.ReferenceFwdIdeal.nD Cert.ReferenceFwdIdeal.τ).loc Cert.ReferenceFwdIdeal.main_arg7) = m ((c.tc : Thread Cert.FwdIdeal.nD Cert.FwdIdeal.τ).loc Cert.FwdIdeal.main_arg7)
      ∧ m' ((c.tc : Thread Cert.ReferenceFwdIdeal.nD Cert.ReferenceFwdIdeal.τ).loc Cert.ReferenceFwdIdeal.main_arg8) = m ((c.tc : Thread Cert.FwdIdeal.nD Cert.FwdIdeal.τ).loc Cert.FwdIdeal.main_arg8)
      ∧ m' ((c.tc : Thread Cert.ReferenceFwdIdeal.nD Cert.ReferenceFwdIdeal.τ).loc Cert.ReferenceFwdIdeal.main_arg9) = m ((c.tc : Thread Cert.FwdIdeal.nD Cert.FwdIdeal.τ).loc Cert.FwdIdeal.main_arg9)
      ∧ m' ((c.tc : Thread Cert.ReferenceFwdIdeal.nD Cert.ReferenceFwdIdeal.τ).loc Cert.ReferenceFwdIdeal.main_arg10) = m ((c.tc : Thread Cert.FwdIdeal.nD Cert.FwdIdeal.τ).loc Cert.FwdIdeal.main_arg10)
      ∧ m' ((c.tc : Thread Cert.ReferenceFwdIdeal.nD Cert.ReferenceFwdIdeal.τ).loc Cert.ReferenceFwdIdeal.main_arg11) = m ((c.tc : Thread Cert.FwdIdeal.nD Cert.FwdIdeal.τ).loc Cert.FwdIdeal.main_arg11)
      ∧ m' ((c.tc : Thread Cert.ReferenceFwdIdeal.nD Cert.ReferenceFwdIdeal.τ).loc Cert.ReferenceFwdIdeal.main_arg12) = m ((c.tc : Thread Cert.FwdIdeal.nD Cert.FwdIdeal.τ).loc Cert.FwdIdeal.main_arg12)
      ∧ m' ((c.tc : Thread Cert.ReferenceFwdIdeal.nD Cert.ReferenceFwdIdeal.τ).loc Cert.ReferenceFwdIdeal.main_arg13) = m ((c.tc : Thread Cert.FwdIdeal.nD Cert.FwdIdeal.τ).loc Cert.FwdIdeal.main_arg13)
      ∧ m' ((c.tc : Thread Cert.ReferenceFwdIdeal.nD Cert.ReferenceFwdIdeal.τ).loc Cert.ReferenceFwdIdeal.main_arg14) = m ((c.tc : Thread Cert.FwdIdeal.nD Cert.FwdIdeal.τ).loc Cert.FwdIdeal.main_arg14)) →
    ∃ (v0 : (c : Dev Cert.FwdIdeal.nD) → Buf (Elt Ideal) ((c.tc : Thread Cert.FwdIdeal.nD Cert.FwdIdeal.τ).loc Cert.FwdIdeal.main_v4_3)) (v1 : (c : Dev Cert.FwdIdeal.nD) → Buf (Elt Ideal) ((c.tc : Thread Cert.FwdIdeal.nD Cert.FwdIdeal.τ).loc Cert.FwdIdeal.main_v4_4)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v4_3) = v0 c
          ∧ r.2.mem ((c.tc : Thread Cert.FwdIdeal.nD Cert.FwdIdeal.τ).loc Cert.FwdIdeal.main_v4_4) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
          ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
          ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
          ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13)
          ∧ r.2.mem ((c.tc : Thread Cert.FwdIdeal.nD Cert.FwdIdeal.τ).loc Cert.FwdIdeal.main_arg14) = m ((c.tc : Thread Cert.FwdIdeal.nD Cert.FwdIdeal.τ).loc Cert.FwdIdeal.main_arg14))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v10_0) = v0 c
          ∧ r.2.mem ((c.tc : Thread Cert.ReferenceFwdIdeal.nD Cert.ReferenceFwdIdeal.τ).loc Cert.ReferenceFwdIdeal.main_v10_1) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)
          ∧ r.2.mem ((c.tc : Thread Cert.ReferenceFwdIdeal.nD Cert.ReferenceFwdIdeal.τ).loc Cert.ReferenceFwdIdeal.main_arg8) = m' ((c.tc : Thread Cert.ReferenceFwdIdeal.nD Cert.ReferenceFwdIdeal.τ).loc Cert.ReferenceFwdIdeal.main_arg8)
          ∧ r.2.mem ((c.tc : Thread Cert.ReferenceFwdIdeal.nD Cert.ReferenceFwdIdeal.τ).loc Cert.ReferenceFwdIdeal.main_arg9) = m' ((c.tc : Thread Cert.ReferenceFwdIdeal.nD Cert.ReferenceFwdIdeal.τ).loc Cert.ReferenceFwdIdeal.main_arg9)
          ∧ r.2.mem ((c.tc : Thread Cert.ReferenceFwdIdeal.nD Cert.ReferenceFwdIdeal.τ).loc Cert.ReferenceFwdIdeal.main_arg10) = m' ((c.tc : Thread Cert.ReferenceFwdIdeal.nD Cert.ReferenceFwdIdeal.τ).loc Cert.ReferenceFwdIdeal.main_arg10)
          ∧ r.2.mem ((c.tc : Thread Cert.ReferenceFwdIdeal.nD Cert.ReferenceFwdIdeal.τ).loc Cert.ReferenceFwdIdeal.main_arg11) = m' ((c.tc : Thread Cert.ReferenceFwdIdeal.nD Cert.ReferenceFwdIdeal.τ).loc Cert.ReferenceFwdIdeal.main_arg11)
          ∧ r.2.mem ((c.tc : Thread Cert.ReferenceFwdIdeal.nD Cert.ReferenceFwdIdeal.τ).loc Cert.ReferenceFwdIdeal.main_arg12) = m' ((c.tc : Thread Cert.ReferenceFwdIdeal.nD Cert.ReferenceFwdIdeal.τ).loc Cert.ReferenceFwdIdeal.main_arg12)
          ∧ r.2.mem ((c.tc : Thread Cert.ReferenceFwdIdeal.nD Cert.ReferenceFwdIdeal.τ).loc Cert.ReferenceFwdIdeal.main_arg13) = m' ((c.tc : Thread Cert.ReferenceFwdIdeal.nD Cert.ReferenceFwdIdeal.τ).loc Cert.ReferenceFwdIdeal.main_arg13)
          ∧ r.2.mem ((c.tc : Thread Cert.ReferenceFwdIdeal.nD Cert.ReferenceFwdIdeal.τ).loc Cert.ReferenceFwdIdeal.main_arg14) = m' ((c.tc : Thread Cert.ReferenceFwdIdeal.nD Cert.ReferenceFwdIdeal.τ).loc Cert.ReferenceFwdIdeal.main_arg14))

def preserves_Bwd_BwdIdeal : Prop :=
  True

def algebraic_BwdIdeal_ReferenceBwdIdeal [hBwdIdeal : Cert.BwdIdeal.Facts] [hReferenceBwdIdeal : Cert.ReferenceBwdIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.ReferenceBwdIdeal.nD Cert.ReferenceBwdIdeal.τ Cert.ReferenceBwdIdeal.sig) → Buf (Elt Ideal) ℓ) (g' : Dev Cert.ReferenceBwdIdeal.nD → PrngReg), Pre_BwdIdeal m →
    (∀ c : Dev Cert.BwdIdeal.nD,
      m' ((c.tc : Thread Cert.ReferenceBwdIdeal.nD Cert.ReferenceBwdIdeal.τ).loc Cert.ReferenceBwdIdeal.main_arg0) = m ((c.tc : Thread Cert.BwdIdeal.nD Cert.BwdIdeal.τ).loc Cert.BwdIdeal.main_arg0)
      ∧ m' ((c.tc : Thread Cert.ReferenceBwdIdeal.nD Cert.ReferenceBwdIdeal.τ).loc Cert.ReferenceBwdIdeal.main_arg1) = m ((c.tc : Thread Cert.BwdIdeal.nD Cert.BwdIdeal.τ).loc Cert.BwdIdeal.main_arg1)
      ∧ m' ((c.tc : Thread Cert.ReferenceBwdIdeal.nD Cert.ReferenceBwdIdeal.τ).loc Cert.ReferenceBwdIdeal.main_arg2) = m ((c.tc : Thread Cert.BwdIdeal.nD Cert.BwdIdeal.τ).loc Cert.BwdIdeal.main_arg2)
      ∧ m' ((c.tc : Thread Cert.ReferenceBwdIdeal.nD Cert.ReferenceBwdIdeal.τ).loc Cert.ReferenceBwdIdeal.main_arg3) = m ((c.tc : Thread Cert.BwdIdeal.nD Cert.BwdIdeal.τ).loc Cert.BwdIdeal.main_arg3)
      ∧ m' ((c.tc : Thread Cert.ReferenceBwdIdeal.nD Cert.ReferenceBwdIdeal.τ).loc Cert.ReferenceBwdIdeal.main_arg4) = m ((c.tc : Thread Cert.BwdIdeal.nD Cert.BwdIdeal.τ).loc Cert.BwdIdeal.main_arg4)
      ∧ m' ((c.tc : Thread Cert.ReferenceBwdIdeal.nD Cert.ReferenceBwdIdeal.τ).loc Cert.ReferenceBwdIdeal.main_arg5) = m ((c.tc : Thread Cert.BwdIdeal.nD Cert.BwdIdeal.τ).loc Cert.BwdIdeal.main_arg5)
      ∧ m' ((c.tc : Thread Cert.ReferenceBwdIdeal.nD Cert.ReferenceBwdIdeal.τ).loc Cert.ReferenceBwdIdeal.main_arg6) = m ((c.tc : Thread Cert.BwdIdeal.nD Cert.BwdIdeal.τ).loc Cert.BwdIdeal.main_arg6)
      ∧ m' ((c.tc : Thread Cert.ReferenceBwdIdeal.nD Cert.ReferenceBwdIdeal.τ).loc Cert.ReferenceBwdIdeal.main_arg7) = m ((c.tc : Thread Cert.BwdIdeal.nD Cert.BwdIdeal.τ).loc Cert.BwdIdeal.main_arg7)
      ∧ m' ((c.tc : Thread Cert.ReferenceBwdIdeal.nD Cert.ReferenceBwdIdeal.τ).loc Cert.ReferenceBwdIdeal.main_arg8) = m ((c.tc : Thread Cert.BwdIdeal.nD Cert.BwdIdeal.τ).loc Cert.BwdIdeal.main_arg8)
      ∧ m' ((c.tc : Thread Cert.ReferenceBwdIdeal.nD Cert.ReferenceBwdIdeal.τ).loc Cert.ReferenceBwdIdeal.main_arg9) = m ((c.tc : Thread Cert.BwdIdeal.nD Cert.BwdIdeal.τ).loc Cert.BwdIdeal.main_arg9)
      ∧ m' ((c.tc : Thread Cert.ReferenceBwdIdeal.nD Cert.ReferenceBwdIdeal.τ).loc Cert.ReferenceBwdIdeal.main_arg10) = m ((c.tc : Thread Cert.BwdIdeal.nD Cert.BwdIdeal.τ).loc Cert.BwdIdeal.main_arg10)
      ∧ m' ((c.tc : Thread Cert.ReferenceBwdIdeal.nD Cert.ReferenceBwdIdeal.τ).loc Cert.ReferenceBwdIdeal.main_arg11) = m ((c.tc : Thread Cert.BwdIdeal.nD Cert.BwdIdeal.τ).loc Cert.BwdIdeal.main_arg11)
      ∧ m' ((c.tc : Thread Cert.ReferenceBwdIdeal.nD Cert.ReferenceBwdIdeal.τ).loc Cert.ReferenceBwdIdeal.main_arg12) = m ((c.tc : Thread Cert.BwdIdeal.nD Cert.BwdIdeal.τ).loc Cert.BwdIdeal.main_arg12)
      ∧ m' ((c.tc : Thread Cert.ReferenceBwdIdeal.nD Cert.ReferenceBwdIdeal.τ).loc Cert.ReferenceBwdIdeal.main_arg13) = m ((c.tc : Thread Cert.BwdIdeal.nD Cert.BwdIdeal.τ).loc Cert.BwdIdeal.main_arg13)) →
    ∃ (v0 : (c : Dev Cert.BwdIdeal.nD) → Buf (Elt Ideal) ((c.tc : Thread Cert.BwdIdeal.nD Cert.BwdIdeal.τ).loc Cert.BwdIdeal.main_v3_6)) (v1 : (c : Dev Cert.BwdIdeal.nD) → Buf (Elt Ideal) ((c.tc : Thread Cert.BwdIdeal.nD Cert.BwdIdeal.τ).loc Cert.BwdIdeal.main_v3_7)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v3_6) = v0 c
          ∧ r.2.mem ((c.tc : Thread Cert.BwdIdeal.nD Cert.BwdIdeal.τ).loc Cert.BwdIdeal.main_v3_7) = v1 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
          ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10)
          ∧ r.2.mem ((c.tc : Thread Cert.BwdIdeal.nD Cert.BwdIdeal.τ).loc Cert.BwdIdeal.main_arg11) = m ((c.tc : Thread Cert.BwdIdeal.nD Cert.BwdIdeal.τ).loc Cert.BwdIdeal.main_arg11)
          ∧ r.2.mem ((c.tc : Thread Cert.BwdIdeal.nD Cert.BwdIdeal.τ).loc Cert.BwdIdeal.main_arg12) = m ((c.tc : Thread Cert.BwdIdeal.nD Cert.BwdIdeal.τ).loc Cert.BwdIdeal.main_arg12)
          ∧ r.2.mem ((c.tc : Thread Cert.BwdIdeal.nD Cert.BwdIdeal.τ).loc Cert.BwdIdeal.main_arg13) = m ((c.tc : Thread Cert.BwdIdeal.nD Cert.BwdIdeal.τ).loc Cert.BwdIdeal.main_arg13))
      ∧ θ_run (Cert.ReferenceBwdIdeal.defs (F := Ideal)) (onTc (τ := Cert.ReferenceBwdIdeal.τ) (Cert.ReferenceBwdIdeal.main (F := Ideal))) ⟨m', fun _ => 0, g'⟩ (fun r => ∀ c : Dev Cert.ReferenceBwdIdeal.nD,
          r.2.mem ((c.tc : Thread Cert.ReferenceBwdIdeal.nD Cert.ReferenceBwdIdeal.τ).loc Cert.ReferenceBwdIdeal.main_v8_0) = v0 c
          ∧ r.2.mem ((c.tc : Thread Cert.ReferenceBwdIdeal.nD Cert.ReferenceBwdIdeal.τ).loc Cert.ReferenceBwdIdeal.main_v8_1) = v1 c
          ∧ r.2.mem ((c.tc : Thread Cert.ReferenceBwdIdeal.nD Cert.ReferenceBwdIdeal.τ).loc Cert.ReferenceBwdIdeal.main_arg0) = m' ((c.tc : Thread Cert.ReferenceBwdIdeal.nD Cert.ReferenceBwdIdeal.τ).loc Cert.ReferenceBwdIdeal.main_arg0)
          ∧ r.2.mem ((c.tc : Thread Cert.ReferenceBwdIdeal.nD Cert.ReferenceBwdIdeal.τ).loc Cert.ReferenceBwdIdeal.main_arg1) = m' ((c.tc : Thread Cert.ReferenceBwdIdeal.nD Cert.ReferenceBwdIdeal.τ).loc Cert.ReferenceBwdIdeal.main_arg1)
          ∧ r.2.mem ((c.tc : Thread Cert.ReferenceBwdIdeal.nD Cert.ReferenceBwdIdeal.τ).loc Cert.ReferenceBwdIdeal.main_arg2) = m' ((c.tc : Thread Cert.ReferenceBwdIdeal.nD Cert.ReferenceBwdIdeal.τ).loc Cert.ReferenceBwdIdeal.main_arg2)
          ∧ r.2.mem ((c.tc : Thread Cert.ReferenceBwdIdeal.nD Cert.ReferenceBwdIdeal.τ).loc Cert.ReferenceBwdIdeal.main_arg3) = m' ((c.tc : Thread Cert.ReferenceBwdIdeal.nD Cert.ReferenceBwdIdeal.τ).loc Cert.ReferenceBwdIdeal.main_arg3)
          ∧ r.2.mem ((c.tc : Thread Cert.ReferenceBwdIdeal.nD Cert.ReferenceBwdIdeal.τ).loc Cert.ReferenceBwdIdeal.main_arg4) = m' ((c.tc : Thread Cert.ReferenceBwdIdeal.nD Cert.ReferenceBwdIdeal.τ).loc Cert.ReferenceBwdIdeal.main_arg4)
          ∧ r.2.mem ((c.tc : Thread Cert.ReferenceBwdIdeal.nD Cert.ReferenceBwdIdeal.τ).loc Cert.ReferenceBwdIdeal.main_arg5) = m' ((c.tc : Thread Cert.ReferenceBwdIdeal.nD Cert.ReferenceBwdIdeal.τ).loc Cert.ReferenceBwdIdeal.main_arg5)
          ∧ r.2.mem ((c.tc : Thread Cert.ReferenceBwdIdeal.nD Cert.ReferenceBwdIdeal.τ).loc Cert.ReferenceBwdIdeal.main_arg6) = m' ((c.tc : Thread Cert.ReferenceBwdIdeal.nD Cert.ReferenceBwdIdeal.τ).loc Cert.ReferenceBwdIdeal.main_arg6)
          ∧ r.2.mem ((c.tc : Thread Cert.ReferenceBwdIdeal.nD Cert.ReferenceBwdIdeal.τ).loc Cert.ReferenceBwdIdeal.main_arg7) = m' ((c.tc : Thread Cert.ReferenceBwdIdeal.nD Cert.ReferenceBwdIdeal.τ).loc Cert.ReferenceBwdIdeal.main_arg7)
          ∧ r.2.mem ((c.tc : Thread Cert.ReferenceBwdIdeal.nD Cert.ReferenceBwdIdeal.τ).loc Cert.ReferenceBwdIdeal.main_arg8) = m' ((c.tc : Thread Cert.ReferenceBwdIdeal.nD Cert.ReferenceBwdIdeal.τ).loc Cert.ReferenceBwdIdeal.main_arg8)
          ∧ r.2.mem ((c.tc : Thread Cert.ReferenceBwdIdeal.nD Cert.ReferenceBwdIdeal.τ).loc Cert.ReferenceBwdIdeal.main_arg9) = m' ((c.tc : Thread Cert.ReferenceBwdIdeal.nD Cert.ReferenceBwdIdeal.τ).loc Cert.ReferenceBwdIdeal.main_arg9)
          ∧ r.2.mem ((c.tc : Thread Cert.ReferenceBwdIdeal.nD Cert.ReferenceBwdIdeal.τ).loc Cert.ReferenceBwdIdeal.main_arg10) = m' ((c.tc : Thread Cert.ReferenceBwdIdeal.nD Cert.ReferenceBwdIdeal.τ).loc Cert.ReferenceBwdIdeal.main_arg10)
          ∧ r.2.mem ((c.tc : Thread Cert.ReferenceBwdIdeal.nD Cert.ReferenceBwdIdeal.τ).loc Cert.ReferenceBwdIdeal.main_arg11) = m' ((c.tc : Thread Cert.ReferenceBwdIdeal.nD Cert.ReferenceBwdIdeal.τ).loc Cert.ReferenceBwdIdeal.main_arg11)
          ∧ r.2.mem ((c.tc : Thread Cert.ReferenceBwdIdeal.nD Cert.ReferenceBwdIdeal.τ).loc Cert.ReferenceBwdIdeal.main_arg12) = m' ((c.tc : Thread Cert.ReferenceBwdIdeal.nD Cert.ReferenceBwdIdeal.τ).loc Cert.ReferenceBwdIdeal.main_arg12)
          ∧ r.2.mem ((c.tc : Thread Cert.ReferenceBwdIdeal.nD Cert.ReferenceBwdIdeal.τ).loc Cert.ReferenceBwdIdeal.main_arg13) = m' ((c.tc : Thread Cert.ReferenceBwdIdeal.nD Cert.ReferenceBwdIdeal.τ).loc Cert.ReferenceBwdIdeal.main_arg13))

def Claim : Prop :=
  ∃ (hDown : Cert.Down.Facts) (hDownIdeal : Cert.DownIdeal.Facts) (hReferenceDownIdeal : Cert.ReferenceDownIdeal.Facts) (hDnorm : Cert.Dnorm.Facts) (hDnormIdeal : Cert.DnormIdeal.Facts) (hReferenceDnormIdeal : Cert.ReferenceDnormIdeal.Facts) (hFinish : Cert.Finish.Facts) (hFinishIdeal : Cert.FinishIdeal.Facts) (hReferenceFinishIdeal : Cert.ReferenceFinishIdeal.Facts) (hFwd : Cert.Fwd.Facts) (hFwdIdeal : Cert.FwdIdeal.Facts) (hReferenceFwdIdeal : Cert.ReferenceFwdIdeal.Facts) (hBwd : Cert.Bwd.Facts) (hBwdIdeal : Cert.BwdIdeal.Facts) (hReferenceBwdIdeal : Cert.ReferenceBwdIdeal.Facts),
    quiescent_Down (hDown := hDown)
    ∧ quiescent_DownIdeal (hDownIdeal := hDownIdeal)
    ∧ quiescent_ReferenceDownIdeal (hReferenceDownIdeal := hReferenceDownIdeal)
    ∧ quiescent_Dnorm (hDnorm := hDnorm)
    ∧ quiescent_DnormIdeal (hDnormIdeal := hDnormIdeal)
    ∧ quiescent_ReferenceDnormIdeal (hReferenceDnormIdeal := hReferenceDnormIdeal)
    ∧ quiescent_Finish (hFinish := hFinish)
    ∧ quiescent_FinishIdeal (hFinishIdeal := hFinishIdeal)
    ∧ quiescent_ReferenceFinishIdeal (hReferenceFinishIdeal := hReferenceFinishIdeal)
    ∧ quiescent_Fwd (hFwd := hFwd)
    ∧ quiescent_FwdIdeal (hFwdIdeal := hFwdIdeal)
    ∧ quiescent_ReferenceFwdIdeal (hReferenceFwdIdeal := hReferenceFwdIdeal)
    ∧ quiescent_Bwd (hBwd := hBwd)
    ∧ quiescent_BwdIdeal (hBwdIdeal := hBwdIdeal)
    ∧ quiescent_ReferenceBwdIdeal (hReferenceBwdIdeal := hReferenceBwdIdeal)
    ∧ preserves_Down_DownIdeal
    ∧ algebraic_DownIdeal_ReferenceDownIdeal (hDownIdeal := hDownIdeal) (hReferenceDownIdeal := hReferenceDownIdeal)
    ∧ preserves_Dnorm_DnormIdeal
    ∧ algebraic_DnormIdeal_ReferenceDnormIdeal (hDnormIdeal := hDnormIdeal) (hReferenceDnormIdeal := hReferenceDnormIdeal)
    ∧ preserves_Finish_FinishIdeal
    ∧ algebraic_FinishIdeal_ReferenceFinishIdeal (hFinishIdeal := hFinishIdeal) (hReferenceFinishIdeal := hReferenceFinishIdeal)
    ∧ preserves_Fwd_FwdIdeal
    ∧ algebraic_FwdIdeal_ReferenceFwdIdeal (hFwdIdeal := hFwdIdeal) (hReferenceFwdIdeal := hReferenceFwdIdeal)
    ∧ preserves_Bwd_BwdIdeal
    ∧ algebraic_BwdIdeal_ReferenceBwdIdeal (hBwdIdeal := hBwdIdeal) (hReferenceBwdIdeal := hReferenceBwdIdeal)
-- ==== Down.lean ====
abbrev S1536x4096 : Shape := ⟨2, ![1536, 4096]⟩
abbrev S1536x14336 : Shape := ⟨2, ![1536, 14336]⟩
abbrev S4096x14336 : Shape := ⟨2, ![4096, 14336]⟩
abbrev S32x112 : Shape := ⟨2, ![32, 112]⟩
abbrev S1536x256 : Shape := ⟨2, ![1536, 256]⟩
abbrev S4x64x4096 : Shape := ⟨3, ![4, 64, 4096]⟩
abbrev S1536x1 : Shape := ⟨2, ![1536, 1]⟩
abbrev S256x4096 : Shape := ⟨2, ![256, 4096]⟩
abbrev S1536x128 : Shape := ⟨2, ![1536, 128]⟩
abbrev S1536x1024 : Shape := ⟨2, ![1536, 1024]⟩
abbrev S1024x1024 : Shape := ⟨2, ![1024, 1024]⟩
abbrev S256x1024 : Shape := ⟨2, ![256, 1024]⟩
abbrev S1x1 : Shape := ⟨2, ![1, 1]⟩
abbrev S128x128 : Shape := ⟨2, ![128, 128]⟩
abbrev S512x256 : Shape := ⟨2, ![512, 256]⟩
abbrev S512x1024 : Shape := ⟨2, ![512, 1024]⟩

abbrev nBuf : Space → Nat
  | .hbm => 10
  | .vmem => 14
  | .smem => 1
  | _ => 0

abbrev bufTy : (tb : Table) → Fin (tcTables nBuf tb) → BufTy
  | .hbm, ⟨0, _⟩ => ⟨S1536x4096, .bf16⟩
  | .hbm, ⟨1, _⟩ => ⟨S1536x14336, .bf16⟩
  | .hbm, ⟨2, _⟩ => ⟨S4096x14336, .fp8e4m3⟩
  | .hbm, ⟨3, _⟩ => ⟨S32x112, .f32⟩
  | .hbm, ⟨4, _⟩ => ⟨S1536x256, .bf16⟩
  | .hbm, ⟨5, _⟩ => ⟨S4x64x4096, .bf16⟩
  | .hbm, ⟨6, _⟩ => ⟨S1536x1, .f32⟩
  | .hbm, ⟨7, _⟩ => ⟨S256x4096, .bf16⟩
  | .hbm, ⟨8, _⟩ => ⟨S1536x128, .f32⟩
  | .hbm, ⟨9, _⟩ => ⟨S1536x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .fp8e4m3⟩
  | .local _ .vmem, ⟨3, _⟩ => ⟨S1024x1024, .fp8e4m3⟩
  | .local _ .vmem, ⟨4, _⟩ => ⟨S1536x1024, .bf16⟩
  | .local _ .vmem, ⟨5, _⟩ => ⟨S1536x1024, .bf16⟩
  | .local _ .vmem, ⟨6, _⟩ => ⟨S1536x256, .bf16⟩
  | .local _ .vmem, ⟨7, _⟩ => ⟨S256x1024, .bf16⟩
  | .local _ .vmem, ⟨8, _⟩ => ⟨S256x1024, .bf16⟩
  | .local _ .vmem, ⟨9, _⟩ => ⟨S1536x128, .f32⟩
  | .local _ .vmem, ⟨10, _⟩ => ⟨S1536x1024, .bf16⟩
  | .local _ .vmem, ⟨11, _⟩ => ⟨S1536x1024, .bf16⟩
  | .local _ .vmem, ⟨12, _⟩ => ⟨S1024x1024, .bf16⟩
  | .local _ .vmem, ⟨13, _⟩ => ⟨S1536x1024, .f32⟩
  | .local _ .smem, ⟨0, _⟩ => ⟨S32x112, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 14], ![false, false]⟩

def k0_off1 (i : grid0.Coords) (c0_i32_2 : BitVec 32) (c0_i32_3 : BitVec 32) : Fin 2 → Nat :=
  let arg0 : BitVec 32 := BitVec.ofNat 32 (i 0).val
  let c8_i32 : BitVec 32 := 8#32
  let v3 : BitVec 32 := Scalar.muli arg0 c8_i32
  let v5 : BitVec 32 := Scalar.addi v3 c0_i32_2
  let v7 : Index := Scalar.indexCast v5
  let arg1 : BitVec 32 := BitVec.ofNat 32 (i 1).val
  let c8_i32_1 : BitVec 32 := 8#32
  let v4 : BitVec 32 := Scalar.muli arg1 c8_i32_1
  let v6 : BitVec 32 := Scalar.addi v4 c0_i32_3
  let v8 : Index := Scalar.indexCast v6
  ![v7.toNat, v8.toNat]
def k0_cond2 (i : grid0.Coords) : BitVec 1 :=
  let arg1 : BitVec 32 := BitVec.ofNat 32 (i 1).val
  let c13_i32 : BitVec 32 := 13#32
  let v933 : BitVec 1 := Scalar.cmpi .eq arg1 c13_i32
  let v934 : BitVec 32 := Scalar.extui v933
  let c0_i32_477 : BitVec 32 := 0#32
  let v935 : BitVec 1 := Scalar.cmpi .ne v934 c0_i32_477
  v935

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S32x112 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1536x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1536x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceDownIdeal.lean ====
abbrev S1536x4096 : Shape := ⟨2, ![1536, 4096]⟩
abbrev S1536x14336 : Shape := ⟨2, ![1536, 14336]⟩
abbrev S4096x14336 : Shape := ⟨2, ![4096, 14336]⟩
abbrev S32x112 : Shape := ⟨2, ![32, 112]⟩
abbrev S1536x256 : Shape := ⟨2, ![1536, 256]⟩
abbrev S4x64x4096 : Shape := ⟨3, ![4, 64, 4096]⟩
abbrev S1536x1 : Shape := ⟨2, ![1536, 1]⟩
abbrev S32x1x112x1 : Shape := ⟨4, ![32, 1, 112, 1]⟩
abbrev S32x128x112x128 : Shape := ⟨4, ![32, 128, 112, 128]⟩
abbrev S256x4096 : Shape := ⟨2, ![256, 4096]⟩

abbrev nBuf : Space → Nat
  | .hbm => 13
  | .vmem => 8
  | .smem => 0
  | _ => 0

abbrev bufTy : (tb : Table) → Fin (tcTables nBuf tb) → BufTy
  | .hbm, ⟨0, _⟩ => ⟨S1536x4096, .bf16⟩
  | .hbm, ⟨1, _⟩ => ⟨S1536x14336, .bf16⟩
  | .hbm, ⟨2, _⟩ => ⟨S4096x14336, .fp8e4m3⟩
  | .hbm, ⟨3, _⟩ => ⟨S32x112, .f32⟩
  | .hbm, ⟨4, _⟩ => ⟨S1536x256, .bf16⟩
  | .hbm, ⟨5, _⟩ => ⟨S4x64x4096, .bf16⟩
  | .hbm, ⟨6, _⟩ => ⟨S1536x1, .f32⟩
  | .hbm, ⟨7, _⟩ => ⟨S32x112, .bf16⟩
  | .hbm, ⟨8, _⟩ => ⟨S32x1x112x1, .bf16⟩
  | .hbm, ⟨9, _⟩ => ⟨S32x128x112x128, .bf16⟩
  | .hbm, ⟨10, _⟩ => ⟨S4096x14336, .bf16⟩
  | .hbm, ⟨11, _⟩ => ⟨S256x4096, .bf16⟩
  | .hbm, ⟨12, _⟩ => ⟨S1536x4096, .bf16⟩
  | .local _ .vmem, ⟨0, _⟩ => ⟨S1536x4096, .bf16⟩
  | .local _ .vmem, ⟨1, _⟩ => ⟨S1536x14336, .bf16⟩
  | .local _ .vmem, ⟨2, _⟩ => ⟨S4096x14336, .fp8e4m3⟩
  | .local _ .vmem, ⟨3, _⟩ => ⟨S4096x14336, .bf16⟩
  | .local _ .vmem, ⟨4, _⟩ => ⟨S1536x256, .bf16⟩
  | .local _ .vmem, ⟨5, _⟩ => ⟨S256x4096, .bf16⟩
  | .local _ .vmem, ⟨6, _⟩ => ⟨S1536x1, .f32⟩
  | .local _ .vmem, ⟨7, _⟩ => ⟨S1536x4096, .bf16⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dnorm.lean ====
abbrev S1536x14336 : Shape := ⟨2, ![1536, 14336]⟩
abbrev S14336x4096 : Shape := ⟨2, ![14336, 4096]⟩
abbrev S112x32 : Shape := ⟨2, ![112, 32]⟩
abbrev S1536x256 : Shape := ⟨2, ![1536, 256]⟩
abbrev S4x64x4096 : Shape := ⟨3, ![4, 64, 4096]⟩
abbrev S256x4096 : Shape := ⟨2, ![256, 4096]⟩
abbrev S1536x4096 : Shape := ⟨2, ![1536, 4096]⟩
abbrev S1536x1024 : Shape := ⟨2, ![1536, 1024]⟩
abbrev S1024x1024 : Shape := ⟨2, ![1024, 1024]⟩
abbrev S256x1024 : Shape := ⟨2, ![256, 1024]⟩
abbrev S1x1 : Shape := ⟨2, ![1, 1]⟩
abbrev S128x128 : Shape := ⟨2, ![128, 128]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 13
  | .vmem => 18
  | .smem => 2
  | _ => 0

abbrev bufTy : (tb : Table) → Fin (tcTables nBuf tb) → BufTy
  | .hbm, ⟨0, _⟩ => ⟨S1536x14336, .bf16⟩
  | .hbm, ⟨1, _⟩ => ⟨S1536x14336, .bf16⟩
  | .hbm, ⟨2, _⟩ => ⟨S14336x4096, .fp8e4m3⟩
  | .hbm, ⟨3, _⟩ => ⟨S112x32, .f32⟩
  | .hbm, ⟨4, _⟩ => ⟨S14336x4096, .fp8e4m3⟩
  | .hbm, ⟨5, _⟩ => ⟨S112x32, .f32⟩
  | .hbm, ⟨6, _⟩ => ⟨S1536x256, .bf16⟩
  | .hbm, ⟨7, _⟩ => ⟨S1536x256, .bf16⟩
  | .hbm, ⟨8, _⟩ => ⟨S4x64x4096, .bf16⟩
  | .hbm, ⟨9, _⟩ => ⟨S4x64x4096, .bf16⟩
  | .hbm, ⟨10, _⟩ => ⟨S256x4096, .bf16⟩
  | .hbm, ⟨11, _⟩ => ⟨S256x4096, .bf16⟩
  | .hbm, ⟨12, _⟩ => ⟨S1536x4096, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .fp8e4m3⟩
  | .local _ .vmem, ⟨5, _⟩ => ⟨S1024x1024, .fp8e4m3⟩
  | .local _ .vmem, ⟨6, _⟩ => ⟨S1024x1024, .fp8e4m3⟩
  | .local _ .vmem, ⟨7, _⟩ => ⟨S1024x1024, .fp8e4m3⟩
  | .local _ .vmem, ⟨8, _⟩ => ⟨S1536x256, .bf16⟩
  | .local _ .vmem, ⟨9, _⟩ => ⟨S1536x256, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1536x1024, .f32⟩
  | .local _ .vmem, ⟨15, _⟩ => ⟨S1536x1024, .f32⟩
  | .local _ .vmem, ⟨16, _⟩ => ⟨S1024x1024, .bf16⟩
  | .local _ .vmem, ⟨17, _⟩ => ⟨S1024x1024, .bf16⟩
  | .local _ .smem, ⟨0, _⟩ => ⟨S112x32, .f32⟩
  | .local _ .smem, ⟨1, _⟩ => ⟨S112x32, .f32⟩
  | _, _ => ⟨S1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 14], ![false, false]⟩

def k0_off1 (i : grid0.Coords) (c0_i32_2 : BitVec 32) (c0_i32_3 : BitVec 32) : Fin 2 → Nat :=
  let arg1 : BitVec 32 := BitVec.ofNat 32 (i 1).val
  let c8_i32 : BitVec 32 := 8#32
  let v3 : BitVec 32 := Scalar.muli arg1 c8_i32
  let v5 : BitVec 32 := Scalar.addi v3 c0_i32_2
  let v7 : Index := Scalar.indexCast v5
  let arg0 : BitVec 32 := BitVec.ofNat 32 (i 0).val
  let c8_i32_1 : BitVec 32 := 8#32
  let v4 : BitVec 32 := Scalar.muli arg0 c8_i32_1
  let v6 : BitVec 32 := Scalar.addi v4 c0_i32_3
  let v8 : Index := Scalar.indexCast v6
  ![v7.toNat, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S112x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S112x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1536x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1536x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceDnormIdeal.lean ====
abbrev S1536x14336 : Shape := ⟨2, ![1536, 14336]⟩
abbrev S14336x4096 : Shape := ⟨2, ![14336, 4096]⟩
abbrev S112x32 : Shape := ⟨2, ![112, 32]⟩
abbrev S1536x256 : Shape := ⟨2, ![1536, 256]⟩
abbrev S4x64x4096 : Shape := ⟨3, ![4, 64, 4096]⟩
abbrev S112x1x32x1 : Shape := ⟨4, ![112, 1, 32, 1]⟩
abbrev S112x128x32x128 : Shape := ⟨4, ![112, 128, 32, 128]⟩
abbrev S256x4096 : Shape := ⟨2, ![256, 4096]⟩
abbrev S1536x4096 : Shape := ⟨2, ![1536, 4096]⟩

abbrev nBuf : Space → Nat
  | .hbm => 21
  | .vmem => 11
  | .smem => 0
  | _ => 0

abbrev bufTy : (tb : Table) → Fin (tcTables nBuf tb) → BufTy
  | .hbm, ⟨0, _⟩ => ⟨S1536x14336, .bf16⟩
  | .hbm, ⟨1, _⟩ => ⟨S1536x14336, .bf16⟩
  | .hbm, ⟨2, _⟩ => ⟨S14336x4096, .fp8e4m3⟩
  | .hbm, ⟨3, _⟩ => ⟨S112x32, .f32⟩
  | .hbm, ⟨4, _⟩ => ⟨S14336x4096, .fp8e4m3⟩
  | .hbm, ⟨5, _⟩ => ⟨S112x32, .f32⟩
  | .hbm, ⟨6, _⟩ => ⟨S1536x256, .bf16⟩
  | .hbm, ⟨7, _⟩ => ⟨S1536x256, .bf16⟩
  | .hbm, ⟨8, _⟩ => ⟨S4x64x4096, .bf16⟩
  | .hbm, ⟨9, _⟩ => ⟨S4x64x4096, .bf16⟩
  | .hbm, ⟨10, _⟩ => ⟨S112x32, .bf16⟩
  | .hbm, ⟨11, _⟩ => ⟨S112x1x32x1, .bf16⟩
  | .hbm, ⟨12, _⟩ => ⟨S112x128x32x128, .bf16⟩
  | .hbm, ⟨13, _⟩ => ⟨S14336x4096, .bf16⟩
  | .hbm, ⟨14, _⟩ => ⟨S112x32, .bf16⟩
  | .hbm, ⟨15, _⟩ => ⟨S112x1x32x1, .bf16⟩
  | .hbm, ⟨16, _⟩ => ⟨S112x128x32x128, .bf16⟩
  | .hbm, ⟨17, _⟩ => ⟨S14336x4096, .bf16⟩
  | .hbm, ⟨18, _⟩ => ⟨S256x4096, .bf16⟩
  | .hbm, ⟨19, _⟩ => ⟨S256x4096, .bf16⟩
  | .hbm, ⟨20, _⟩ => ⟨S1536x4096, .f32⟩
  | .local _ .vmem, ⟨0, _⟩ => ⟨S1536x14336, .bf16⟩
  | .local _ .vmem, ⟨1, _⟩ => ⟨S1536x14336, .bf16⟩
  | .local _ .vmem, ⟨2, _⟩ => ⟨S14336x4096, .fp8e4m3⟩
  | .local _ .vmem, ⟨3, _⟩ => ⟨S14336x4096, .bf16⟩
  | .local _ .vmem, ⟨4, _⟩ => ⟨S14336x4096, .fp8e4m3⟩
  | .local _ .vmem, ⟨5, _⟩ => ⟨S14336x4096, .bf16⟩
  | .local _ .vmem, ⟨6, _⟩ => ⟨S1536x256, .bf16⟩
  | .local _ .vmem, ⟨7, _⟩ => ⟨S1536x256, .bf16⟩
  | .local _ .vmem, ⟨8, _⟩ => ⟨S256x4096, .bf16⟩
  | .local _ .vmem, ⟨9, _⟩ => ⟨S256x4096, .bf16⟩
  | .local _ .vmem, ⟨10, _⟩ => ⟨S1536x4096, .f32⟩
  | _, _ => ⟨S1536x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Finish.lean ====
abbrev S1536x4096 : Shape := ⟨2, ![1536, 4096]⟩
abbrev S4096 : Shape := ⟨1, ![4096]⟩
abbrev S1536x1 : Shape := ⟨2, ![1536, 1]⟩
abbrev S1536x256 : Shape := ⟨2, ![1536, 256]⟩
abbrev S4 : Shape := ⟨1, ![4]⟩
abbrev S1x4096 : Shape := ⟨2, ![1, 4096]⟩
abbrev S1536x128 : Shape := ⟨2, ![1536, 128]⟩
abbrev S256x4096 : Shape := ⟨2, ![256, 4096]⟩
abbrev S256x128 : Shape := ⟨2, ![256, 128]⟩
abbrev S256x256 : Shape := ⟨2, ![256, 256]⟩
abbrev S1x128 : Shape := ⟨2, ![1, 128]⟩
abbrev S256 : Shape := ⟨1, ![256]⟩
abbrev S256x1 : Shape := ⟨2, ![256, 1]⟩
abbrev S1 : Shape := ⟨1, ![1]⟩

abbrev nBuf : Space → Nat
  | .hbm => 17
  | .vmem => 24
  | .smem => 1
  | _ => 0

abbrev bufTy : (tb : Table) → Fin (tcTables nBuf tb) → BufTy
  | .hbm, ⟨0, _⟩ => ⟨S1536x4096, .f32⟩
  | .hbm, ⟨1, _⟩ => ⟨S1536x4096, .bf16⟩
  | .hbm, ⟨2, _⟩ => ⟨S1536x4096, .bf16⟩
  | .hbm, ⟨3, _⟩ => ⟨S4096, .f32⟩
  | .hbm, ⟨4, _⟩ => ⟨S1536x1, .f32⟩
  | .hbm, ⟨5, _⟩ => ⟨S1536x4096, .bf16⟩
  | .hbm, ⟨6, _⟩ => ⟨S1536x256, .bf16⟩
  | .hbm, ⟨7, _⟩ => ⟨S1536x256, .bf16⟩
  | .hbm, ⟨8, _⟩ => ⟨S1536x256, .bf16⟩
  | .hbm, ⟨9, _⟩ => ⟨S4, .f32⟩
  | .hbm, ⟨10, _⟩ => ⟨S1x4096, .f32⟩
  | .hbm, ⟨11, _⟩ => ⟨S1536x128, .f32⟩
  | .hbm, ⟨12, _⟩ => ⟨S1536x4096, .bf16⟩
  | .hbm, ⟨13, _⟩ => ⟨S1536x128, .f32⟩
  | .hbm, ⟨14, _⟩ => ⟨S256x4096, .f32⟩
  | .hbm, ⟨15, _⟩ => ⟨S256x4096, .f32⟩
  | .hbm, ⟨16, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S256x128, .f32⟩
  | .local _ .vmem, ⟨8, _⟩ => ⟨S256x128, .f32⟩
  | .local _ .vmem, ⟨9, _⟩ => ⟨S256x4096, .bf16⟩
  | .local _ .vmem, ⟨10, _⟩ => ⟨S256x4096, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x4096, .bf16⟩
  | .local _ .vmem, ⟨18, _⟩ => ⟨S256x4096, .bf16⟩
  | .local _ .vmem, ⟨19, _⟩ => ⟨S256x128, .f32⟩
  | .local _ .vmem, ⟨20, _⟩ => ⟨S256x128, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .smem, ⟨0, _⟩ => ⟨S4, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceFinishIdeal.lean ====
abbrev S1536x4096 : Shape := ⟨2, ![1536, 4096]⟩
abbrev S4096 : Shape := ⟨1, ![4096]⟩
abbrev S1536x1 : Shape := ⟨2, ![1536, 1]⟩
abbrev S1536x256 : Shape := ⟨2, ![1536, 256]⟩
abbrev S4 : Shape := ⟨1, ![4]⟩
abbrev S4x64 : Shape := ⟨2, ![4, 64]⟩
abbrev S256 : Shape := ⟨1, ![256]⟩
abbrev S256x1 : Shape := ⟨2, ![256, 1]⟩
abbrev S1x4096 : Shape := ⟨2, ![1, 4096]⟩
abbrev S_ : Shape := ⟨0, ![]⟩
abbrev S1536 : Shape := ⟨1, ![1536]⟩
abbrev S256x4096 : Shape := ⟨2, ![256, 4096]⟩
abbrev S1536x128 : Shape := ⟨2, ![1536, 128]⟩

abbrev nBuf : Space → Nat
  | .hbm => 40
  | .vmem => 0
  | .smem => 0
  | _ => 0

abbrev bufTy : (tb : Table) → Fin (tcTables nBuf tb) → BufTy
  | .hbm, ⟨0, _⟩ => ⟨S1536x4096, .f32⟩
  | .hbm, ⟨1, _⟩ => ⟨S1536x4096, .bf16⟩
  | .hbm, ⟨2, _⟩ => ⟨S1536x4096, .bf16⟩
  | .hbm, ⟨3, _⟩ => ⟨S4096, .f32⟩
  | .hbm, ⟨4, _⟩ => ⟨S1536x1, .f32⟩
  | .hbm, ⟨5, _⟩ => ⟨S1536x4096, .bf16⟩
  | .hbm, ⟨6, _⟩ => ⟨S1536x256, .bf16⟩
  | .hbm, ⟨7, _⟩ => ⟨S1536x256, .bf16⟩
  | .hbm, ⟨8, _⟩ => ⟨S1536x256, .bf16⟩
  | .hbm, ⟨9, _⟩ => ⟨S4, .f32⟩
  | .hbm, ⟨10, _⟩ => ⟨S4x64, .f32⟩
  | .hbm, ⟨11, _⟩ => ⟨S256, .f32⟩
  | .hbm, ⟨12, _⟩ => ⟨S256x1, .f32⟩
  | .hbm, ⟨13, _⟩ => ⟨S1536x4096, .f32⟩
  | .hbm, ⟨14, _⟩ => ⟨S1536x4096, .f32⟩
  | .hbm, ⟨15, _⟩ => ⟨S1536x4096, .f32⟩
  | .hbm, ⟨16, _⟩ => ⟨S1x4096, .f32⟩
  | .hbm, ⟨17, _⟩ => ⟨S1536x4096, .f32⟩
  | .hbm, ⟨18, _⟩ => ⟨S1536x4096, .f32⟩
  | .hbm, ⟨19, _⟩ => ⟨S1536x4096, .f32⟩
  | .hbm, ⟨20, _⟩ => ⟨S_, .f32⟩
  | .hbm, ⟨21, _⟩ => ⟨S1536, .f32⟩
  | .hbm, ⟨22, _⟩ => ⟨S1536x1, .f32⟩
  | .hbm, ⟨23, _⟩ => ⟨S_, .f32⟩
  | .hbm, ⟨24, _⟩ => ⟨S1536x1, .f32⟩
  | .hbm, ⟨25, _⟩ => ⟨S1536x1, .f32⟩
  | .hbm, ⟨26, _⟩ => ⟨S1536x4096, .f32⟩
  | .hbm, ⟨27, _⟩ => ⟨S1536x4096, .f32⟩
  | .hbm, ⟨28, _⟩ => ⟨S1536x4096, .f32⟩
  | .hbm, ⟨29, _⟩ => ⟨S1536x4096, .f32⟩
  | .hbm, ⟨30, _⟩ => ⟨S1536x4096, .f32⟩
  | .hbm, ⟨31, _⟩ => ⟨S1536x4096, .f32⟩
  | .hbm, ⟨32, _⟩ => ⟨S1536x4096, .f32⟩
  | .hbm, ⟨33, _⟩ => ⟨S1536x4096, .bf16⟩
  | .hbm, ⟨34, _⟩ => ⟨S256x4096, .f32⟩
  | .hbm, ⟨35, _⟩ => ⟨S256x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S1536x128, .f32⟩
  | _, _ => ⟨S1536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Fwd.lean ====
abbrev S4 : Shape := ⟨1, ![4]⟩
abbrev S5 : Shape := ⟨1, ![5]⟩
abbrev S112x32 : Shape := ⟨2, ![112, 32]⟩
abbrev S1536x4096 : Shape := ⟨2, ![1536, 4096]⟩
abbrev S1536x1 : Shape := ⟨2, ![1536, 1]⟩
abbrev S1536x256 : Shape := ⟨2, ![1536, 256]⟩
abbrev S256x1536 : Shape := ⟨2, ![256, 1536]⟩
abbrev S14336x4096 : Shape := ⟨2, ![14336, 4096]⟩
abbrev S4x64x14336 : Shape := ⟨3, ![4, 64, 14336]⟩
abbrev S256x14336 : Shape := ⟨2, ![256, 14336]⟩
abbrev S1536x128 : Shape := ⟨2, ![1536, 128]⟩
abbrev S1536x14336 : Shape := ⟨2, ![1536, 14336]⟩
abbrev S1536x112 : Shape := ⟨2, ![1536, 112]⟩
abbrev S512x4096 : Shape := ⟨2, ![512, 4096]⟩
abbrev S256x512 : Shape := ⟨2, ![256, 512]⟩
abbrev S1536x512 : Shape := ⟨2, ![1536, 512]⟩
abbrev S1x1 : Shape := ⟨2, ![1, 1]⟩
abbrev S128x128 : Shape := ⟨2, ![128, 128]⟩
abbrev S256x4096 : Shape := ⟨2, ![256, 4096]⟩
abbrev S512x256 : Shape := ⟨2, ![512, 256]⟩
abbrev S256x256 : Shape := ⟨2, ![256, 256]⟩
abbrev S512x128 : Shape := ⟨2, ![512, 128]⟩
abbrev S512x112 : Shape := ⟨2, ![512, 112]⟩
abbrev S512 : Shape := ⟨1, ![512]⟩
abbrev S512x1 : Shape := ⟨2, ![512, 1]⟩
abbrev S1 : Shape := ⟨1, ![1]⟩

abbrev nBuf : Space → Nat
  | .hbm => 26
  | .vmem => 30
  | .smem => 5
  | _ => 0

abbrev bufTy : (tb : Table) → Fin (tcTables nBuf tb) → BufTy
  | .hbm, ⟨0, _⟩ => ⟨S4, .f32⟩
  | .hbm, ⟨1, _⟩ => ⟨S4, .i32⟩
  | .hbm, ⟨2, _⟩ => ⟨S5, .i32⟩
  | .hbm, ⟨3, _⟩ => ⟨S112x32, .f32⟩
  | .hbm, ⟨4, _⟩ => ⟨S112x32, .f32⟩
  | .hbm, ⟨5, _⟩ => ⟨S1536x4096, .bf16⟩
  | .hbm, ⟨6, _⟩ => ⟨S1536x1, .f32⟩
  | .hbm, ⟨7, _⟩ => ⟨S1536x256, .bf16⟩
  | .hbm, ⟨8, _⟩ => ⟨S1536x256, .bf16⟩
  | .hbm, ⟨9, _⟩ => ⟨S256x1536, .bf16⟩
  | .hbm, ⟨10, _⟩ => ⟨S14336x4096, .fp8e4m3⟩
  | .hbm, ⟨11, _⟩ => ⟨S14336x4096, .fp8e4m3⟩
  | .hbm, ⟨12, _⟩ => ⟨S4x64x14336, .bf16⟩
  | .hbm, ⟨13, _⟩ => ⟨S4x64x14336, .bf16⟩
  | .hbm, ⟨14, _⟩ => ⟨S4x64x14336, .bf16⟩
  | .hbm, ⟨15, _⟩ => ⟨S256x14336, .bf16⟩
  | .hbm, ⟨16, _⟩ => ⟨S256x14336, .bf16⟩
  | .hbm, ⟨17, _⟩ => ⟨S256x14336, .bf16⟩
  | .hbm, ⟨18, _⟩ => ⟨S1536x128, .f32⟩
  | .hbm, ⟨19, _⟩ => ⟨S1536x14336, .fp8e4m3⟩
  | .hbm, ⟨20, _⟩ => ⟨S1536x112, .f32⟩
  | .hbm, ⟨21, _⟩ => ⟨S1536x14336, .bf16⟩
  | .hbm, ⟨22, _⟩ => ⟨S1536x14336, .bf16⟩
  | .hbm, ⟨23, _⟩ => ⟨S1536x14336, .bf16⟩
  | .hbm, ⟨24, _⟩ => ⟨S256x14336, .f32⟩
  | .hbm, ⟨25, _⟩ => ⟨S1536x256, .bf16⟩
  | .local _ .vmem, ⟨0, _⟩ => ⟨S1536x4096, .bf16⟩
  | .local _ .vmem, ⟨1, _⟩ => ⟨S1536x128, .f32⟩
  | .local _ .vmem, ⟨2, _⟩ => ⟨S1536x256, .bf16⟩
  | .local _ .vmem, ⟨3, _⟩ => ⟨S1536x256, .bf16⟩
  | .local _ .vmem, ⟨4, _⟩ => ⟨S256x1536, .bf16⟩
  | .local _ .vmem, ⟨5, _⟩ => ⟨S512x4096, .fp8e4m3⟩
  | .local _ .vmem, ⟨6, _⟩ => ⟨S512x4096, .fp8e4m3⟩
  | .local _ .vmem, ⟨7, _⟩ => ⟨S512x4096, .fp8e4m3⟩
  | .local _ .vmem, ⟨8, _⟩ => ⟨S512x4096, .fp8e4m3⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S1536x512, .fp8e4m3⟩
  | .local _ .vmem, ⟨16, _⟩ => ⟨S1536x512, .fp8e4m3⟩
  | .local _ .vmem, ⟨17, _⟩ => ⟨S1536x112, .f32⟩
  | .local _ .vmem, ⟨18, _⟩ => ⟨S1536x512, .bf16⟩
  | .local _ .vmem, ⟨19, _⟩ => ⟨S1536x512, .bf16⟩
  | .local _ .vmem, ⟨20, _⟩ => ⟨S1536x512, .bf16⟩
  | .local _ .vmem, ⟨21, _⟩ => ⟨S1536x512, .bf16⟩
  | .local _ .vmem, ⟨22, _⟩ => ⟨S1536x512, .bf16⟩
  | .local _ .vmem, ⟨23, _⟩ => ⟨S1536x512, .bf16⟩
  | .local _ .vmem, ⟨24, _⟩ => ⟨S256x512, .f32⟩
  | .local _ .vmem, ⟨25, _⟩ => ⟨S256x512, .f32⟩
  | .local _ .vmem, ⟨26, _⟩ => ⟨S1536x256, .bf16⟩
  | .local _ .vmem, ⟨27, _⟩ => ⟨S512x4096, .bf16⟩
  | .local _ .vmem, ⟨28, _⟩ => ⟨S512x4096, .bf16⟩
  | .local _ .vmem, ⟨29, _⟩ => ⟨S1536x256, .f32⟩
  | .local _ .smem, ⟨0, _⟩ => ⟨S4, .f32⟩
  | .local _ .smem, ⟨1, _⟩ => ⟨S4, .i32⟩
  | .local _ .smem, ⟨2, _⟩ => ⟨S5, .i32⟩
  | .local _ .smem, ⟨3, _⟩ => ⟨S112x32, .f32⟩
  | .local _ .smem, ⟨4, _⟩ => ⟨S112x32, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v4_5 : Ref sig .tc := ⟨.hbm, 24, rfl⟩
abbrev main_v4_6 : Ref sig .tc := ⟨.hbm, 25, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg10_1 : Ref sig .tc := ⟨.vmem, 6, rfl⟩
abbrev cc0_stg11_0 : Ref sig .tc := ⟨.vmem, 7, rfl⟩
abbrev cc0_stg11_1 : Ref sig .tc := ⟨.vmem, 8, rfl⟩
abbrev cc0_stg12_0 : Ref sig .tc := ⟨.vmem, 9, rfl⟩
abbrev cc0_stg12_1 : Ref sig .tc := ⟨.vmem, 10, rfl⟩
abbrev cc0_stg13_0 : Ref sig .tc := ⟨.vmem, 11, rfl⟩
abbrev cc0_stg13_1 : Ref sig .tc := ⟨.vmem, 12, rfl⟩
abbrev cc0_stg14_0 : Ref sig .tc := ⟨.vmem, 13, rfl⟩
abbrev cc0_stg14_1 : Ref sig .tc := ⟨.vmem, 14, rfl⟩
abbrev cc0_stg15_0 : Ref sig .tc := ⟨.vmem, 15, rfl⟩
abbrev cc0_stg15_1 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨1, ![28], ![false]⟩

def k0_off1 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  let c0 : Index := 0#32
  ![v5.toNat, 0]
def k0_off2 (i : grid0.Coords) (c0_i32_6 : BitVec 32) : Fin 2 → Nat :=
  let arg0 : BitVec 32 := BitVec.ofNat 32 (i 0).val
  let c4_i32 : BitVec 32 := 4#32
  let v3 : BitVec 32 := Scalar.muli arg0 c4_i32
  let v15 : BitVec 32 := Scalar.addi v3 c0_i32_6
  let v16 : Index := Scalar.indexCast v15
  let c1 : Index := 1#32
  ![v16.toNat, 1]
def k0_off3 (i : grid0.Coords) (c0_i32_10 : BitVec 32) : Fin 2 → Nat :=
  let arg0 : BitVec 32 := BitVec.ofNat 32 (i 0).val
  let c4_i32 : BitVec 32 := 4#32
  let v3 : BitVec 32 := Scalar.muli arg0 c4_i32
  let v26 : BitVec 32 := Scalar.addi v3 c0_i32_10
  let v27 : Index := Scalar.indexCast v26
  let c2 : Index := 2#32
  ![v27.toNat, 2]
def k0_off4 (i : grid0.Coords) (c0_i32_14 : BitVec 32) : Fin 2 → Nat :=
  let arg0 : BitVec 32 := BitVec.ofNat 32 (i 0).val
  let c4_i32 : BitVec 32 := 4#32
  let v3 : BitVec 32 := Scalar.muli arg0 c4_i32
  let v37 : BitVec 32 := Scalar.addi v3 c0_i32_14
  let v38 : Index := Scalar.indexCast v37
  let c3 : Index := 3#32
  ![v38.toNat, 3]
def k0_off5 (i : grid0.Coords) (c0_i32_18 : BitVec 32) : Fin 2 → Nat :=
  let arg0 : BitVec 32 := BitVec.ofNat 32 (i 0).val
  let c4_i32 : BitVec 32 := 4#32
  let v3 : BitVec 32 := Scalar.muli arg0 c4_i32
  let v48 : BitVec 32 := Scalar.addi v3 c0_i32_18
  let v49 : Index := Scalar.indexCast v48
  let c4 : Index := 4#32
  ![v49.toNat, 4]
def k0_off6 (i : grid0.Coords) (c0_i32_22 : BitVec 32) : Fin 2 → Nat :=
  let arg0 : BitVec 32 := BitVec.ofNat 32 (i 0).val
  let c4_i32 : BitVec 32 := 4#32
  let v3 : BitVec 32 := Scalar.muli arg0 c4_i32
  let v59 : BitVec 32 := Scalar.addi v3 c0_i32_22
  let v60 : Index := Scalar.indexCast v59
  let c5 : Index := 5#32
  ![v60.toNat, 5]
def k0_off7 (i : grid0.Coords) (c0_i32_26 : BitVec 32) : Fin 2 → Nat :=
  let arg0 : BitVec 32 := BitVec.ofNat 32 (i 0).val
  let c4_i32 : BitVec 32 := 4#32
  let v3 : BitVec 32 := Scalar.muli arg0 c4_i32
  let v70 : BitVec 32 := Scalar.addi v3 c0_i32_26
  let v71 : Index := Scalar.indexCast v70
  let c6 : Index := 6#32
  ![v71.toNat, 6]
def k0_off8 (i : grid0.Coords) (c0_i32_30 : BitVec 32) : Fin 2 → Nat :=
  let arg0 : BitVec 32 := BitVec.ofNat 32 (i 0).val
  let c4_i32 : BitVec 32 := 4#32
  let v3 : BitVec 32 := Scalar.muli arg0 c4_i32
  let v81 : BitVec 32 := Scalar.addi v3 c0_i32_30
  let v82 : Index := Scalar.indexCast v81
  let c7 : Index := 7#32
  ![v82.toNat, 7]
def k0_off9 (i : grid0.Coords) (c0_i32_34 : BitVec 32) : Fin 2 → Nat :=
  let arg0 : BitVec 32 := BitVec.ofNat 32 (i 0).val
  let c4_i32 : BitVec 32 := 4#32
  let v3 : BitVec 32 := Scalar.muli arg0 c4_i32
  let v92 : BitVec 32 := Scalar.addi v3 c0_i32_34
  let v93 : Index := Scalar.indexCast v92
  let c8 : Index := 8#32
  ![v93.toNat, 8]
def k0_off10 (i : grid0.Coords) (c0_i32_38 : BitVec 32) : Fin 2 → Nat :=
  let arg0 : BitVec 32 := BitVec.ofNat 32 (i 0).val
  let c4_i32 : BitVec 32 := 4#32
  let v3 : BitVec 32 := Scalar.muli arg0 c4_i32
  let v103 : BitVec 32 := Scalar.addi v3 c0_i32_38
  let v104 : Index := Scalar.indexCast v103
  let c9 : Index := 9#32
  ![v104.toNat, 9]
def k0_off11 (i : grid0.Coords) (c0_i32_42 : BitVec 32) : Fin 2 → Nat :=
  let arg0 : BitVec 32 := BitVec.ofNat 32 (i 0).val
  let c4_i32 : BitVec 32 := 4#32
  let v3 : BitVec 32 := Scalar.muli arg0 c4_i32
  let v114 : BitVec 32 := Scalar.addi v3 c0_i32_42
  let v115 : Index := Scalar.indexCast v114
  let c10 : Index := 10#32
  ![v115.toNat, 10]
def k0_off12 (i : grid0.Coords) (c0_i32_46 : BitVec 32) : Fin 2 → Nat :=
  let arg0 : BitVec 32 := BitVec.ofNat 32 (i 0).val
  let c4_i32 : BitVec 32 := 4#32
  let v3 : BitVec 32 := Scalar.muli arg0 c4_i32
  let v125 : BitVec 32 := Scalar.addi v3 c0_i32_46
  let v126 : Index := Scalar.indexCast v125
  let c11 : Index := 11#32
  ![v126.toNat, 11]
def k0_off13 (i : grid0.Coords) (c0_i32_50 : BitVec 32) : Fin 2 → Nat :=
  let arg0 : BitVec 32 := BitVec.ofNat 32 (i 0).val
  let c4_i32 : BitVec 32 := 4#32
  let v3 : BitVec 32 := Scalar.muli arg0 c4_i32
  let v136 : BitVec 32 := Scalar.addi v3 c0_i32_50
  let v137 : Index := Scalar.indexCast v136
  let c12 : Index := 12#32
  ![v137.toNat, 12]
def k0_off14 (i : grid0.Coords) (c0_i32_54 : BitVec 32) : Fin 2 → Nat :=
  let arg0 : BitVec 32 := BitVec.ofNat 32 (i 0).val
  let c4_i32 : BitVec 32 := 4#32
  let v3 : BitVec 32 := Scalar.muli arg0 c4_i32
  let v147 : BitVec 32 := Scalar.addi v3 c0_i32_54
  let v148 : Index := Scalar.indexCast v147
  let c13 : Index := 13#32
  ![v148.toNat, 13]
def k0_off15 (i : grid0.Coords) (c0_i32_58 : BitVec 32) : Fin 2 → Nat :=
  let arg0 : BitVec 32 := BitVec.ofNat 32 (i 0).val
  let c4_i32 : BitVec 32 := 4#32
  let v3 : BitVec 32 := Scalar.muli arg0 c4_i32
  let v158 : BitVec 32 := Scalar.addi v3 c0_i32_58
  let v159 : Index := Scalar.indexCast v158
  let c14 : Index := 14#32
  ![v159.toNat, 14]
def k0_off16 (i : grid0.Coords) (c0_i32_62 : BitVec 32) : Fin 2 → Nat :=
  let arg0 : BitVec 32 := BitVec.ofNat 32 (i 0).val
  let c4_i32 : BitVec 32 := 4#32
  let v3 : BitVec 32 := Scalar.muli arg0 c4_i32
  let v169 : BitVec 32 := Scalar.addi v3 c0_i32_62
  let v170 : Index := Scalar.indexCast v169
  let c15 : Index := 15#32
  ![v170.toNat, 15]
def k0_off17 (i : grid0.Coords) (c0_i32_66 : BitVec 32) : Fin 2 → Nat :=
  let arg0 : BitVec 32 := BitVec.ofNat 32 (i 0).val
  let c4_i32 : BitVec 32 := 4#32
  let v3 : BitVec 32 := Scalar.muli arg0 c4_i32
  let v180 : BitVec 32 := Scalar.addi v3 c0_i32_66
  let v181 : Index := Scalar.indexCast v180
  let c16 : Index := 16#32
  ![v181.toNat, 16]
def k0_off18 (i : grid0.Coords) (c0_i32_70 : BitVec 32) : Fin 2 → Nat :=
  let arg0 : BitVec 32 := BitVec.ofNat 32 (i 0).val
  let c4_i32 : BitVec 32 := 4#32
  let v3 : BitVec 32 := Scalar.muli arg0 c4_i32
  let v191 : BitVec 32 := Scalar.addi v3 c0_i32_70
  let v192 : Index := Scalar.indexCast v191
  let c17 : Index := 17#32
  ![v192.toNat, 17]
def k0_off19 (i : grid0.Coords) (c0_i32_74 : BitVec 32) : Fin 2 → Nat :=
  let arg0 : BitVec 32 := BitVec.ofNat 32 (i 0).val
  let c4_i32 : BitVec 32 := 4#32
  let v3 : BitVec 32 := Scalar.muli arg0 c4_i32
  let v202 : BitVec 32 := Scalar.addi v3 c0_i32_74
  let v203 : Index := Scalar.indexCast v202
  let c18 : Index := 18#32
  ![v203.toNat, 18]
def k0_off20 (i : grid0.Coords) (c0_i32_78 : BitVec 32) : Fin 2 → Nat :=
  let arg0 : BitVec 32 := BitVec.ofNat 32 (i 0).val
  let c4_i32 : BitVec 32 := 4#32
  let v3 : BitVec 32 := Scalar.muli arg0 c4_i32
  let v213 : BitVec 32 := Scalar.addi v3 c0_i32_78
  let v214 : Index := Scalar.indexCast v213
  let c19 : Index := 19#32
  ![v214.toNat, 19]
def k0_off21 (i : grid0.Coords) (c0_i32_82 : BitVec 32) : Fin 2 → Nat :=
  let arg0 : BitVec 32 := BitVec.ofNat 32 (i 0).val
  let c4_i32 : BitVec 32 := 4#32
  let v3 : BitVec 32 := Scalar.muli arg0 c4_i32
  let v224 : BitVec 32 := Scalar.addi v3 c0_i32_82
  let v225 : Index := Scalar.indexCast v224
  let c20 : Index := 20#32
  ![v225.toNat, 20]
def k0_off22 (i : grid0.Coords) (c0_i32_86 : BitVec 32) : Fin 2 → Nat :=
  let arg0 : BitVec 32 := BitVec.ofNat 32 (i 0).val
  let c4_i32 : BitVec 32 := 4#32
  let v3 : BitVec 32 := Scalar.muli arg0 c4_i32
  let v235 : BitVec 32 := Scalar.addi v3 c0_i32_86
  let v236 : Index := Scalar.indexCast v235
  let c21 : Index := 21#32
  ![v236.toNat, 21]
def k0_off23 (i : grid0.Coords) (c0_i32_90 : BitVec 32) : Fin 2 → Nat :=
  let arg0 : BitVec 32 := BitVec.ofNat 32 (i 0).val
  let c4_i32 : BitVec 32 := 4#32
  let v3 : BitVec 32 := Scalar.muli arg0 c4_i32
  let v246 : BitVec 32 := Scalar.addi v3 c0_i32_90
  let v247 : Index := Scalar.indexCast v246
  let c22 : Index := 22#32
  ![v247.toNat, 22]
def k0_off24 (i : grid0.Coords) (c0_i32_94 : BitVec 32) : Fin 2 → Nat :=
  let arg0 : BitVec 32 := BitVec.ofNat 32 (i 0).val
  let c4_i32 : BitVec 32 := 4#32
  let v3 : BitVec 32 := Scalar.muli arg0 c4_i32
  let v257 : BitVec 32 := Scalar.addi v3 c0_i32_94
  let v258 : Index := Scalar.indexCast v257
  let c23 : Index := 23#32
  ![v258.toNat, 23]
def k0_off25 (i : grid0.Coords) (c0_i32_98 : BitVec 32) : Fin 2 → Nat :=
  let arg0 : BitVec 32 := BitVec.ofNat 32 (i 0).val
  let c4_i32 : BitVec 32 := 4#32
  let v3 : BitVec 32 := Scalar.muli arg0 c4_i32
  let v268 : BitVec 32 := Scalar.addi v3 c0_i32_98
  let v269 : Index := Scalar.indexCast v268
  let c24 : Index := 24#32
  ![v269.toNat, 24]
def k0_off26 (i : grid0.Coords) (c0_i32_102 : BitVec 32) : Fin 2 → Nat :=
  let arg0 : BitVec 32 := BitVec.ofNat 32 (i 0).val
  let c4_i32 : BitVec 32 := 4#32
  let v3 : BitVec 32 := Scalar.muli arg0 c4_i32
  let v279 : BitVec 32 := Scalar.addi v3 c0_i32_102
  let v280 : Index := Scalar.indexCast v279
  let c25 : Index := 25#32
  ![v280.toNat, 25]
def k0_off27 (i : grid0.Coords) (c0_i32_106 : BitVec 32) : Fin 2 → Nat :=
  let arg0 : BitVec 32 := BitVec.ofNat 32 (i 0).val
  let c4_i32 : BitVec 32 := 4#32
  let v3 : BitVec 32 := Scalar.muli arg0 c4_i32
  let v290 : BitVec 32 := Scalar.addi v3 c0_i32_106
  let v291 : Index := Scalar.indexCast v290
  let c26 : Index := 26#32
  ![v291.toNat, 26]
def k0_off28 (i : grid0.Coords) (c0_i32_110 : BitVec 32) : Fin 2 → Nat :=
  let arg0 : BitVec 32 := BitVec.ofNat 32 (i 0).val
  let c4_i32 : BitVec 32 := 4#32
  let v3 : BitVec 32 := Scalar.muli arg0 c4_i32
  let v301 : BitVec 32 := Scalar.addi v3 c0_i32_110
  let v302 : Index := Scalar.indexCast v301
  let c27 : Index := 27#32
  ![v302.toNat, 27]
def k0_off29 (i : grid0.Coords) (c0_i32_114 : BitVec 32) : Fin 2 → Nat :=
  let arg0 : BitVec 32 := BitVec.ofNat 32 (i 0).val
  let c4_i32 : BitVec 32 := 4#32
  let v3 : BitVec 32 := Scalar.muli arg0 c4_i32
  let v312 : BitVec 32 := Scalar.addi v3 c0_i32_114
  let v313 : Index := Scalar.indexCast v312
  let c28 : Index := 28#32
  ![v313.toNat, 28]
def k0_off30 (i : grid0.Coords) (c0_i32_118 : BitVec 32) : Fin 2 → Nat :=
  let arg0 : BitVec 32 := BitVec.ofNat 32 (i 0).val
  let c4_i32 : BitVec 32 := 4#32
  let v3 : BitVec 32 := Scalar.muli arg0 c4_i32
  let v323 : BitVec 32 := Scalar.addi v3 c0_i32_118
  let v324 : Index := Scalar.indexCast v323
  let c29 : Index := 29#32
  ![v324.toNat, 29]
def k0_off31 (i : grid0.Coords) (c0_i32_122 : BitVec 32) : Fin 2 → Nat :=
  let arg0 : BitVec 32 := BitVec.ofNat 32 (i 0).val
  let c4_i32 : BitVec 32 := 4#32
  let v3 : BitVec 32 := Scalar.muli arg0 c4_i32
  let v334 : BitVec 32 := Scalar.addi v3 c0_i32_122
  let v335 : Index := Scalar.indexCast v334
  let c30 : Index := 30#32
  ![v335.toNat, 30]
def k0_off32 (i : grid0.Coords) (c0_i32_126 : BitVec 32) : Fin 2 → Nat :=
  let arg0 : BitVec 32 := BitVec.ofNat 32 (i 0).val
  let c4_i32 : BitVec 32 := 4#32
  let v3 : BitVec 32 := Scalar.muli arg0 c4_i32
  let v345 : BitVec 32 := Scalar.addi v3 c0_i32_126
  let v346 : Index := Scalar.indexCast v345
  let c31 : Index := 31#32
  ![v346.toNat, 31]
def k0_cond2 (i : grid0.Coords) : BitVec 1 :=
  let arg0 : BitVec 32 := BitVec.ofNat 32 (i 0).val
  let c27_i32 : BitVec 32 := 27#32
  let v4606 : BitVec 1 := Scalar.cmpi .eq arg0 c27_i32
  let v4607 : BitVec 32 := Scalar.extui v4606
  let c0_i32_2247 : BitVec 32 := 0#32
  let v4608 : BitVec 1 := Scalar.cmpi .ne v4607 c0_i32_2247
  v4608

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S112x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S112x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1536x512 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1536x112 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1536x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1536x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1536x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1536x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceFwdIdeal.lean ====
abbrev S4 : Shape := ⟨1, ![4]⟩
abbrev S5 : Shape := ⟨1, ![5]⟩
abbrev S112x32 : Shape := ⟨2, ![112, 32]⟩
abbrev S1536x4096 : Shape := ⟨2, ![1536, 4096]⟩
abbrev S1536x1 : Shape := ⟨2, ![1536, 1]⟩
abbrev S1536x256 : Shape := ⟨2, ![1536, 256]⟩
abbrev S256x1536 : Shape := ⟨2, ![256, 1536]⟩
abbrev S14336x4096 : Shape := ⟨2, ![14336, 4096]⟩
abbrev S4x64x14336 : Shape := ⟨3, ![4, 64, 14336]⟩
abbrev S112x1x32x1 : Shape := ⟨4, ![112, 1, 32, 1]⟩
abbrev S112x128x32x128 : Shape := ⟨4, ![112, 128, 32, 128]⟩
abbrev S256x14336 : Shape := ⟨2, ![256, 14336]⟩
abbrev S1536x14336 : Shape := ⟨2, ![1536, 14336]⟩

abbrev nBuf : Space → Nat
  | .hbm => 27
  | .vmem => 12
  | .smem => 0
  | _ => 0

abbrev bufTy : (tb : Table) → Fin (tcTables nBuf tb) → BufTy
  | .hbm, ⟨0, _⟩ => ⟨S4, .f32⟩
  | .hbm, ⟨1, _⟩ => ⟨S4, .i32⟩
  | .hbm, ⟨2, _⟩ => ⟨S5, .i32⟩
  | .hbm, ⟨3, _⟩ => ⟨S112x32, .f32⟩
  | .hbm, ⟨4, _⟩ => ⟨S112x32, .f32⟩
  | .hbm, ⟨5, _⟩ => ⟨S1536x4096, .bf16⟩
  | .hbm, ⟨6, _⟩ => ⟨S1536x1, .f32⟩
  | .hbm, ⟨7, _⟩ => ⟨S1536x256, .bf16⟩
  | .hbm, ⟨8, _⟩ => ⟨S1536x256, .bf16⟩
  | .hbm, ⟨9, _⟩ => ⟨S256x1536, .bf16⟩
  | .hbm, ⟨10, _⟩ => ⟨S14336x4096, .fp8e4m3⟩
  | .hbm, ⟨11, _⟩ => ⟨S14336x4096, .fp8e4m3⟩
  | .hbm, ⟨12, _⟩ => ⟨S4x64x14336, .bf16⟩
  | .hbm, ⟨13, _⟩ => ⟨S4x64x14336, .bf16⟩
  | .hbm, ⟨14, _⟩ => ⟨S4x64x14336, .bf16⟩
  | .hbm, ⟨15, _⟩ => ⟨S112x32, .bf16⟩
  | .hbm, ⟨16, _⟩ => ⟨S112x1x32x1, .bf16⟩
  | .hbm, ⟨17, _⟩ => ⟨S112x128x32x128, .bf16⟩
  | .hbm, ⟨18, _⟩ => ⟨S14336x4096, .bf16⟩
  | .hbm, ⟨19, _⟩ => ⟨S112x32, .bf16⟩
  | .hbm, ⟨20, _⟩ => ⟨S112x1x32x1, .bf16⟩
  | .hbm, ⟨21, _⟩ => ⟨S112x128x32x128, .bf16⟩
  | .hbm, ⟨22, _⟩ => ⟨S14336x4096, .bf16⟩
  | .hbm, ⟨23, _⟩ => ⟨S256x14336, .bf16⟩
  | .hbm, ⟨24, _⟩ => ⟨S256x14336, .bf16⟩
  | .hbm, ⟨25, _⟩ => ⟨S1536x14336, .bf16⟩
  | .hbm, ⟨26, _⟩ => ⟨S1536x14336, .bf16⟩
  | .local _ .vmem, ⟨0, _⟩ => ⟨S14336x4096, .bf16⟩
  | .local _ .vmem, ⟨1, _⟩ => ⟨S14336x4096, .bf16⟩
  | .local _ .vmem, ⟨2, _⟩ => ⟨S1536x4096, .bf16⟩
  | .local _ .vmem, ⟨3, _⟩ => ⟨S1536x1, .f32⟩
  | .local _ .vmem, ⟨4, _⟩ => ⟨S1536x256, .bf16⟩
  | .local _ .vmem, ⟨5, _⟩ => ⟨S1536x256, .bf16⟩
  | .local _ .vmem, ⟨6, _⟩ => ⟨S14336x4096, .fp8e4m3⟩
  | .local _ .vmem, ⟨7, _⟩ => ⟨S14336x4096, .fp8e4m3⟩
  | .local _ .vmem, ⟨8, _⟩ => ⟨S256x14336, .bf16⟩
  | .local _ .vmem, ⟨9, _⟩ => ⟨S256x14336, .bf16⟩
  | .local _ .vmem, ⟨10, _⟩ => ⟨S1536x14336, .bf16⟩
  | .local _ .vmem, ⟨11, _⟩ => ⟨S1536x14336, .bf16⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S14336x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x14336 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x14336 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x14336 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x14336 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Bwd.lean ====
abbrev S4 : Shape := ⟨1, ![4]⟩
abbrev S5 : Shape := ⟨1, ![5]⟩
abbrev S32x112 : Shape := ⟨2, ![32, 112]⟩
abbrev S1536x4096 : Shape := ⟨2, ![1536, 4096]⟩
abbrev S1536x256 : Shape := ⟨2, ![1536, 256]⟩
abbrev S256x1536 : Shape := ⟨2, ![256, 1536]⟩
abbrev S1536x14336 : Shape := ⟨2, ![1536, 14336]⟩
abbrev S4096x14336 : Shape := ⟨2, ![4096, 14336]⟩
abbrev S4x64x14336 : Shape := ⟨3, ![4, 64, 14336]⟩
abbrev S256x14336 : Shape := ⟨2, ![256, 14336]⟩
abbrev S1536x112 : Shape := ⟨2, ![1536, 112]⟩
abbrev S1536x512 : Shape := ⟨2, ![1536, 512]⟩
abbrev S4096x512 : Shape := ⟨2, ![4096, 512]⟩
abbrev S256x512 : Shape := ⟨2, ![256, 512]⟩
abbrev S1x1 : Shape := ⟨2, ![1, 1]⟩
abbrev S128x128 : Shape := ⟨2, ![128, 128]⟩
abbrev S512x4096 : Shape := ⟨2, ![512, 4096]⟩
abbrev S4096x256 : Shape := ⟨2, ![4096, 256]⟩
abbrev S512x256 : Shape := ⟨2, ![512, 256]⟩
abbrev S256x256 : Shape := ⟨2, ![256, 256]⟩
abbrev S512x112 : Shape := ⟨2, ![512, 112]⟩
abbrev S512x128 : Shape := ⟨2, ![512, 128]⟩
abbrev S512 : Shape := ⟨1, ![512]⟩
abbrev S512x1 : Shape := ⟨2, ![512, 1]⟩
abbrev S256x1 : Shape := ⟨2, ![256, 1]⟩
abbrev S1 : Shape := ⟨1, ![1]⟩
abbrev S1536x1 : Shape := ⟨2, ![1536, 1]⟩

abbrev nBuf : Space → Nat
  | .hbm => 27
  | .vmem => 37
  | .smem => 4
  | _ => 0

abbrev bufTy : (tb : Table) → Fin (tcTables nBuf tb) → BufTy
  | .hbm, ⟨0, _⟩ => ⟨S4, .f32⟩
  | .hbm, ⟨1, _⟩ => ⟨S4, .i32⟩
  | .hbm, ⟨2, _⟩ => ⟨S5, .i32⟩
  | .hbm, ⟨3, _⟩ => ⟨S32x112, .f32⟩
  | .hbm, ⟨4, _⟩ => ⟨S1536x4096, .bf16⟩
  | .hbm, ⟨5, _⟩ => ⟨S1536x256, .bf16⟩
  | .hbm, ⟨6, _⟩ => ⟨S256x1536, .bf16⟩
  | .hbm, ⟨7, _⟩ => ⟨S256x1536, .bf16⟩
  | .hbm, ⟨8, _⟩ => ⟨S1536x14336, .bf16⟩
  | .hbm, ⟨9, _⟩ => ⟨S1536x14336, .bf16⟩
  | .hbm, ⟨10, _⟩ => ⟨S4096x14336, .fp8e4m3⟩
  | .hbm, ⟨11, _⟩ => ⟨S4x64x14336, .bf16⟩
  | .hbm, ⟨12, _⟩ => ⟨S4x64x14336, .bf16⟩
  | .hbm, ⟨13, _⟩ => ⟨S4x64x14336, .bf16⟩
  | .hbm, ⟨14, _⟩ => ⟨S256x14336, .bf16⟩
  | .hbm, ⟨15, _⟩ => ⟨S256x14336, .bf16⟩
  | .hbm, ⟨16, _⟩ => ⟨S256x14336, .bf16⟩
  | .hbm, ⟨17, _⟩ => ⟨S1536x14336, .fp8e4m3⟩
  | .hbm, ⟨18, _⟩ => ⟨S1536x112, .f32⟩
  | .hbm, ⟨19, _⟩ => ⟨S1536x14336, .fp8e4m3⟩
  | .hbm, ⟨20, _⟩ => ⟨S1536x112, .f32⟩
  | .hbm, ⟨21, _⟩ => ⟨S1536x14336, .bf16⟩
  | .hbm, ⟨22, _⟩ => ⟨S1536x14336, .bf16⟩
  | .hbm, ⟨23, _⟩ => ⟨S256x14336, .f32⟩
  | .hbm, ⟨24, _⟩ => ⟨S256x14336, .f32⟩
  | .hbm, ⟨25, _⟩ => ⟨S1536x256, .bf16⟩
  | .hbm, ⟨26, _⟩ => ⟨S1536x256, .bf16⟩
  | .local _ .vmem, ⟨0, _⟩ => ⟨S1536x4096, .bf16⟩
  | .local _ .vmem, ⟨1, _⟩ => ⟨S1536x256, .bf16⟩
  | .local _ .vmem, ⟨2, _⟩ => ⟨S256x1536, .bf16⟩
  | .local _ .vmem, ⟨3, _⟩ => ⟨S256x1536, .bf16⟩
  | .local _ .vmem, ⟨4, _⟩ => ⟨S1536x512, .bf16⟩
  | .local _ .vmem, ⟨5, _⟩ => ⟨S1536x512, .bf16⟩
  | .local _ .vmem, ⟨6, _⟩ => ⟨S1536x512, .bf16⟩
  | .local _ .vmem, ⟨7, _⟩ => ⟨S1536x512, .bf16⟩
  | .local _ .vmem, ⟨8, _⟩ => ⟨S4096x512, .fp8e4m3⟩
  | .local _ .vmem, ⟨9, _⟩ => ⟨S4096x512, .fp8e4m3⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1536x512, .fp8e4m3⟩
  | .local _ .vmem, ⟨17, _⟩ => ⟨S1536x512, .fp8e4m3⟩
  | .local _ .vmem, ⟨18, _⟩ => ⟨S1536x112, .f32⟩
  | .local _ .vmem, ⟨19, _⟩ => ⟨S1536x512, .fp8e4m3⟩
  | .local _ .vmem, ⟨20, _⟩ => ⟨S1536x512, .fp8e4m3⟩
  | .local _ .vmem, ⟨21, _⟩ => ⟨S1536x112, .f32⟩
  | .local _ .vmem, ⟨22, _⟩ => ⟨S1536x512, .bf16⟩
  | .local _ .vmem, ⟨23, _⟩ => ⟨S1536x512, .bf16⟩
  | .local _ .vmem, ⟨24, _⟩ => ⟨S1536x512, .bf16⟩
  | .local _ .vmem, ⟨25, _⟩ => ⟨S1536x512, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S1536x256, .bf16⟩
  | .local _ .vmem, ⟨31, _⟩ => ⟨S1536x256, .bf16⟩
  | .local _ .vmem, ⟨32, _⟩ => ⟨S4096x512, .bf16⟩
  | .local _ .vmem, ⟨33, _⟩ => ⟨S1536x512, .bf16⟩
  | .local _ .vmem, ⟨34, _⟩ => ⟨S1536x512, .bf16⟩
  | .local _ .vmem, ⟨35, _⟩ => ⟨S1536x256, .f32⟩
  | .local _ .vmem, ⟨36, _⟩ => ⟨S1536x256, .f32⟩
  | .local _ .smem, ⟨0, _⟩ => ⟨S4, .f32⟩
  | .local _ .smem, ⟨1, _⟩ => ⟨S4, .i32⟩
  | .local _ .smem, ⟨2, _⟩ => ⟨S5, .i32⟩
  | .local _ .smem, ⟨3, _⟩ => ⟨S32x112, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg23_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem23_0 : DmaSem sig := 35

abbrev nD : Nat := 1
abbrev τ : Topo := Topo.v7x

variable {F : FTy → Type} [FloatOps F]

abbrev grid0 : Pipeline.Grid := ⟨1, ![28], ![false]⟩

def k0_off1 (i : grid0.Coords) (c0_i32_1 : BitVec 32) : Fin 2 → Nat :=
  let c0 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  ![0, v5.toNat]
def k0_off2 (i : grid0.Coords) (c0_i32_18 : BitVec 32) : Fin 2 → Nat :=
  let c1 : Index := 1#32
  let arg0 : BitVec 32 := BitVec.ofNat 32 (i 0).val
  let c4_i32 : BitVec 32 := 4#32
  let v3 : BitVec 32 := Scalar.muli arg0 c4_i32
  let v48 : BitVec 32 := Scalar.addi v3 c0_i32_18
  let v49 : Index := Scalar.indexCast v48
  ![1, v49.toNat]
def k0_off3 (i : grid0.Coords) (c0_i32_41 : BitVec 32) : Fin 2 → Nat :=
  let c2 : Index := 2#32
  let arg0 : BitVec 32 := BitVec.ofNat 32 (i 0).val
  let c4_i32 : BitVec 32 := 4#32
  let v3 : BitVec 32 := Scalar.muli arg0 c4_i32
  let v92 : BitVec 32 := Scalar.addi v3 c0_i32_41
  let v93 : Index := Scalar.indexCast v92
  ![2, v93.toNat]
def k0_off4 (i : grid0.Coords) (c0_i32_64 : BitVec 32) : Fin 2 → Nat :=
  let c3 : Index := 3#32
  let arg0 : BitVec 32 := BitVec.ofNat 32 (i 0).val
  let c4_i32 : BitVec 32 := 4#32
  let v3 : BitVec 32 := Scalar.muli arg0 c4_i32
  let v136 : BitVec 32 := Scalar.addi v3 c0_i32_64
  let v137 : Index := Scalar.indexCast v136
  ![3, v137.toNat]
def k0_off5 (i : grid0.Coords) (c0_i32_87 : BitVec 32) : Fin 2 → Nat :=
  let c4 : Index := 4#32
  let arg0 : BitVec 32 := BitVec.ofNat 32 (i 0).val
  let c4_i32 : BitVec 32 := 4#32
  let v3 : BitVec 32 := Scalar.muli arg0 c4_i32
  let v180 : BitVec 32 := Scalar.addi v3 c0_i32_87
  let v181 : Index := Scalar.indexCast v180
  ![4, v181.toNat]
def k0_off6 (i : grid0.Coords) (c0_i32_109 : BitVec 32) : Fin 2 → Nat :=
  let c5 : Index := 5#32
  let arg0 : BitVec 32 := BitVec.ofNat 32 (i 0).val
  let c4_i32 : BitVec 32 := 4#32
  let v3 : BitVec 32 := Scalar.muli arg0 c4_i32
  let v224 : BitVec 32 := Scalar.addi v3 c0_i32_109
  let v225 : Index := Scalar.indexCast v224
  ![5, v225.toNat]
def k0_off7 (i : grid0.Coords) (c0_i32_131 : BitVec 32) : Fin 2 → Nat :=
  let c6 : Index := 6#32
  let arg0 : BitVec 32 := BitVec.ofNat 32 (i 0).val
  let c4_i32 : BitVec 32 := 4#32
  let v3 : BitVec 32 := Scalar.muli arg0 c4_i32
  let v268 : BitVec 32 := Scalar.addi v3 c0_i32_131
  let v269 : Index := Scalar.indexCast v268
  ![6, v269.toNat]
def k0_off8 (i : grid0.Coords) (c0_i32_153 : BitVec 32) : Fin 2 → Nat :=
  let c7 : Index := 7#32
  let arg0 : BitVec 32 := BitVec.ofNat 32 (i 0).val
  let c4_i32 : BitVec 32 := 4#32
  let v3 : BitVec 32 := Scalar.muli arg0 c4_i32
  let v312 : BitVec 32 := Scalar.addi v3 c0_i32_153
  let v313 : Index := Scalar.indexCast v312
  ![7, v313.toNat]
def k0_off9 (i : grid0.Coords) (c0_i32_175 : BitVec 32) : Fin 2 → Nat :=
  let c8 : Index := 8#32
  let arg0 : BitVec 32 := BitVec.ofNat 32 (i 0).val
  let c4_i32 : BitVec 32 := 4#32
  let v3 : BitVec 32 := Scalar.muli arg0 c4_i32
  let v356 : BitVec 32 := Scalar.addi v3 c0_i32_175
  let v357 : Index := Scalar.indexCast v356
  ![8, v357.toNat]
def k0_off10 (i : grid0.Coords) (c0_i32_197 : BitVec 32) : Fin 2 → Nat :=
  let c9 : Index := 9#32
  let arg0 : BitVec 32 := BitVec.ofNat 32 (i 0).val
  let c4_i32 : BitVec 32 := 4#32
  let v3 : BitVec 32 := Scalar.muli arg0 c4_i32
  let v400 : BitVec 32 := Scalar.addi v3 c0_i32_197
  let v401 : Index := Scalar.indexCast v400
  ![9, v401.toNat]
def k0_off11 (i : grid0.Coords) (c0_i32_219 : BitVec 32) : Fin 2 → Nat :=
  let c10 : Index := 10#32
  let arg0 : BitVec 32 := BitVec.ofNat 32 (i 0).val
  let c4_i32 : BitVec 32 := 4#32
  let v3 : BitVec 32 := Scalar.muli arg0 c4_i32
  let v444 : BitVec 32 := Scalar.addi v3 c0_i32_219
  let v445 : Index := Scalar.indexCast v444
  ![10, v445.toNat]
def k0_off12 (i : grid0.Coords) (c0_i32_241 : BitVec 32) : Fin 2 → Nat :=
  let c11 : Index := 11#32
  let arg0 : BitVec 32 := BitVec.ofNat 32 (i 0).val
  let c4_i32 : BitVec 32 := 4#32
  let v3 : BitVec 32 := Scalar.muli arg0 c4_i32
  let v488 : BitVec 32 := Scalar.addi v3 c0_i32_241
  let v489 : Index := Scalar.indexCast v488
  ![11, v489.toNat]
def k0_off13 (i : grid0.Coords) (c0_i32_263 : BitVec 32) : Fin 2 → Nat :=
  let c12 : Index := 12#32
  let arg0 : BitVec 32 := BitVec.ofNat 32 (i 0).val
  let c4_i32 : BitVec 32 := 4#32
  let v3 : BitVec 32 := Scalar.muli arg0 c4_i32
  let v532 : BitVec 32 := Scalar.addi v3 c0_i32_263
  let v533 : Index := Scalar.indexCast v532
  ![12, v533.toNat]
def k0_off14 (i : grid0.Coords) (c0_i32_285 : BitVec 32) : Fin 2 → Nat :=
  let c13 : Index := 13#32
  let arg0 : BitVec 32 := BitVec.ofNat 32 (i 0).val
  let c4_i32 : BitVec 32 := 4#32
  let v3 : BitVec 32 := Scalar.muli arg0 c4_i32
  let v576 : BitVec 32 := Scalar.addi v3 c0_i32_285
  let v577 : Index := Scalar.indexCast v576
  ![13, v577.toNat]
def k0_off15 (i : grid0.Coords) (c0_i32_307 : BitVec 32) : Fin 2 → Nat :=
  let c14 : Index := 14#32
  let arg0 : BitVec 32 := BitVec.ofNat 32 (i 0).val
  let c4_i32 : BitVec 32 := 4#32
  let v3 : BitVec 32 := Scalar.muli arg0 c4_i32
  let v620 : BitVec 32 := Scalar.addi v3 c0_i32_307
  let v621 : Index := Scalar.indexCast v620
  ![14, v621.toNat]
def k0_off16 (i : grid0.Coords) (c0_i32_329 : BitVec 32) : Fin 2 → Nat :=
  let c15 : Index := 15#32
  let arg0 : BitVec 32 := BitVec.ofNat 32 (i 0).val
  let c4_i32 : BitVec 32 := 4#32
  let v3 : BitVec 32 := Scalar.muli arg0 c4_i32
  let v664 : BitVec 32 := Scalar.addi v3 c0_i32_329
  let v665 : Index := Scalar.indexCast v664
  ![15, v665.toNat]
def k0_off17 (i : grid0.Coords) (c0_i32_351 : BitVec 32) : Fin 2 → Nat :=
  let c16 : Index := 16#32
  let arg0 : BitVec 32 := BitVec.ofNat 32 (i 0).val
  let c4_i32 : BitVec 32 := 4#32
  let v3 : BitVec 32 := Scalar.muli arg0 c4_i32
  let v708 : BitVec 32 := Scalar.addi v3 c0_i32_351
  let v709 : Index := Scalar.indexCast v708
  ![16, v709.toNat]
def k0_off18 (i : grid0.Coords) (c0_i32_373 : BitVec 32) : Fin 2 → Nat :=
  let c17 : Index := 17#32
  let arg0 : BitVec 32 := BitVec.ofNat 32 (i 0).val
  let c4_i32 : BitVec 32 := 4#32
  let v3 : BitVec 32 := Scalar.muli arg0 c4_i32
  let v752 : BitVec 32 := Scalar.addi v3 c0_i32_373
  let v753 : Index := Scalar.indexCast v752
  ![17, v753.toNat]
def k0_off19 (i : grid0.Coords) (c0_i32_395 : BitVec 32) : Fin 2 → Nat :=
  let c18 : Index := 18#32
  let arg0 : BitVec 32 := BitVec.ofNat 32 (i 0).val
  let c4_i32 : BitVec 32 := 4#32
  let v3 : BitVec 32 := Scalar.muli arg0 c4_i32
  let v796 : BitVec 32 := Scalar.addi v3 c0_i32_395
  let v797 : Index := Scalar.indexCast v796
  ![18, v797.toNat]
def k0_off20 (i : grid0.Coords) (c0_i32_417 : BitVec 32) : Fin 2 → Nat :=
  let c19 : Index := 19#32
  let arg0 : BitVec 32 := BitVec.ofNat 32 (i 0).val
  let c4_i32 : BitVec 32 := 4#32
  let v3 : BitVec 32 := Scalar.muli arg0 c4_i32
  let v840 : BitVec 32 := Scalar.addi v3 c0_i32_417
  let v841 : Index := Scalar.indexCast v840
  ![19, v841.toNat]
def k0_off21 (i : grid0.Coords) (c0_i32_439 : BitVec 32) : Fin 2 → Nat :=
  let c20 : Index := 20#32
  let arg0 : BitVec 32 := BitVec.ofNat 32 (i 0).val
  let c4_i32 : BitVec 32 := 4#32
  let v3 : BitVec 32 := Scalar.muli arg0 c4_i32
  let v884 : BitVec 32 := Scalar.addi v3 c0_i32_439
  let v885 : Index := Scalar.indexCast v884
  ![20, v885.toNat]
def k0_off22 (i : grid0.Coords) (c0_i32_461 : BitVec 32) : Fin 2 → Nat :=
  let c21 : Index := 21#32
  let arg0 : BitVec 32 := BitVec.ofNat 32 (i 0).val
  let c4_i32 : BitVec 32 := 4#32
  let v3 : BitVec 32 := Scalar.muli arg0 c4_i32
  let v928 : BitVec 32 := Scalar.addi v3 c0_i32_461
  let v929 : Index := Scalar.indexCast v928
  ![21, v929.toNat]
def k0_off23 (i : grid0.Coords) (c0_i32_483 : BitVec 32) : Fin 2 → Nat :=
  let c22 : Index := 22#32
  let arg0 : BitVec 32 := BitVec.ofNat 32 (i 0).val
  let c4_i32 : BitVec 32 := 4#32
  let v3 : BitVec 32 := Scalar.muli arg0 c4_i32
  let v972 : BitVec 32 := Scalar.addi v3 c0_i32_483
  let v973 : Index := Scalar.indexCast v972
  ![22, v973.toNat]
def k0_off24 (i : grid0.Coords) (c0_i32_505 : BitVec 32) : Fin 2 → Nat :=
  let c23 : Index := 23#32
  let arg0 : BitVec 32 := BitVec.ofNat 32 (i 0).val
  let c4_i32 : BitVec 32 := 4#32
  let v3 : BitVec 32 := Scalar.muli arg0 c4_i32
  let v1016 : BitVec 32 := Scalar.addi v3 c0_i32_505
  let v1017 : Index := Scalar.indexCast v1016
  ![23, v1017.toNat]
def k0_off25 (i : grid0.Coords) (c0_i32_527 : BitVec 32) : Fin 2 → Nat :=
  let c24 : Index := 24#32
  let arg0 : BitVec 32 := BitVec.ofNat 32 (i 0).val
  let c4_i32 : BitVec 32 := 4#32
  let v3 : BitVec 32 := Scalar.muli arg0 c4_i32
  let v1060 : BitVec 32 := Scalar.addi v3 c0_i32_527
  let v1061 : Index := Scalar.indexCast v1060
  ![24, v1061.toNat]
def k0_off26 (i : grid0.Coords) (c0_i32_549 : BitVec 32) : Fin 2 → Nat :=
  let c25 : Index := 25#32
  let arg0 : BitVec 32 := BitVec.ofNat 32 (i 0).val
  let c4_i32 : BitVec 32 := 4#32
  let v3 : BitVec 32 := Scalar.muli arg0 c4_i32
  let v1104 : BitVec 32 := Scalar.addi v3 c0_i32_549
  let v1105 : Index := Scalar.indexCast v1104
  ![25, v1105.toNat]
def k0_off27 (i : grid0.Coords) (c0_i32_571 : BitVec 32) : Fin 2 → Nat :=
  let c26 : Index := 26#32
  let arg0 : BitVec 32 := BitVec.ofNat 32 (i 0).val
  let c4_i32 : BitVec 32 := 4#32
  let v3 : BitVec 32 := Scalar.muli arg0 c4_i32
  let v1148 : BitVec 32 := Scalar.addi v3 c0_i32_571
  let v1149 : Index := Scalar.indexCast v1148
  ![26, v1149.toNat]
def k0_off28 (i : grid0.Coords) (c0_i32_593 : BitVec 32) : Fin 2 → Nat :=
  let c27 : Index := 27#32
  let arg0 : BitVec 32 := BitVec.ofNat 32 (i 0).val
  let c4_i32 : BitVec 32 := 4#32
  let v3 : BitVec 32 := Scalar.muli arg0 c4_i32
  let v1192 : BitVec 32 := Scalar.addi v3 c0_i32_593
  let v1193 : Index := Scalar.indexCast v1192
  ![27, v1193.toNat]
def k0_off29 (i : grid0.Coords) (c0_i32_615 : BitVec 32) : Fin 2 → Nat :=
  let c28 : Index := 28#32
  let arg0 : BitVec 32 := BitVec.ofNat 32 (i 0).val
  let c4_i32 : BitVec 32 := 4#32
  let v3 : BitVec 32 := Scalar.muli arg0 c4_i32
  let v1236 : BitVec 32 := Scalar.addi v3 c0_i32_615
  let v1237 : Index := Scalar.indexCast v1236
  ![28, v1237.toNat]
def k0_off30 (i : grid0.Coords) (c0_i32_637 : BitVec 32) : Fin 2 → Nat :=
  let c29 : Index := 29#32
  let arg0 : BitVec 32 := BitVec.ofNat 32 (i 0).val
  let c4_i32 : BitVec 32 := 4#32
  let v3 : BitVec 32 := Scalar.muli arg0 c4_i32
  let v1280 : BitVec 32 := Scalar.addi v3 c0_i32_637
  let v1281 : Index := Scalar.indexCast v1280
  ![29, v1281.toNat]
def k0_off31 (i : grid0.Coords) (c0_i32_659 : BitVec 32) : Fin 2 → Nat :=
  let c30 : Index := 30#32
  let arg0 : BitVec 32 := BitVec.ofNat 32 (i 0).val
  let c4_i32 : BitVec 32 := 4#32
  let v3 : BitVec 32 := Scalar.muli arg0 c4_i32
  let v1324 : BitVec 32 := Scalar.addi v3 c0_i32_659
  let v1325 : Index := Scalar.indexCast v1324
  ![30, v1325.toNat]
def k0_off32 (i : grid0.Coords) (c0_i32_681 : BitVec 32) : Fin 2 → Nat :=
  let c31 : Index := 31#32
  let arg0 : BitVec 32 := BitVec.ofNat 32 (i 0).val
  let c4_i32 : BitVec 32 := 4#32
  let v3 : BitVec 32 := Scalar.muli arg0 c4_i32
  let v1368 : BitVec 32 := Scalar.addi v3 c0_i32_681
  let v1369 : Index := Scalar.indexCast v1368
  ![31, v1369.toNat]
def k0_cond2 (i : grid0.Coords) : BitVec 1 :=
  let arg0 : BitVec 32 := BitVec.ofNat 32 (i 0).val
  let c27_i32 : BitVec 32 := 27#32
  let v4638 : BitVec 1 := Scalar.cmpi .eq arg0 c27_i32
  let v4639 : BitVec 32 := Scalar.extui v4638
  let c0_i32_2021 : BitVec 32 := 0#32
  let v4640 : BitVec 1 := Scalar.cmpi .ne v4639 c0_i32_2021
  v4640

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S32x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1536x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1536x112 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1536x512 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1536x112 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1536x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1536x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1536x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1536x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceBwdIdeal.lean ====
abbrev S4 : Shape := ⟨1, ![4]⟩
abbrev S5 : Shape := ⟨1, ![5]⟩
abbrev S32x112 : Shape := ⟨2, ![32, 112]⟩
abbrev S1536x4096 : Shape := ⟨2, ![1536, 4096]⟩
abbrev S1536x256 : Shape := ⟨2, ![1536, 256]⟩
abbrev S256x1536 : Shape := ⟨2, ![256, 1536]⟩
abbrev S1536x14336 : Shape := ⟨2, ![1536, 14336]⟩
abbrev S4096x14336 : Shape := ⟨2, ![4096, 14336]⟩
abbrev S4x64x14336 : Shape := ⟨3, ![4, 64, 14336]⟩
abbrev S4x64 : Shape := ⟨2, ![4, 64]⟩
abbrev S256 : Shape := ⟨1, ![256]⟩
abbrev S256x1 : Shape := ⟨2, ![256, 1]⟩
abbrev S32x1x112x1 : Shape := ⟨4, ![32, 1, 112, 1]⟩
abbrev S32x128x112x128 : Shape := ⟨4, ![32, 128, 112, 128]⟩
abbrev S256x14336 : Shape := ⟨2, ![256, 14336]⟩

abbrev nBuf : Space → Nat
  | .hbm => 24
  | .vmem => 12
  | .smem => 0
  | _ => 0

abbrev bufTy : (tb : Table) → Fin (tcTables nBuf tb) → BufTy
  | .hbm, ⟨0, _⟩ => ⟨S4, .f32⟩
  | .hbm, ⟨1, _⟩ => ⟨S4, .i32⟩
  | .hbm, ⟨2, _⟩ => ⟨S5, .i32⟩
  | .hbm, ⟨3, _⟩ => ⟨S32x112, .f32⟩
  | .hbm, ⟨4, _⟩ => ⟨S1536x4096, .bf16⟩
  | .hbm, ⟨5, _⟩ => ⟨S1536x256, .bf16⟩
  | .hbm, ⟨6, _⟩ => ⟨S256x1536, .bf16⟩
  | .hbm, ⟨7, _⟩ => ⟨S256x1536, .bf16⟩
  | .hbm, ⟨8, _⟩ => ⟨S1536x14336, .bf16⟩
  | .hbm, ⟨9, _⟩ => ⟨S1536x14336, .bf16⟩
  | .hbm, ⟨10, _⟩ => ⟨S4096x14336, .fp8e4m3⟩
  | .hbm, ⟨11, _⟩ => ⟨S4x64x14336, .bf16⟩
  | .hbm, ⟨12, _⟩ => ⟨S4x64x14336, .bf16⟩
  | .hbm, ⟨13, _⟩ => ⟨S4x64x14336, .bf16⟩
  | .hbm, ⟨14, _⟩ => ⟨S4x64, .f32⟩
  | .hbm, ⟨15, _⟩ => ⟨S256, .f32⟩
  | .hbm, ⟨16, _⟩ => ⟨S256x1, .f32⟩
  | .hbm, ⟨17, _⟩ => ⟨S32x112, .bf16⟩
  | .hbm, ⟨18, _⟩ => ⟨S32x1x112x1, .bf16⟩
  | .hbm, ⟨19, _⟩ => ⟨S32x128x112x128, .bf16⟩
  | .hbm, ⟨20, _⟩ => ⟨S4096x14336, .bf16⟩
  | .hbm, ⟨21, _⟩ => ⟨S256x14336, .bf16⟩
  | .hbm, ⟨22, _⟩ => ⟨S256x14336, .f32⟩
  | .hbm, ⟨23, _⟩ => ⟨S256x14336, .f32⟩
  | .local _ .vmem, ⟨0, _⟩ => ⟨S256x1, .f32⟩
  | .local _ .vmem, ⟨1, _⟩ => ⟨S4096x14336, .bf16⟩
  | .local _ .vmem, ⟨2, _⟩ => ⟨S1536x4096, .bf16⟩
  | .local _ .vmem, ⟨3, _⟩ => ⟨S1536x256, .bf16⟩
  | .local _ .vmem, ⟨4, _⟩ => ⟨S256x1536, .bf16⟩
  | .local _ .vmem, ⟨5, _⟩ => ⟨S256x1536, .bf16⟩
  | .local _ .vmem, ⟨6, _⟩ => ⟨S1536x14336, .bf16⟩
  | .local _ .vmem, ⟨7, _⟩ => ⟨S1536x14336, .bf16⟩
  | .local _ .vmem, ⟨8, _⟩ => ⟨S4096x14336, .fp8e4m3⟩
  | .local _ .vmem, ⟨9, _⟩ => ⟨S256x14336, .bf16⟩
  | .local _ .vmem, ⟨10, _⟩ => ⟨S256x14336, .f32⟩
  | .local _ .vmem, ⟨11, _⟩ => ⟨S256x14336, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x14336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x14336 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x14336 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x14336 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x14336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Tiles.lean ====
/-
  Lemmas shared by the value proofs of the kernel's calls: a weight block dequantised 128 × 128 at a time into a scratch buffer, and an
  accumulator updated one 512 × 256 tile at a time.
-/
module

public import Idealize.ShloMosaic.Lib.Pipeline.ValueKit
public import Idealize.ShloMosaic.Lib.Pipeline.ReadBack
public import Idealize.ShloMosaic.Lib.Pointwise
public import Idealize.ShloMosaic.Lib.WholeRead

@[expose] public section

set_option maxRecDepth 16384

noncomputable section

namespace Cert.Tiles

open Idealize.ShloMosaic Idealize.ShloMosaic.TcCoe

/-- A store list whose pieces are all blocks of `G` and cover the buffer leaves `G`. -/
theorem canon_eq_of_piecesOf {s : Shape} {e : EltTy} {Val : EltTy → Type} [∀ e, Nonempty (Val e)] (G : s.Idx → Val e)
    (L : List (View.Piece Val s e)) (h : View.PiecesOf G L) (hc : ∀ y, ∃ p ∈ L, y ∈ p.1.set) : View.canon L = G := by
  funext y
  have := View.canon_append_of_piecesOf G [] L h y (hc y)
  rwa [List.append_nil] at this

/-- A store list whose last `n` stores are blocks of `G` and cover the buffer leaves `G`, whatever was stored before. -/
theorem canon_eq_of_take {s : Shape} {e : EltTy} {Val : EltTy → Type} [∀ e, Nonempty (Val e)] (G : s.Idx → Val e) (n : ℕ)
    (L : List (View.Piece Val s e)) (h : View.PiecesOf G (L.take n)) (hc : ∀ y, ∃ p ∈ L.take n, y ∈ p.1.set) : View.canon L = G := by
  funext y
  have := View.canon_append_of_piecesOf G (L.drop n) (L.take n) h y (hc y)
  rwa [List.take_append_drop] at this

/-- A block that starts at `init + term` at the first point of every run of `J` and adds `term` at the others: at the last point of a run it is
    the run's `init` plus its `J` terms. -/
theorem run_sum {N : ℕ} {ι M : Type} [AddCommMonoid M] (f : (n : ℕ) → n < N → ι → M) (J : ℕ) [NeZero J] (init term : Fin N → ι → M)
    (h0 : ∀ t : Fin N, t.val % J = 0 → ∀ i, f t.val t.isLt i = init t i + term t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) :
    f t.val t.isLt i = init ⟨J * (t.val / J), Nat.lt_of_le_of_lt (Nat.mul_div_le _ _) t.isLt⟩ i
      + ∑ s : Fin J, term ⟨J * (t.val / J) + s.val, Pipeline.run_point_lt_of_flush t hr s⟩ i := by
  rw [Pipeline.eq_sum_fin_of_reset_step_apply_of_flush f J (fun _ => 0) (fun t i => (if t.val % J = 0 then init t i else 0) + term t i)
    (fun t h i => by rw [h0 t h i, if_pos h, zero_add]) (fun t h i => by rw [hs t h i, if_neg h, zero_add]) t hr i, zero_add, Finset.sum_add_distrib]
  congr 1
  refine (Finset.sum_eq_single (0 : Fin J) (fun s _ hne => if_neg ?_) (fun h => absurd (Finset.mem_univ _) h)).trans ?_
  · show ¬ (J * (t.val / J) + s.val) % J = 0
    rw [Nat.mul_add_mod, Nat.mod_eq_of_lt s.isLt]
    exact fun h => hne (Fin.ext h)
  · have e : (⟨J * (t.val / J) + (0 : Fin J).val, Pipeline.run_point_lt_of_flush t hr 0⟩ : Fin N)
        = ⟨J * (t.val / J), Nat.lt_of_le_of_lt (Nat.mul_div_le _ _) t.isLt⟩ := Fin.ext (by simp)
    rw [if_pos (by simp), e]

/-- The scale at row `r` and column `c` of a table of block scales. -/
def scAt {P Q : ℕ} (sc : (⟨2, ![P, Q]⟩ : Shape).Idx → EReal) (r c : ℕ) : EReal :=
  if h : r < P ∧ c < Q then sc (ix2 ⟨r, h.1⟩ ⟨c, h.2⟩) else 0

/-- A block of weights with each 128 × 128 tile under its own scale; the block's first tile has its scale at row `b0` and column `b1`. -/
def deq {P Q M N : ℕ} (sc : (⟨2, ![P, Q]⟩ : Shape).Idx → EReal) (w : (⟨2, ![M, N]⟩ : Shape).Idx → EReal) (b0 b1 : ℕ) :
    (⟨2, ![M, N]⟩ : Shape).Idx → EReal :=
  fun y => w y * scAt sc (b0 + (y 0).val / 128) (b1 + (y 1).val / 128)

/-- One dequantised tile, as the kernel's body spells it. -/
def tile (h1 : FTy.bits .fp8e4m3 < FTy.bits .bf16) (h2 : FTy.bits .bf16 < FTy.bits .f32)
    (h3 : (⟨2, ![128, 128]⟩ : Shape).ShapeCasts ⟨2, ![128, 128]⟩) (s : Elt Ideal .f32) (v : Vec Ideal ⟨2, ![128, 128]⟩ .fp8e4m3) :
    FVec Ideal ⟨2, ![128, 128]⟩ .bf16 :=
  shapeCast ⟨2, ![128, 128]⟩ (mulf (extf .bf16 v h1) (truncf .bf16 (broadcast ⟨2, ![128, 128]⟩ s) h2)) h3

theorem tile_apply (h1 h2 h3) (s : Elt Ideal .f32) (v : Vec Ideal ⟨2, ![128, 128]⟩ .fp8e4m3) (x) :
    (tile h1 h2 h3 s v x : EReal) = (v x : EReal) * (s : EReal) := by
  pointwise [tile]

/-- A stored tile is a block of the dequantised weights. -/
theorem tile_eq_deq {P Q M N : ℕ} (sc : (⟨2, ![P, Q]⟩ : Shape).Idx → EReal) (w : (⟨2, ![M, N]⟩ : Shape).Idx → EReal) (b0 b1 a b : ℕ)
    (h1 h2 h3) (s : Elt Ideal .f32) (v : Vec Ideal ⟨2, ![128, 128]⟩ .fp8e4m3) (inb)
    (hs : ∀ h : b0 + a < P ∧ b1 + b < Q, (s : EReal) = sc (ix2 ⟨_, h.1⟩ ⟨_, h.2⟩)) (hP : b0 + a < P) (hQ : b1 + b < Q)
    (hv : ∀ x, (v x : EReal) = w ((Rect.unit (s := ⟨2, ![M, N]⟩) ![128 * a, 128 * b] ![128, 128] inb).emb x)) (x) :
    (tile h1 h2 h3 s v x : EReal) = deq sc w b0 b1 ((Rect.unit (s := ⟨2, ![M, N]⟩) ![128 * a, 128 * b] ![128, 128] inb).emb x) := by
  rw [tile_apply, hv]
  unfold deq
  congr 1
  have e0 : ((Rect.unit (s := ⟨2, ![M, N]⟩) ![128 * a, 128 * b] ![128, 128] inb).emb x 0).val = 128 * a + 1 * (x 0).val := rfl
  have e1 : ((Rect.unit (s := ⟨2, ![M, N]⟩) ![128 * a, 128 * b] ![128, 128] inb).emb x 1).val = 128 * b + 1 * (x 1).val := rfl
  have x0 : (x 0).val < 128 := (x 0).isLt
  have x1 : (x 1).val < 128 := (x 1).isLt
  have d0 : b0 + ((Rect.unit (s := ⟨2, ![M, N]⟩) ![128 * a, 128 * b] ![128, 128] inb).emb x 0).val / 128 = b0 + a := by rw [e0]; omega
  have d1 : b1 + ((Rect.unit (s := ⟨2, ![M, N]⟩) ![128 * a, 128 * b] ![128, 128] inb).emb x 1).val / 128 = b1 + b := by rw [e1]; omega
  rw [d0, d1]
  unfold scAt
  rw [dif_pos ⟨hP, hQ⟩]
  exact hs ⟨hP, hQ⟩

end Cert.Tiles
-- ==== Proof.DownBody.lean ====
/-
  The body of the down projection, point by point: the dequantised weight block, the running block, and the output block the last point of a
  run writes.
-/
module

public import proofs.«01_k».proof.Proof.Gen.DownIdeal.Value
public import proofs.«01_k».proof.Proof.Tiles

@[expose] public section

set_option maxRecDepth 16384

noncomputable section

namespace Cert.DownIdeal.Val

open Cert.DownIdeal Cert.DownIdeal.Gen Idealize.ShloMosaic Idealize.ShloMosaic.TcCoe Cert.Tiles
open Idealize.ShloMosaic.Pipeline (Dat)
open Idealize.ShloMosaic.Tactic

/-- The tile of a weight block at row `a` and column `b` of tiles, read and scaled by the body. -/
theorem piece {mr : Memref sig .tc .smem S32x112 .f32} (hmr : mr.IsWhole) {mw : Memref sig .tc .vmem S1024x1024 .fp8e4m3} (hmw : mw.IsWhole)
    (i : grid0.Coords) (sc : Vec Ideal S32x112 .f32) (w : Vec Ideal S1024x1024 .fp8e4m3) (a b : Fin 8) (inbs inb h) (x : S128x128.Idx) :
    tile bitsLt_fp8e4m3_bf16 bitsLt_bf16_f32 shapeCasts_S128x128_S128x128
        (View.readAt (Elt Ideal) mr.view (Rect.unit (s := S32x112) (k0_off1 i (BitVec.ofNat 32 a.val) (BitVec.ofNat 32 b.val)) S1x1.size inbs).toLoadRect (hmr.unread sc)
          (Shape.Idx.first h))
        (View.readAt (Elt Ideal) mw.view (Rect.unit (s := S1024x1024) ![128 * a.val, 128 * b.val] S128x128.size inb).toLoadRect (hmw.unread w)) x
      = deq sc w (8 * (i 0).val) (8 * (i 1).val) ((Rect.unit (s := S1024x1024) ![128 * a.val, 128 * b.val] S128x128.size inb).emb x) := by
  have hi1 : (i 1).val < 14 := (i 1).isLt
  have hi0 : (i 0).val < 4 := (i 0).isLt
  refine tile_eq_deq sc w (8 * (i 0).val) (8 * (i 1).val) a b _ _ _ _ _ inb (fun h' => ?_) (by omega) (by omega) (fun x => ?_) x
  · rw [hmr.readAt_unread]
    congr 1
    have e := k0_off1_eq i a b
    funext ax
    apply Fin.ext
    show (k0_off1 i (BitVec.ofNat 32 a.val) (BitVec.ofNat 32 b.val)) ax + 1 * 0 = _
    rw [e]
    fin_cases ax <;> rfl
  · rw [hmw.readAt_unread]; rfl

theorem scratch (c : Dev nD) (i : grid0.Coords) (mr : Memref sig .tc .smem S32x112 .f32) (hr : mr.IsWhole)
    (mw : Memref sig .tc .vmem S1024x1024 .fp8e4m3) (hw : mw.IsWhole) (sc : Vec Ideal S32x112 .f32) (w : Vec Ideal S1024x1024 .fp8e4m3) :
    View.canon (kernelRun0_B.sl.HS0_64 (F := Ideal) c i mr hr mw hw sc w) = deq sc w (8 * (i 0).val) (8 * (i 1).val) :=
  canon_eq_of_piecesOf _ _
    ⟨piece hr hw i sc w 7 7 _ _ _, piece hr hw i sc w 7 6 _ _ _, piece hr hw i sc w 7 5 _ _ _, piece hr hw i sc w 7 4 _ _ _, piece hr hw i sc w 7 3 _ _ _, piece hr hw i sc w 7 2 _ _ _, piece hr hw i sc w 7 1 _ _ _, piece hr hw i sc w 7 0 _ _ _,
      piece hr hw i sc w 6 7 _ _ _, piece hr hw i sc w 6 6 _ _ _, piece hr hw i sc w 6 5 _ _ _, piece hr hw i sc w 6 4 _ _ _, piece hr hw i sc w 6 3 _ _ _, piece hr hw i sc w 6 2 _ _ _, piece hr hw i sc w 6 1 _ _ _, piece hr hw i sc w 6 0 _ _ _,
      piece hr hw i sc w 5 7 _ _ _, piece hr hw i sc w 5 6 _ _ _, piece hr hw i sc w 5 5 _ _ _, piece hr hw i sc w 5 4 _ _ _, piece hr hw i sc w 5 3 _ _ _, piece hr hw i sc w 5 2 _ _ _, piece hr hw i sc w 5 1 _ _ _, piece hr hw i sc w 5 0 _ _ _,
      piece hr hw i sc w 4 7 _ _ _, piece hr hw i sc w 4 6 _ _ _, piece hr hw i sc w 4 5 _ _ _, piece hr hw i sc w 4 4 _ _ _, piece hr hw i sc w 4 3 _ _ _, piece hr hw i sc w 4 2 _ _ _, piece hr hw i sc w 4 1 _ _ _, piece hr hw i sc w 4 0 _ _ _,
      piece hr hw i sc w 3 7 _ _ _, piece hr hw i sc w 3 6 _ _ _, piece hr hw i sc w 3 5 _ _ _, piece hr hw i sc w 3 4 _ _ _, piece hr hw i sc w 3 3 _ _ _, piece hr hw i sc w 3 2 _ _ _, piece hr hw i sc w 3 1 _ _ _, piece hr hw i sc w 3 0 _ _ _,
      piece hr hw i sc w 2 7 _ _ _, piece hr hw i sc w 2 6 _ _ _, piece hr hw i sc w 2 5 _ _ _, piece hr hw i sc w 2 4 _ _ _, piece hr hw i sc w 2 3 _ _ _, piece hr hw i sc w 2 2 _ _ _, piece hr hw i sc w 2 1 _ _ _, piece hr hw i sc w 2 0 _ _ _,
      piece hr hw i sc w 1 7 _ _ _, piece hr hw i sc w 1 6 _ _ _, piece hr hw i sc w 1 5 _ _ _, piece hr hw i sc w 1 4 _ _ _, piece hr hw i sc w 1 3 _ _ _, piece hr hw i sc w 1 2 _ _ _, piece hr hw i sc w 1 1 _ _ _, piece hr hw i sc w 1 0 _ _ _,
      piece hr hw i sc w 0 7 _ _ _, piece hr hw i sc w 0 6 _ _ _, piece hr hw i sc w 0 5 _ _ _, piece hr hw i sc w 0 4 _ _ _, piece hr hw i sc w 0 3 _ _ _, piece hr hw i sc w 0 2 _ _ _, piece hr hw i sc w 0 1 _ _ _, piece hr hw i sc w 0 0 _ _ _,
      trivial⟩
    (View.cover_of_tiledL _ S128x128.size (by sl_kernel_rfl))

theorem scratchA (c : Dev nD) (i : grid0.Coords) (mr : Memref sig .tc .smem S32x112 .f32) (hr : mr.IsWhole)
    (mw : Memref sig .tc .vmem S1024x1024 .fp8e4m3) (hw : mw.IsWhole) (sc : Vec Ideal S32x112 .f32) (w : Vec Ideal S1024x1024 .fp8e4m3) :
    View.canon (kernelRun0_A.sl.HS0_64 (F := Ideal) c i mr hr mw hw sc w) = deq sc w (8 * (i 0).val) (8 * (i 1).val) :=
  scratch c i mr hr mw hw sc w

theorem scratchC (c : Dev nD) (i : grid0.Coords) (mr : Memref sig .tc .smem S32x112 .f32) (hr : mr.IsWhole)
    (mw : Memref sig .tc .vmem S1024x1024 .fp8e4m3) (hw : mw.IsWhole) (sc : Vec Ideal S32x112 .f32) (w : Vec Ideal S1024x1024 .fp8e4m3) :
    View.canon (kernelRun0_C.sl.HS0_64 (F := Ideal) c i mr hr mw hw sc w) = deq sc w (8 * (i 0).val) (8 * (i 1).val) :=
  scratch c i mr hr mw hw sc w

/-- What one grid point adds to the running block `Z`: the products of its row block with its weight block's rows. -/
def step (Z : Vec Ideal S1536x1024 .f32) (l : Vec Ideal S1536x1024 .bf16) (w : Vec Ideal S1024x1024 .bf16) : Vec Ideal S1536x1024 .f32 := fun y =>
  (Z y + ∑ k : Fin 1024, (l (ix2 (y 0) k) : EReal) * w (ix2 (y 1) k) : EReal)

/-- One tile of the running block with its products added, as the body spells it. -/
def addTile (acc : FVec Ideal S512x256 .f32) (p : FVec Ideal S512x1024 .bf16) (q : FVec Ideal S256x1024 .bf16) : FVec Ideal S512x256 .f32 :=
  shapeCast S512x256 (addf acc (matmul dot_S512x1024_S256x1024_S512x256_1_1_0_0_n_n none p q (constant (F := Ideal) S512x256 .f32 0x00000000#32)))
    shapeCasts_S512x256_S512x256

theorem addTile_apply (acc : FVec Ideal S512x256 .f32) (p : FVec Ideal S512x1024 .bf16) (q : FVec Ideal S256x1024 .bf16) (x : S512x256.Idx) :
    addTile acc p q x = ((acc x : EReal) + ∑ k : Fin 1024, (p (ix2 (x 0) k) : EReal) * q (ix2 (x 1) k) : EReal) := by
  pointwise [addTile]

theorem piece_step {m1 : Memref sig .tc .vmem S1536x1024 .bf16} (hm1 : m1.IsWhole)
    (v1 : View sig .tc .vmem S1024x1024 .bf16) (L1 : List (View.Piece (Elt Ideal) S1024x1024 .bf16)) (Z : Vec Ideal S1536x1024 .f32)
    (l1 : Vec Ideal S1536x1024 .bf16) (w1 : Vec Ideal S1024x1024 .bf16) (h1 : View.canon L1 = w1) (a : Fin 3) (b : Fin 4)
    (acc : Vec Ideal S512x256 .f32) (inb inbl inbw)
    (hacc : acc = View.ld Z (Rect.unit (s := S1536x1024) ![512 * a.val, 256 * b.val] S512x256.size inb)) (x : S512x256.Idx) :
    addTile acc
        (View.readAt (Elt Ideal) m1.view (Rect.unit (s := S1536x1024) ![512 * a.val, 0] S512x1024.size inbl).toLoadRect (hm1.unread l1))
        (v1.readCov L1 (Rect.unit (s := S1024x1024) ![256 * b.val, 0] S256x1024.size inbw).toLoadRect) x
      = step Z l1 w1 ((Rect.unit (s := S1536x1024) ![512 * a.val, 256 * b.val] S512x256.size inb).emb x) := by
  subst hacc h1
  rw [addTile_apply, View.readCov_eq_canon']
  have hx : ∀ (k : Fin 1024), (Rect.unit (s := S1536x1024) ![512 * a.val, 0] S512x1024.size inbl).toLoadRect.idx (ix2 (x 0) k)
      = ix2 (((Rect.unit (s := S1536x1024) ![512 * a.val, 256 * b.val] S512x256.size inb).emb x) 0) k := fun k => by
    funext ax; apply Fin.ext; fin_cases ax
    · rfl
    · show 0 + 1 * k.val = k.val; omega
  have hy : ∀ (k : Fin 1024), (Rect.unit (s := S1024x1024) ![256 * b.val, 0] S256x1024.size inbw).toLoadRect.idx (ix2 (x 1) k)
      = ix2 (((Rect.unit (s := S1536x1024) ![512 * a.val, 256 * b.val] S512x256.size inb).emb x) 1) k := fun k => by
    funext ax; apply Fin.ext; fin_cases ax
    · rfl
    · show 0 + 1 * k.val = k.val; omega
  simp only [hm1.readAt_unread, hx, hy]
  rfl

/-- The output block: the residual's block, plus the running block, plus the adapters' products under their row factor. -/
def last (Z : Vec Ideal S1536x1024 .f32) (xr : Vec Ideal S1536x1024 .bf16) (z : Vec Ideal S1536x256 .bf16) (b : Vec Ideal S256x1024 .bf16)
    (ar : Vec Ideal S1536x128 .f32) : Vec Ideal S1536x1024 .bf16 := fun y =>
  (((xr y : EReal) + Z y) + (ar (ix2 (y 0) ⟨(y 1).val % 128, Nat.mod_lt _ (by decide)⟩) : EReal) * ∑ r : Fin 256, (z (ix2 (y 0) r) : EReal) * b (ix2 r (y 1)) : EReal)

/-- One 128-lane slice of the output block, as the body spells it. -/
def outTile (n : ℕ) (h : S1536x1024.Slices ![0, n] S1536x128) (lo : FVec Ideal S1536x1024 .f32) (xr : FVec Ideal S1536x128 .bf16) (acc ar : FVec Ideal S1536x128 .f32) : FVec Ideal S1536x128 .bf16 :=
  truncf .bf16 (addf (addf (extf .f32 xr bitsLt_bf16_f32) acc)
    (mulf (shapeCast S1536x128 ar shapeCasts_S1536x128_S1536x128) (extractStridedSlice S1536x128 ![0, n] lo h))) bitsLt_bf16_f32

theorem outTile_apply (n : ℕ) (hn : n + 128 ≤ 1024) (h) (lo : FVec Ideal S1536x1024 .f32) (xr : FVec Ideal S1536x128 .bf16) (acc ar : FVec Ideal S1536x128 .f32) (x : S1536x128.Idx) :
    outTile n h lo xr acc ar x = (((xr x : EReal) + acc x) + (ar x : EReal) * lo (ix2 (x 0) ⟨n + (x 1).val, lt_of_lt_of_le (Nat.add_lt_add_left (x 1).isLt n) hn⟩) : EReal) := by
  pointwise [outTile]

theorem adapters (z : Vec Ideal S1536x256 .bf16) (b : Vec Ideal S256x1024 .bf16) (y : S1536x1024.Idx) :
    (k0_pay5 z b y : Ideal .f32) = (∑ r : Fin 256, (z (ix2 (y 0) r) : EReal) * b (ix2 r (y 1)) : EReal) := by
  pointwise [k0_pay5]

theorem piece_last {m3 : Memref sig .tc .vmem S1536x1024 .bf16} (hm3 : m3.IsWhole) {m4 : Memref sig .tc .vmem S1536x256 .bf16} (hm4 : m4.IsWhole)
    {m5 : Memref sig .tc .vmem S256x1024 .bf16} (hm5 : m5.IsWhole) {m6 : Memref sig .tc .vmem S1536x128 .f32} (hm6 : m6.IsWhole)
    (v1 : View sig .tc .vmem S1536x1024 .f32) (L1 : List (View.Piece (Elt Ideal) S1536x1024 .f32)) (Z : Vec Ideal S1536x1024 .f32) (h1 : View.canon L1 = Z)
    (xr : Vec Ideal S1536x1024 .bf16) (z : Vec Ideal S1536x256 .bf16) (bd : Vec Ideal S256x1024 .bf16) (ar : Vec Ideal S1536x128 .f32) (b : Fin 8)
    (inb inb4 inb5 inb6 h) (x : S1536x128.Idx) :
    outTile (128 * b.val) h
        (k0_pay5 (View.readAt (Elt Ideal) m4.view (Rect.unit (s := S1536x256) ![0, 0] S1536x256.size inb4).toLoadRect (hm4.unread z))
          (View.readAt (Elt Ideal) m5.view (Rect.unit (s := S256x1024) ![0, 0] S256x1024.size inb5).toLoadRect (hm5.unread bd)))
        (View.readAt (Elt Ideal) m3.view (Rect.unit (s := S1536x1024) ![0, 128 * b.val] S1536x128.size inb).toLoadRect (hm3.unread xr))
        (v1.readCov L1 (Rect.unit (s := S1536x1024) ![0, 128 * b.val] S1536x128.size inb).toLoadRect)
        (View.readAt (Elt Ideal) m6.view (Rect.unit (s := S1536x128) ![0, 0] S1536x128.size inb6).toLoadRect (hm6.unread ar)) x
      = last Z xr z bd ar ((Rect.unit (s := S1536x1024) ![0, 128 * b.val] S1536x128.size inb).emb x) := by
  subst h1
  have hb : b.val < 8 := b.isLt
  have hx1 : (x 1).val < 128 := (x 1).isLt
  rw [outTile_apply _ (by omega), View.readCov_eq_canon', adapters]
  have e0 : (((Rect.unit (s := S1536x1024) ![0, 128 * b.val] S1536x128.size inb).emb x) 0).val = (x 0).val := by
    show 0 + 1 * (x 0).val = _; omega
  have e1 : (((Rect.unit (s := S1536x1024) ![0, 128 * b.val] S1536x128.size inb).emb x) 1).val = 128 * b.val + (x 1).val := by
    show 128 * b.val + 1 * (x 1).val = _; omega
  simp only [hm3.readAt_unread, hm4.readAt_unread, hm5.readAt_unread, hm6.readAt_unread]
  refine congrArg₂ (fun a b : EReal => a + b) rfl (congrArg₂ (fun a b : EReal => a * b) (congrArg ar ?_)
    (Finset.sum_congr rfl fun k _ => congrArg₂ (fun a b : EReal => a * b) (congrArg z ?_) (congrArg bd ?_)))
  · funext ax; apply Fin.ext; fin_cases ax
    · show 0 + 1 * (x 0).val = _; exact (by omega : 0 + 1 * (x 0).val = (x 0).val).trans e0.symm
    · show 0 + 1 * (x 1).val = (((Rect.unit (s := S1536x1024) ![0, 128 * b.val] S1536x128.size inb).emb x) 1).val % 128; rw [e1]; omega
  · funext ax; apply Fin.ext; fin_cases ax
    · exact (by show 0 + 1 * (x 0).val = (x 0).val; omega : _ = (x 0).val).trans e0.symm
    · show 0 + 1 * k.val = k.val; omega
  · funext ax; apply Fin.ext; fin_cases ax
    · show 0 + 1 * k.val = k.val; omega
    · exact (by show 0 + 1 * (128 * b.val + (x 1).val) = 128 * b.val + (x 1).val; omega : _ = 128 * b.val + (x 1).val).trans e1.symm

variable (m : (ℓ : Loc nD τ sig) → Buf (Elt Ideal) ℓ)

/-- The running block after a point, from the one before it. -/
def next (c : Dev nD) (t : Fin cfg0.N) (Z : Vec Ideal S1536x1024 .f32) : Vec Ideal S1536x1024 .f32 :=
  step Z (iblk m c 1 t) (deq (iblk m c 0 t) (iblk m c 2 t) (8 * (grid0.coords t 0).val) (8 * (grid0.coords t 1).val))

theorem sc_step (c : Dev nD) (t : Fin cfg0.N) (h0 : ¬t.val % 14 = 0) (h1 : ¬t.val % 14 = 13) :
    (outsAt0 m c t.val t.isLt).2 = next m c t (outsAt0 m c (t.val - 1) (Nat.lt_of_le_of_lt (Nat.sub_le _ _) t.isLt)).2 := by
  rw [outsAt0_B m c t h0 h1]
  unfold sout0_B_1
  dsimp only
  rw [View.read_writes_junk_eq_canon]
  generalize (outsAt0 m c (t.val - 1) (Nat.lt_of_le_of_lt (Nat.sub_le _ _) t.isLt)).2 = Z
  refine canon_eq_of_piecesOf _ _ ?_ (scover0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) Z)
  have hw := scratch c (grid0.coords t) (ms0_0 t) (hs0_0 t) (ms0_2 t) (hs0_2 t) (iblk m c 0 t) (iblk m c 2 t)
  have kept : ∀ (a : Fin 3) (b : Fin 4) inb, View.readAt (Elt Ideal) scM0_1.view
        (Rect.unit (s := S1536x1024) ![512 * a.val, 256 * b.val] S512x256.size inb).toLoadRect
        ((Memref.isWhole_whole _ : scM0_1.IsWhole).unread Z)
      = View.ld Z (Rect.unit (s := S1536x1024) ![512 * a.val, 256 * b.val] S512x256.size inb) :=
    fun a b inb => funext fun x => (Memref.isWhole_whole _ : scM0_1.IsWhole).readAt_unread _ _ _
  unfold kernelRun0_B
  exact ⟨piece_step (hs0_1 t) _ _ _ _ _ hw 2 3 _ _ _ _ (kept 2 3 _),
      piece_step (hs0_1 t) _ _ _ _ _ hw 1 3 _ _ _ _ (kept 1 3 _),
      piece_step (hs0_1 t) _ _ _ _ _ hw 0 3 _ _ _ _ (kept 0 3 _),
      piece_step (hs0_1 t) _ _ _ _ _ hw 2 2 _ _ _ _ (kept 2 2 _),
      piece_step (hs0_1 t) _ _ _ _ _ hw 1 2 _ _ _ _ (kept 1 2 _),
      piece_step (hs0_1 t) _ _ _ _ _ hw 0 2 _ _ _ _ (kept 0 2 _),
      piece_step (hs0_1 t) _ _ _ _ _ hw 2 1 _ _ _ _ (kept 2 1 _),
      piece_step (hs0_1 t) _ _ _ _ _ hw 1 1 _ _ _ _ (kept 1 1 _),
      piece_step (hs0_1 t) _ _ _ _ _ hw 0 1 _ _ _ _ (kept 0 1 _),
      piece_step (hs0_1 t) _ _ _ _ _ hw 2 0 _ _ _ _ (kept 2 0 _),
      piece_step (hs0_1 t) _ _ _ _ _ hw 1 0 _ _ _ _ (kept 1 0 _),
      piece_step (hs0_1 t) _ _ _ _ _ hw 0 0 _ _ _ _ (kept 0 0 _),
      trivial⟩

theorem list_last (c : Dev nD) (t : Fin cfg0.N) (Z : Vec Ideal S1536x1024 .f32) :
    View.canon (kernelRun0_C.sl.HS1_12 (F := Ideal) c (grid0.coords t) (ms0_0 t) (hs0_0 t) (ms0_1 t) (hs0_1 t) (ms0_2 t) (hs0_2 t) scM0_0 scM0_1 (Memref.isWhole_whole _) (iblk m c 0 t) (iblk m c 1 t) (iblk m c 2 t) Z) = next m c t Z := by
  refine canon_eq_of_piecesOf _ _ ?_ (View.cover_of_tiledL _ S512x256.size (by sl_kernel_rfl))
  have hw := scratchC c (grid0.coords t) (ms0_0 t) (hs0_0 t) (ms0_2 t) (hs0_2 t) (iblk m c 0 t) (iblk m c 2 t)
  have kept : ∀ (a : Fin 3) (b : Fin 4) inb, View.readAt (Elt Ideal) scM0_1.view
        (Rect.unit (s := S1536x1024) ![512 * a.val, 256 * b.val] S512x256.size inb).toLoadRect
        ((Memref.isWhole_whole _ : scM0_1.IsWhole).unread Z)
      = View.ld Z (Rect.unit (s := S1536x1024) ![512 * a.val, 256 * b.val] S512x256.size inb) :=
    fun a b inb => funext fun x => (Memref.isWhole_whole _ : scM0_1.IsWhole).readAt_unread _ _ _
  exact ⟨piece_step (hs0_1 t) _ _ _ _ _ hw 2 3 _ _ _ _ (kept 2 3 _),
      piece_step (hs0_1 t) _ _ _ _ _ hw 1 3 _ _ _ _ (kept 1 3 _),
      piece_step (hs0_1 t) _ _ _ _ _ hw 0 3 _ _ _ _ (kept 0 3 _),
      piece_step (hs0_1 t) _ _ _ _ _ hw 2 2 _ _ _ _ (kept 2 2 _),
      piece_step (hs0_1 t) _ _ _ _ _ hw 1 2 _ _ _ _ (kept 1 2 _),
      piece_step (hs0_1 t) _ _ _ _ _ hw 0 2 _ _ _ _ (kept 0 2 _),
      piece_step (hs0_1 t) _ _ _ _ _ hw 2 1 _ _ _ _ (kept 2 1 _),
      piece_step (hs0_1 t) _ _ _ _ _ hw 1 1 _ _ _ _ (kept 1 1 _),
      piece_step (hs0_1 t) _ _ _ _ _ hw 0 1 _ _ _ _ (kept 0 1 _),
      piece_step (hs0_1 t) _ _ _ _ _ hw 2 0 _ _ _ _ (kept 2 0 _),
      piece_step (hs0_1 t) _ _ _ _ _ hw 1 0 _ _ _ _ (kept 1 0 _),
      piece_step (hs0_1 t) _ _ _ _ _ hw 0 0 _ _ _ _ (kept 0 0 _),
      trivial⟩

theorem sc_last (c : Dev nD) (t : Fin cfg0.N) (h0 : ¬t.val % 14 = 0) (h1 : t.val % 14 = 13) :
    (outsAt0 m c t.val t.isLt).2 = next m c t (outsAt0 m c (t.val - 1) (Nat.lt_of_le_of_lt (Nat.sub_le _ _) t.isLt)).2 := by
  rw [outsAt0_C m c t h0 h1]
  unfold sout0_C_1
  dsimp only
  rw [View.read_writes_junk_eq_canon]
  exact list_last m c t _

theorem out_last (c : Dev nD) (t : Fin cfg0.N) (h0 : ¬t.val % 14 = 0) (h1 : t.val % 14 = 13) :
    (outsAt0 m c t.val t.isLt).1 = last (outsAt0 m c t.val t.isLt).2 (iblk m c 3 t) (iblk m c 4 t) (iblk m c 5 t) (iblk m c 6 t) := by
  rw [sc_last m c t h0 h1, outsAt0_C m c t h0 h1]
  unfold out0_C_7
  dsimp only
  rw [View.read_writes_junk_eq_canon]
  generalize (outsAt0 m c (t.val - 1) (Nat.lt_of_le_of_lt (Nat.sub_le _ _) t.isLt)).2 = Z
  refine canon_eq_of_piecesOf _ _ ?_ (cover0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) Z)
  have hZ := list_last m c t Z
  unfold kernelRun0_C
  exact ⟨piece_last (hs0_3 t) (hs0_4 t) (hs0_5 t) (hs0_6 t) _ _ _ hZ _ _ _ _ 7 _ _ _ _ _,
      piece_last (hs0_3 t) (hs0_4 t) (hs0_5 t) (hs0_6 t) _ _ _ hZ _ _ _ _ 6 _ _ _ _ _,
      piece_last (hs0_3 t) (hs0_4 t) (hs0_5 t) (hs0_6 t) _ _ _ hZ _ _ _ _ 5 _ _ _ _ _,
      piece_last (hs0_3 t) (hs0_4 t) (hs0_5 t) (hs0_6 t) _ _ _ hZ _ _ _ _ 4 _ _ _ _ _,
      piece_last (hs0_3 t) (hs0_4 t) (hs0_5 t) (hs0_6 t) _ _ _ hZ _ _ _ _ 3 _ _ _ _ _,
      piece_last (hs0_3 t) (hs0_4 t) (hs0_5 t) (hs0_6 t) _ _ _ hZ _ _ _ _ 2 _ _ _ _ _,
      piece_last (hs0_3 t) (hs0_4 t) (hs0_5 t) (hs0_6 t) _ _ _ hZ _ _ _ _ 1 _ _ _ _ _,
      piece_last (hs0_3 t) (hs0_4 t) (hs0_5 t) (hs0_6 t) _ _ _ hZ _ _ _ _ 0 _ _ _ _ _,
      trivial⟩

theorem pay_zero : (k0_pay13 (F := Ideal) : Vec Ideal S1536x1024 .f32) = fun _ => (0 : EReal) := by
  funext y
  pointwise [k0_pay13]

theorem sc_first (c : Dev nD) (t : Fin cfg0.N) (h0 : t.val % 14 = 0) (h1 : ¬t.val % 14 = 13) :
    (outsAt0 m c t.val t.isLt).2 = next m c t (fun _ => (0 : EReal)) := by
  rw [outsAt0_A m c t h0 h1]
  unfold sout0_A_1
  dsimp only
  rw [View.read_writes_junk_eq_canon]
  refine canon_eq_of_take _ 12 _ ?_ (View.cover_of_tiledL _ S512x256.size (by sl_kernel_rfl))
  have hw := scratchA c (grid0.coords t) (ms0_0 t) (hs0_0 t) (ms0_2 t) (hs0_2 t) (iblk m c 0 t) (iblk m c 2 t)
  have hfill : ∀ r : Rect S1536x1024, View.readCov (Val := Elt Ideal) scM0_1.view (kernelRun0_A.sl.HS1_1 (F := Ideal)) r.toLoadRect
      = View.ld (fun _ => (0 : EReal)) r := fun r =>
    (View.readCov_fill _ _ _ _ _ (by decide)).trans (congrArg (View.ld · r) pay_zero)
  have e0 : View.readCov (Val := Elt Ideal) scM0_1.view (kernelRun0_A.sl.HS1_1 (F := Ideal)) (Rect.unit (s := S1536x1024) ![0, 0] S512x256.size inb_S1536x1024_S512x256_0_0).toLoadRect
      = View.ld (fun _ => (0 : EReal)) (Rect.unit (s := S1536x1024) ![0, 0] S512x256.size inb_S1536x1024_S512x256_0_0) := hfill _
  have e1 : View.readCov (Val := Elt Ideal) scM0_1.view (kernelRun0_A.sl.HS1_2 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![512, 0] S512x256.size inb_S1536x1024_S512x256_512_0).toLoadRect
      = View.ld (fun _ => (0 : EReal)) (Rect.unit (s := S1536x1024) ![512, 0] S512x256.size inb_S1536x1024_S512x256_512_0) := by
    iterate 1 refine (View.readCov_skip _ _ _ _ _ (by decide)).trans ?_
    exact hfill _
  have e2 : View.readCov (Val := Elt Ideal) scM0_1.view (kernelRun0_A.sl.HS1_3 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![1024, 0] S512x256.size inb_S1536x1024_S512x256_1024_0).toLoadRect
      = View.ld (fun _ => (0 : EReal)) (Rect.unit (s := S1536x1024) ![1024, 0] S512x256.size inb_S1536x1024_S512x256_1024_0) := by
    iterate 2 refine (View.readCov_skip _ _ _ _ _ (by decide)).trans ?_
    exact hfill _
  have e3 : View.readCov (Val := Elt Ideal) scM0_1.view (kernelRun0_A.sl.HS1_4 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![0, 256] S512x256.size inb_S1536x1024_S512x256_0_256).toLoadRect
      = View.ld (fun _ => (0 : EReal)) (Rect.unit (s := S1536x1024) ![0, 256] S512x256.size inb_S1536x1024_S512x256_0_256) := by
    iterate 3 refine (View.readCov_skip _ _ _ _ _ (by decide)).trans ?_
    exact hfill _
  have e4 : View.readCov (Val := Elt Ideal) scM0_1.view (kernelRun0_A.sl.HS1_5 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![512, 256] S512x256.size inb_S1536x1024_S512x256_512_256).toLoadRect
      = View.ld (fun _ => (0 : EReal)) (Rect.unit (s := S1536x1024) ![512, 256] S512x256.size inb_S1536x1024_S512x256_512_256) := by
    iterate 4 refine (View.readCov_skip _ _ _ _ _ (by decide)).trans ?_
    exact hfill _
  have e5 : View.readCov (Val := Elt Ideal) scM0_1.view (kernelRun0_A.sl.HS1_6 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![1024, 256] S512x256.size inb_S1536x1024_S512x256_1024_256).toLoadRect
      = View.ld (fun _ => (0 : EReal)) (Rect.unit (s := S1536x1024) ![1024, 256] S512x256.size inb_S1536x1024_S512x256_1024_256) := by
    iterate 5 refine (View.readCov_skip _ _ _ _ _ (by decide)).trans ?_
    exact hfill _
  have e6 : View.readCov (Val := Elt Ideal) scM0_1.view (kernelRun0_A.sl.HS1_7 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![0, 512] S512x256.size inb_S1536x1024_S512x256_0_512).toLoadRect
      = View.ld (fun _ => (0 : EReal)) (Rect.unit (s := S1536x1024) ![0, 512] S512x256.size inb_S1536x1024_S512x256_0_512) := by
    iterate 6 refine (View.readCov_skip _ _ _ _ _ (by decide)).trans ?_
    exact hfill _
  have e7 : View.readCov (Val := Elt Ideal) scM0_1.view (kernelRun0_A.sl.HS1_8 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![512, 512] S512x256.size inb_S1536x1024_S512x256_512_512).toLoadRect
      = View.ld (fun _ => (0 : EReal)) (Rect.unit (s := S1536x1024) ![512, 512] S512x256.size inb_S1536x1024_S512x256_512_512) := by
    iterate 7 refine (View.readCov_skip _ _ _ _ _ (by decide)).trans ?_
    exact hfill _
  have e8 : View.readCov (Val := Elt Ideal) scM0_1.view (kernelRun0_A.sl.HS1_9 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![1024, 512] S512x256.size inb_S1536x1024_S512x256_1024_512).toLoadRect
      = View.ld (fun _ => (0 : EReal)) (Rect.unit (s := S1536x1024) ![1024, 512] S512x256.size inb_S1536x1024_S512x256_1024_512) := by
    iterate 8 refine (View.readCov_skip _ _ _ _ _ (by decide)).trans ?_
    exact hfill _
  have e9 : View.readCov (Val := Elt Ideal) scM0_1.view (kernelRun0_A.sl.HS1_10 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![0, 768] S512x256.size inb_S1536x1024_S512x256_0_768).toLoadRect
      = View.ld (fun _ => (0 : EReal)) (Rect.unit (s := S1536x1024) ![0, 768] S512x256.size inb_S1536x1024_S512x256_0_768) := by
    iterate 9 refine (View.readCov_skip _ _ _ _ _ (by decide)).trans ?_
    exact hfill _
  have e10 : View.readCov (Val := Elt Ideal) scM0_1.view (kernelRun0_A.sl.HS1_11 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![512, 768] S512x256.size inb_S1536x1024_S512x256_512_768).toLoadRect
      = View.ld (fun _ => (0 : EReal)) (Rect.unit (s := S1536x1024) ![512, 768] S512x256.size inb_S1536x1024_S512x256_512_768) := by
    iterate 10 refine (View.readCov_skip _ _ _ _ _ (by decide)).trans ?_
    exact hfill _
  have e11 : View.readCov (Val := Elt Ideal) scM0_1.view (kernelRun0_A.sl.HS1_12 (F := Ideal) c (grid0.coords t) (ms0_0 t) (hs0_0 t) (ms0_1 t) (hs0_1 t) (ms0_2 t) (hs0_2 t) scM0_0 scM0_1 (iblk m c 0 t) (iblk m c 1 t) (iblk m c 2 t)) (Rect.unit (s := S1536x1024) ![1024, 768] S512x256.size inb_S1536x1024_S512x256_1024_768).toLoadRect
      = View.ld (fun _ => (0 : EReal)) (Rect.unit (s := S1536x1024) ![1024, 768] S512x256.size inb_S1536x1024_S512x256_1024_768) := by
    iterate 11 refine (View.readCov_skip _ _ _ _ _ (by decide)).trans ?_
    exact hfill _
  unfold kernelRun0_A
  exact ⟨piece_step (hs0_1 t) _ _ _ _ _ hw 2 3 _ _ _ _ e11,
      piece_step (hs0_1 t) _ _ _ _ _ hw 1 3 _ _ _ _ e10,
      piece_step (hs0_1 t) _ _ _ _ _ hw 0 3 _ _ _ _ e9,
      piece_step (hs0_1 t) _ _ _ _ _ hw 2 2 _ _ _ _ e8,
      piece_step (hs0_1 t) _ _ _ _ _ hw 1 2 _ _ _ _ e7,
      piece_step (hs0_1 t) _ _ _ _ _ hw 0 2 _ _ _ _ e6,
      piece_step (hs0_1 t) _ _ _ _ _ hw 2 1 _ _ _ _ e5,
      piece_step (hs0_1 t) _ _ _ _ _ hw 1 1 _ _ _ _ e4,
      piece_step (hs0_1 t) _ _ _ _ _ hw 0 1 _ _ _ _ e3,
      piece_step (hs0_1 t) _ _ _ _ _ hw 2 0 _ _ _ _ e2,
      piece_step (hs0_1 t) _ _ _ _ _ hw 1 0 _ _ _ _ e1,
      piece_step (hs0_1 t) _ _ _ _ _ hw 0 0 _ _ _ _ e0,
      trivial⟩

end Cert.DownIdeal.Val
-- ==== Proof.DownValue.lean ====
/-
  The down projection's result array, as one formula over its arguments.
-/
module

public import proofs.«01_k».proof.Proof.DownBody

@[expose] public section

set_option maxRecDepth 16384

noncomputable section

namespace Cert.DownIdeal.Val

open Cert.DownIdeal Cert.DownIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx_val : ∀ t : Fin cfg0.N, win0_0.index t = ![0, 0] ∧ win0_1.index t = ![0, t.val % 14] ∧ win0_2.index t = ![t.val / 14, t.val % 14]
    ∧ win0_3.index t = ![0, t.val / 14] ∧ win0_4.index t = ![0, 0] ∧ win0_5.index t = ![0, t.val / 14] ∧ win0_6.index t = ![0, 0]
    ∧ win0_7.index t = ![0, t.val / 14] ∧ (grid0.coords t 0).val = t.val / 14 ∧ (grid0.coords t 1).val = t.val % 14 :=
  (by decide +kernel : ∀ t : Fin grid0.N, _)

/-- The layer's output: the residual, plus the product with the scaled weights, plus the adapters' product under its row factor. -/
def total (x : Vec Ideal S1536x4096 .bf16) (ad : Vec Ideal S1536x14336 .bf16) (dc : Vec Ideal S4096x14336 .fp8e4m3) (ds : Vec Ideal S32x112 .f32)
    (z : Vec Ideal S1536x256 .bf16) (b : Vec Ideal S256x4096 .bf16) (al : Vec Ideal S1536x1 .f32) : Vec Ideal S1536x4096 .bf16 := fun y =>
  (((x y : EReal) + ∑ f : Fin 14336, (ad (ix2 (y 0) f) : EReal) * deq ds dc 0 0 (ix2 (y 1) f))
    + (al (ix2 (y 0) 0) : EReal) * ∑ r : Fin 256, (z (ix2 (y 0) r) : EReal) * b (ix2 r (y 1)) : EReal)

theorem weight_blk (c : Dev nD) (t : Fin cfg0.N) (x : S1024x1024.Idx) :
    deq (iblk m c 0 t) (iblk m c 2 t) (8 * (grid0.coords t 0).val) (8 * (grid0.coords t 1).val) x
      = deq (m ((c : Thread nD τ).loc main_arg3)) (m ((c : Thread nD τ).loc main_arg2)) 0 0 (((cfg0.win 2).blk t).view.emb x) := by
  have e : (iblk m c 0 t : S32x112.Idx → Elt Ideal .f32) = m ((c : Thread nD τ).loc main_arg3) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; omega)

theorem factor (c : Dev nD) (i : Fin 1536) (l : Fin 128) :
    (V m c main_v1 : S1536x128.Idx → Elt Ideal .f32) (ix2 i l) = (m ((c : Thread nD τ).loc main_arg6) : S1536x1.Idx → Elt Ideal .f32) (ix2 i 0) := by
  entry_read
  pointwise

theorem final (c : Dev nD) : (dats m 0 c).arrAt 7 (cfgs 0).N
    = total (m ((c : Thread nD τ).loc main_arg0)) (m ((c : Thread nD τ).loc main_arg1)) (m ((c : Thread nD τ).loc main_arg2)) (m ((c : Thread nD τ).loc main_arg3))
      (m ((c : Thread nD τ).loc main_arg4)) (V m c main_v0) (m ((c : Thread nD τ).loc main_arg6)) := by
  refine (dats m 0 c).arrAt_eq_of_covers 7 _ (by decide +kernel) fun t hf y => ?_
  blk_simp
  have h13 : t.val % 14 = 13 := (flush0_7 t).mp hf
  have h0 : ¬t.val % 14 = 0 := by omega
  rw [after0_7, out_last m c t h0 h13]
  unfold last total
  refine congrArg₂ (fun a b : EReal => a + b) (congrArg₂ (fun a b : EReal => a + b) (by blk_ext [iblk, V, idx_val t]) ?_)
    (congrArg₂ (fun a b : EReal => a * b) (Eq.trans ?_ (factor m c _ ⟨(y 1).val % 128, Nat.mod_lt _ (by decide)⟩)) (by blk_point [iblk, idx_val t]))
  · rw [run_sum (fun n h => (outsAt0 m c n h).2) 14 (fun t _ => (0 : EReal)) _
      (fun t h j => by rw [sc_first m c t h (by omega)]; rfl)
      (fun t h j => by
        by_cases h' : t.val % 14 = 13
        · rw [sc_last m c t h h']; rfl
        · rw [sc_step m c t h h']; rfl) t h13 _]
    rw [zero_add]
    refine Fin.sum_mul_add_congr fun s k hl => congrArg₂ (fun a b : EReal => a * b) ?_ ((weight_blk m c _ _).trans (congrArg _ ?_))
    all_goals
      have e := idx_val ⟨14 * (t.val / 14) + s.val, Pipeline.run_point_lt_of_flush t h13 s⟩
      blk_ext [iblk, V, idx_val t, e]
  · blk_ext [iblk, idx_val t]

end Cert.DownIdeal.Val
-- ==== Proof.DownReference.lean ====
/-
  The down projection's reference: its result array is the same formula.
-/
module

public import proofs.«01_k».proof.Proof.DownValue
public import proofs.«01_k».proof.Proof.Gen.ReferenceDownIdeal.Value

@[expose] public section

set_option maxRecDepth 16384

noncomputable section

namespace Cert.ReferenceDownIdeal.Val

open Cert.ReferenceDownIdeal Cert.ReferenceDownIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The scales spread over the weight's entries, as the reference's host code does it. -/
def spread (S : FVec Ideal S32x112 .f32) : FVec Ideal S4096x14336 .bf16 :=
  shapeCast S4096x14336 (broadcastInDim S32x128x112x128 ![0, 1, 2, 3] bcast_S32x1x112x1_S32x128x112x128_0_1_2_3
    (broadcastInDim S32x1x112x1 ![0, 2] bcast_S32x112_S32x1x112x1_0_2 (truncf FTy.bf16 S bitsLt_bf16_f32))) shapeCasts_S32x128x112x128_S4096x14336

theorem spread_apply (S : FVec Ideal S32x112 .f32) (j : S4096x14336.Idx) : spread S j = scAt S (0 + (j 0).val / 128) (0 + (j 1).val / 128) := by
  have h0 : (j 0).val < 4096 := (j 0).isLt
  have h1 : (j 1).val < 14336 := (j 1).isLt
  unfold scAt
  rw [dif_pos (by constructor <;> omega)]
  pointwise [spread]

theorem pay_total (dc : FVec Ideal S4096x14336 .fp8e4m3) (ds : FVec Ideal S4096x14336 .bf16) (x : FVec Ideal S1536x4096 .bf16) (ad : FVec Ideal S1536x14336 .bf16)
    (al : FVec Ideal S1536x1 .f32) (z : FVec Ideal S1536x256 .bf16) (b : FVec Ideal S256x4096 .bf16) (y : S1536x4096.Idx) :
    (k0_pay1 dc ds x ad al z b y : Ideal .bf16)
      = (((x y : EReal) + ∑ f : Fin 14336, (ad (ix2 (y 0) f) : EReal) * ((dc (ix2 (y 1) f) : EReal) * ds (ix2 (y 1) f)))
        + (al (ix2 (y 0) 0) : EReal) * ∑ r : Fin 256, (z (ix2 (y 0) r) : EReal) * b (ix2 r (y 1)) : EReal) := by
  pointwise [k0_pay1]

theorem e0 (c : Dev nD) : (iblk m c 0 t0_0 : FVec Ideal S1536x4096 .bf16) = m ((c : Thread nD τ).loc main_arg0) := by blk_ext! [iblk, V, idx t0_0]

theorem e1 (c : Dev nD) : (iblk m c 1 t0_0 : FVec Ideal S1536x14336 .bf16) = m ((c : Thread nD τ).loc main_arg1) := by blk_ext! [iblk, V, idx t0_0]

theorem e2 (c : Dev nD) : (iblk m c 2 t0_0 : FVec Ideal S4096x14336 .fp8e4m3) = m ((c : Thread nD τ).loc main_arg2) := by blk_ext! [iblk, V, idx t0_0]

theorem e4 (c : Dev nD) : (iblk m c 4 t0_0 : FVec Ideal S1536x256 .bf16) = m ((c : Thread nD τ).loc main_arg4) := by blk_ext! [iblk, V, idx t0_0]

theorem e6 (c : Dev nD) : (iblk m c 6 t0_0 : FVec Ideal S1536x1 .f32) = m ((c : Thread nD τ).loc main_arg6) := by blk_ext! [iblk, V, idx t0_0]

theorem e3 (c : Dev nD) : (iblk m c 3 t0_0 : FVec Ideal S4096x14336 .bf16) = spread (m ((c : Thread nD τ).loc main_arg3)) :=
  Eq.trans (b := V m c main_v3) (by blk_ext! [iblk, idx t0_0]) (by entry_read; rfl)

theorem e5 (c : Dev nD) : (iblk m c 5 t0_0 : FVec Ideal S256x4096 .bf16) = V m c main_v4 := by blk_ext! [iblk, idx t0_0]

theorem final (c : Dev nD) : (dats m 0 c).arrAt 7 (cfgs 0).N
    = Cert.DownIdeal.Val.total (m ((c : Thread nD τ).loc main_arg0)) (m ((c : Thread nD τ).loc main_arg1)) (m ((c : Thread nD τ).loc main_arg2)) (m ((c : Thread nD τ).loc main_arg3))
      (m ((c : Thread nD τ).loc main_arg4)) (V m c main_v4) (m ((c : Thread nD τ).loc main_arg6)) := by
  refine (dats m 0 c).arrAt_eq_of_after_last 7 t0_0 (by decide +kernel) _ fun j => ?_
  blk_simp
  rw [after0_7]
  frame_out
  rw [e0 m c, e1 m c, e2 m c, e3 m c, e4 m c, e5 m c, e6 m c]
  refine (pay_total _ _ _ _ _ _ _ j).trans ?_
  simp only [spread_apply]
  rfl

end Cert.ReferenceDownIdeal.Val
-- ==== Proof.DownClaim.lean ====
/-
  The down projection against its reference.
-/
module

public import proofs.«01_k».proof.Proof.DownReference
public import proofs.«01_k».proof.Defs

@[expose] public section

set_option maxRecDepth 16384

noncomputable section

open Idealize.ShloMosaic Idealize.ShloMosaic.TcCoe Idealize.ShloMosaic.Tactic

/-- The adapter reshaped by the kernel's host code, and by the reference's, is the reshaped argument. -/
theorem Cert.DownIdeal.Val.entry (m : (ℓ : Loc Cert.DownIdeal.nD Cert.DownIdeal.τ Cert.DownIdeal.sig) → Buf (Elt Ideal) ℓ) (c : Dev Cert.DownIdeal.nD) :
    Cert.DownIdeal.Gen.V m c Cert.DownIdeal.main_v0 = shapeCast Cert.DownIdeal.S256x4096 (m ((c : Thread Cert.DownIdeal.nD Cert.DownIdeal.τ).loc Cert.DownIdeal.main_arg5)) Cert.DownIdeal.Gen.shapeCasts_S4x64x4096_S256x4096 := by
  entry_read; rfl

theorem Cert.ReferenceDownIdeal.Val.entry (m : (ℓ : Loc Cert.ReferenceDownIdeal.nD Cert.ReferenceDownIdeal.τ Cert.ReferenceDownIdeal.sig) → Buf (Elt Ideal) ℓ) (c : Dev Cert.ReferenceDownIdeal.nD) :
    Cert.ReferenceDownIdeal.Gen.V m c Cert.ReferenceDownIdeal.main_v4 = shapeCast Cert.DownIdeal.S256x4096 (m ((c : Thread Cert.ReferenceDownIdeal.nD Cert.ReferenceDownIdeal.τ).loc Cert.ReferenceDownIdeal.main_arg5)) Cert.DownIdeal.Gen.shapeCasts_S4x64x4096_S256x4096 := by
  entry_read; rfl

/-- The kernel's result array is the reference's. -/
theorem Cert.Down.algebraic : Cert.algebraic_DownIdeal_ReferenceDownIdeal := by
  pair_intro
  · run_from Cert.DownIdeal.Value.run_blocks m g
  · run_from Cert.ReferenceDownIdeal.Value.run_blocks m' g'
    obtain ⟨h0, h1, h2, h3, h4, h5, h6⟩ := hagree c
    refine (Cert.ReferenceDownIdeal.Val.final m' c).trans (Eq.trans ?_ (Cert.DownIdeal.Val.final m c).symm)
    rw [Cert.DownIdeal.Val.entry m c, Cert.ReferenceDownIdeal.Val.entry m' c, h0, h1, h2, h3, h4, h5, h6]
-- ==== Proof.DnormBody.lean ====
module

public import proofs.«01_k».proof.Proof.Gen.DnormIdeal.Value
public import proofs.«01_k».proof.Proof.Tiles

@[expose] public section

set_option maxRecDepth 16384

noncomputable section

namespace Cert.DnormIdeal.Val

open Cert.DnormIdeal Cert.DnormIdeal.Gen Idealize.ShloMosaic Idealize.ShloMosaic.TcCoe Cert.Tiles
open Idealize.ShloMosaic.Pipeline (Dat)

/-- The tile of a weight block at row `a` and column `b` of tiles, read and scaled by the body. -/
theorem piece {mr : Memref sig .tc .smem S112x32 .f32} (hmr : mr.IsWhole) {mw : Memref sig .tc .vmem S1024x1024 .fp8e4m3} (hmw : mw.IsWhole)
    (i : grid0.Coords) (sc : Vec Ideal S112x32 .f32) (w : Vec Ideal S1024x1024 .fp8e4m3) (a b : Fin 8) (inbs inb h) (x : S128x128.Idx) :
    tile bitsLt_fp8e4m3_bf16 bitsLt_bf16_f32 shapeCasts_S128x128_S128x128
        (View.readAt (Elt Ideal) mr.view (Rect.unit (s := S112x32) (k0_off1 i (BitVec.ofNat 32 a.val) (BitVec.ofNat 32 b.val)) S1x1.size inbs).toLoadRect (hmr.unread sc)
          (Shape.Idx.first h))
        (View.readAt (Elt Ideal) mw.view (Rect.unit (s := S1024x1024) ![128 * a.val, 128 * b.val] S128x128.size inb).toLoadRect (hmw.unread w)) x
      = deq sc w (8 * (i 1).val) (8 * (i 0).val) ((Rect.unit (s := S1024x1024) ![128 * a.val, 128 * b.val] S128x128.size inb).emb x) := by
  have hi1 : (i 1).val < 14 := (i 1).isLt
  have hi0 : (i 0).val < 4 := (i 0).isLt
  refine tile_eq_deq sc w (8 * (i 1).val) (8 * (i 0).val) a b _ _ _ _ _ inb (fun h' => ?_) (by omega) (by omega) (fun x => ?_) x
  · rw [hmr.readAt_unread]
    congr 1
    have e := k0_off1_eq i a b
    funext ax
    apply Fin.ext
    show (k0_off1 i (BitVec.ofNat 32 a.val) (BitVec.ofNat 32 b.val)) ax + 1 * 0 = _
    rw [e]
    fin_cases ax <;> rfl
  · rw [hmw.readAt_unread]; rfl

open Idealize.ShloMosaic.Tactic in
theorem gate_scratch (c : Dev nD) (i : grid0.Coords) (mr : Memref sig .tc .smem S112x32 .f32) (hr : mr.IsWhole)
    (mw : Memref sig .tc .vmem S1024x1024 .fp8e4m3) (hw : mw.IsWhole) (sc : Vec Ideal S112x32 .f32) (w : Vec Ideal S1024x1024 .fp8e4m3) :
    View.canon (kernelRun0_B.sl.HS0_64 (F := Ideal) c i mr hr mw hw sc w) = deq sc w (8 * (i 1).val) (8 * (i 0).val) :=
  canon_eq_of_piecesOf _ _
    ⟨piece hr hw i sc w 7 7 _ _ _, piece hr hw i sc w 7 6 _ _ _, piece hr hw i sc w 7 5 _ _ _, piece hr hw i sc w 7 4 _ _ _, piece hr hw i sc w 7 3 _ _ _, piece hr hw i sc w 7 2 _ _ _, piece hr hw i sc w 7 1 _ _ _, piece hr hw i sc w 7 0 _ _ _,
      piece hr hw i sc w 6 7 _ _ _, piece hr hw i sc w 6 6 _ _ _, piece hr hw i sc w 6 5 _ _ _, piece hr hw i sc w 6 4 _ _ _, piece hr hw i sc w 6 3 _ _ _, piece hr hw i sc w 6 2 _ _ _, piece hr hw i sc w 6 1 _ _ _, piece hr hw i sc w 6 0 _ _ _,
      piece hr hw i sc w 5 7 _ _ _, piece hr hw i sc w 5 6 _ _ _, piece hr hw i sc w 5 5 _ _ _, piece hr hw i sc w 5 4 _ _ _, piece hr hw i sc w 5 3 _ _ _, piece hr hw i sc w 5 2 _ _ _, piece hr hw i sc w 5 1 _ _ _, piece hr hw i sc w 5 0 _ _ _,
      piece hr hw i sc w 4 7 _ _ _, piece hr hw i sc w 4 6 _ _ _, piece hr hw i sc w 4 5 _ _ _, piece hr hw i sc w 4 4 _ _ _, piece hr hw i sc w 4 3 _ _ _, piece hr hw i sc w 4 2 _ _ _, piece hr hw i sc w 4 1 _ _ _, piece hr hw i sc w 4 0 _ _ _,
      piece hr hw i sc w 3 7 _ _ _, piece hr hw i sc w 3 6 _ _ _, piece hr hw i sc w 3 5 _ _ _, piece hr hw i sc w 3 4 _ _ _, piece hr hw i sc w 3 3 _ _ _, piece hr hw i sc w 3 2 _ _ _, piece hr hw i sc w 3 1 _ _ _, piece hr hw i sc w 3 0 _ _ _,
      piece hr hw i sc w 2 7 _ _ _, piece hr hw i sc w 2 6 _ _ _, piece hr hw i sc w 2 5 _ _ _, piece hr hw i sc w 2 4 _ _ _, piece hr hw i sc w 2 3 _ _ _, piece hr hw i sc w 2 2 _ _ _, piece hr hw i sc w 2 1 _ _ _, piece hr hw i sc w 2 0 _ _ _,
      piece hr hw i sc w 1 7 _ _ _, piece hr hw i sc w 1 6 _ _ _, piece hr hw i sc w 1 5 _ _ _, piece hr hw i sc w 1 4 _ _ _, piece hr hw i sc w 1 3 _ _ _, piece hr hw i sc w 1 2 _ _ _, piece hr hw i sc w 1 1 _ _ _, piece hr hw i sc w 1 0 _ _ _,
      piece hr hw i sc w 0 7 _ _ _, piece hr hw i sc w 0 6 _ _ _, piece hr hw i sc w 0 5 _ _ _, piece hr hw i sc w 0 4 _ _ _, piece hr hw i sc w 0 3 _ _ _, piece hr hw i sc w 0 2 _ _ _, piece hr hw i sc w 0 1 _ _ _, piece hr hw i sc w 0 0 _ _ _,
      trivial⟩
    (View.cover_of_tiledL _ S128x128.size (by sl_kernel_rfl))

theorem gate_scratchA (c : Dev nD) (i : grid0.Coords) (mr : Memref sig .tc .smem S112x32 .f32) (hr : mr.IsWhole)
    (mw : Memref sig .tc .vmem S1024x1024 .fp8e4m3) (hw : mw.IsWhole) (sc : Vec Ideal S112x32 .f32) (w : Vec Ideal S1024x1024 .fp8e4m3) :
    View.canon (kernelRun0_A.sl.HS0_64 (F := Ideal) c i mr hr mw hw sc w) = deq sc w (8 * (i 1).val) (8 * (i 0).val) :=
  gate_scratch c i mr hr mw hw sc w

theorem up_scratch (c : Dev nD) (i : grid0.Coords) (mr : Memref sig .tc .smem S112x32 .f32) (hr : mr.IsWhole)
    (mw : Memref sig .tc .vmem S1024x1024 .fp8e4m3) (hw : mw.IsWhole) (sc : Vec Ideal S112x32 .f32) (w : Vec Ideal S1024x1024 .fp8e4m3) :
    View.canon (kernelRun0_B.sl.HS1_64 (F := Ideal) c i mr hr mw hw sc w) = deq sc w (8 * (i 1).val) (8 * (i 0).val) :=
  gate_scratch c i mr hr mw hw sc w

theorem up_scratchA (c : Dev nD) (i : grid0.Coords) (mr : Memref sig .tc .smem S112x32 .f32) (hr : mr.IsWhole)
    (mw : Memref sig .tc .vmem S1024x1024 .fp8e4m3) (hw : mw.IsWhole) (sc : Vec Ideal S112x32 .f32) (w : Vec Ideal S1024x1024 .fp8e4m3) :
    View.canon (kernelRun0_A.sl.HS1_64 (F := Ideal) c i mr hr mw hw sc w) = deq sc w (8 * (i 1).val) (8 * (i 0).val) :=
  gate_scratch c i mr hr mw hw sc w

/-- What one grid point adds to the running block `Z`: the products of its two row blocks with its two weight blocks. -/
def step (Z : Vec Ideal S1536x1024 .f32) (l1 : Vec Ideal S1536x1024 .bf16) (w1 : Vec Ideal S1024x1024 .bf16) (l2 : Vec Ideal S1536x1024 .bf16)
    (w2 : Vec Ideal S1024x1024 .bf16) : Vec Ideal S1536x1024 .f32 := fun y =>
  (Z y + ((∑ k : Fin 1024, (l1 (ix2 (y 0) k) : EReal) * w1 (ix2 k (y 1))) + ∑ k : Fin 1024, (l2 (ix2 (y 0) k) : EReal) * w2 (ix2 k (y 1))) : EReal)

/-- One tile of the running block with its products added, as the body spells it. -/
def addTile (acc : FVec Ideal S512x256 .f32) (p1 : FVec Ideal S512x1024 .bf16) (q1 : FVec Ideal S1024x256 .bf16) (p2 : FVec Ideal S512x1024 .bf16)
    (q2 : FVec Ideal S1024x256 .bf16) : FVec Ideal S512x256 .f32 :=
  addf (shapeCast S512x256 acc shapeCasts_S512x256_S512x256)
    (addf (matmul dot_S512x1024_S1024x256_S512x256_1_0_0_1_n_n none p1 q1 (constant (F := Ideal) S512x256 .f32 0x00000000#32))
      (matmul dot_S512x1024_S1024x256_S512x256_1_0_0_1_n_n none p2 q2 (constant (F := Ideal) S512x256 .f32 0x00000000#32)))

theorem addTile_apply (acc : FVec Ideal S512x256 .f32) (p1 : FVec Ideal S512x1024 .bf16) (q1 : FVec Ideal S1024x256 .bf16) (p2 : FVec Ideal S512x1024 .bf16)
    (q2 : FVec Ideal S1024x256 .bf16) (x : S512x256.Idx) :
    addTile acc p1 q1 p2 q2 x
      = ((acc x : EReal) + ((∑ k : Fin 1024, (p1 (ix2 (x 0) k) : EReal) * q1 (ix2 k (x 1))) + ∑ k : Fin 1024, (p2 (ix2 (x 0) k) : EReal) * q2 (ix2 k (x 1))) : EReal) := by
  pointwise [addTile]

theorem piece_step {m1 : Memref sig .tc .vmem S1536x1024 .bf16} (hm1 : m1.IsWhole) {m2 : Memref sig .tc .vmem S1536x1024 .bf16} (hm2 : m2.IsWhole)
    (v1 v2 : View sig .tc .vmem S1024x1024 .bf16) (L1 L2 : List (View.Piece (Elt Ideal) S1024x1024 .bf16)) (Z : Vec Ideal S1536x1024 .f32)
    (l1 l2 : Vec Ideal S1536x1024 .bf16) (w1 w2 : Vec Ideal S1024x1024 .bf16) (h1 : View.canon L1 = w1) (h2 : View.canon L2 = w2) (a : Fin 3) (b : Fin 4)
    (acc : Vec Ideal S512x256 .f32) (inb inbl inbw)
    (hacc : acc = View.ld Z (Rect.unit (s := S1536x1024) ![512 * a.val, 256 * b.val] S512x256.size inb)) (x : S512x256.Idx) :
    addTile acc
        (View.readAt (Elt Ideal) m1.view (Rect.unit (s := S1536x1024) ![512 * a.val, 0] S512x1024.size inbl).toLoadRect (hm1.unread l1))
        (v1.readCov L1 (Rect.unit (s := S1024x1024) ![0, 256 * b.val] S1024x256.size inbw).toLoadRect)
        (View.readAt (Elt Ideal) m2.view (Rect.unit (s := S1536x1024) ![512 * a.val, 0] S512x1024.size inbl).toLoadRect (hm2.unread l2))
        (v2.readCov L2 (Rect.unit (s := S1024x1024) ![0, 256 * b.val] S1024x256.size inbw).toLoadRect) x
      = step Z l1 w1 l2 w2 ((Rect.unit (s := S1536x1024) ![512 * a.val, 256 * b.val] S512x256.size inb).emb x) := by
  subst hacc h1 h2
  rw [addTile_apply, View.readCov_eq_canon', View.readCov_eq_canon']
  have hx : ∀ (k : Fin 1024), (Rect.unit (s := S1536x1024) ![512 * a.val, 0] S512x1024.size inbl).toLoadRect.idx (ix2 (x 0) k)
      = ix2 (((Rect.unit (s := S1536x1024) ![512 * a.val, 256 * b.val] S512x256.size inb).emb x) 0) k := fun k => by
    funext ax; apply Fin.ext; fin_cases ax
    · rfl
    · show 0 + 1 * k.val = k.val; omega
  have hy : ∀ (k : Fin 1024), (Rect.unit (s := S1024x1024) ![0, 256 * b.val] S1024x256.size inbw).toLoadRect.idx (ix2 k (x 1))
      = ix2 k (((Rect.unit (s := S1536x1024) ![512 * a.val, 256 * b.val] S512x256.size inb).emb x) 1) := fun k => by
    funext ax; apply Fin.ext; fin_cases ax
    · show 0 + 1 * k.val = k.val; omega
    · rfl
  simp only [hm1.readAt_unread, hm2.readAt_unread, hx, hy]
  rfl

open Idealize.ShloMosaic.Tactic

variable (m : (ℓ : Loc nD τ sig) → Buf (Elt Ideal) ℓ)

theorem out_step (c : Dev nD) (t : Fin cfg0.N) (h0 : ¬t.val % 14 = 0) :
    outsAt0 m c t.val t.isLt
      = step (outsAt0 m c (t.val - 1) (Nat.lt_of_le_of_lt (Nat.sub_le _ _) t.isLt)) (iblk m c 2 t)
          (deq (iblk m c 0 t) (iblk m c 4 t) (8 * (grid0.coords t 1).val) (8 * (grid0.coords t 0).val)) (iblk m c 3 t)
          (deq (iblk m c 1 t) (iblk m c 5 t) (8 * (grid0.coords t 1).val) (8 * (grid0.coords t 0).val)) := by
  rw [outsAt0_B m c t h0]
  unfold out0_B_10
  rw [View.read_writes_junk_eq_canon]
  refine canon_eq_of_piecesOf _ _ ?_ (cover0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)))
  have hg := gate_scratch c (grid0.coords t) (ms0_0 t) (hs0_0 t) (ms0_4 t) (hs0_4 t) (iblk m c 0 t) (iblk m c 4 t)
  have hu := up_scratch c (grid0.coords t) (ms0_1 t) (hs0_1 t) (ms0_5 t) (hs0_5 t) (iblk m c 1 t) (iblk m c 5 t)
  have acc_kept : ∀ (a : Fin 3) (b : Fin 4) inb, View.readAt (Elt Ideal) (ms0_10 t).view
        (Rect.unit (s := S1536x1024) ![512 * a.val, 256 * b.val] S512x256.size inb).toLoadRect
        ((hs0_10 t).unread (outsAt0 m c (t.val - 1) (Nat.lt_of_le_of_lt (Nat.sub_le _ _) t.isLt)))
      = View.ld (outsAt0 m c (t.val - 1) (Nat.lt_of_le_of_lt (Nat.sub_le _ _) t.isLt)) (Rect.unit (s := S1536x1024) ![512 * a.val, 256 * b.val] S512x256.size inb) :=
    fun a b inb => funext fun x => (hs0_10 t).readAt_unread _ _ _
  unfold kernelRun0_B
  exact ⟨piece_step (hs0_2 t) (hs0_3 t) _ _ _ _ _ _ _ _ _ hg hu 2 3 _ _ _ _ (acc_kept 2 3 _),
      piece_step (hs0_2 t) (hs0_3 t) _ _ _ _ _ _ _ _ _ hg hu 1 3 _ _ _ _ (acc_kept 1 3 _),
      piece_step (hs0_2 t) (hs0_3 t) _ _ _ _ _ _ _ _ _ hg hu 0 3 _ _ _ _ (acc_kept 0 3 _),
      piece_step (hs0_2 t) (hs0_3 t) _ _ _ _ _ _ _ _ _ hg hu 2 2 _ _ _ _ (acc_kept 2 2 _),
      piece_step (hs0_2 t) (hs0_3 t) _ _ _ _ _ _ _ _ _ hg hu 1 2 _ _ _ _ (acc_kept 1 2 _),
      piece_step (hs0_2 t) (hs0_3 t) _ _ _ _ _ _ _ _ _ hg hu 0 2 _ _ _ _ (acc_kept 0 2 _),
      piece_step (hs0_2 t) (hs0_3 t) _ _ _ _ _ _ _ _ _ hg hu 2 1 _ _ _ _ (acc_kept 2 1 _),
      piece_step (hs0_2 t) (hs0_3 t) _ _ _ _ _ _ _ _ _ hg hu 1 1 _ _ _ _ (acc_kept 1 1 _),
      piece_step (hs0_2 t) (hs0_3 t) _ _ _ _ _ _ _ _ _ hg hu 0 1 _ _ _ _ (acc_kept 0 1 _),
      piece_step (hs0_2 t) (hs0_3 t) _ _ _ _ _ _ _ _ _ hg hu 2 0 _ _ _ _ (acc_kept 2 0 _),
      piece_step (hs0_2 t) (hs0_3 t) _ _ _ _ _ _ _ _ _ hg hu 1 0 _ _ _ _ (acc_kept 1 0 _),
      piece_step (hs0_2 t) (hs0_3 t) _ _ _ _ _ _ _ _ _ hg hu 0 0 _ _ _ _ (acc_kept 0 0 _),
      trivial⟩

/-- The block before its first products: the adapters' share. -/
def start (z1 z2 : Vec Ideal S1536x256 .bf16) (a1 a2 : Vec Ideal S256x1024 .bf16) : Vec Ideal S1536x1024 .f32 := fun y =>
  ((∑ r : Fin 256, (z1 (ix2 (y 0) r) : EReal) * a1 (ix2 r (y 1))) + ∑ r : Fin 256, (z2 (ix2 (y 0) r) : EReal) * a2 (ix2 r (y 1)) : EReal)

theorem pay_start (z1 z2 : Vec Ideal S1536x256 .bf16) (a1 a2 : Vec Ideal S256x1024 .bf16) : k0_pay2 z1 a1 z2 a2 = start z1 z2 a1 a2 := by
  funext y
  pointwise [k0_pay2, start]

theorem out_first (c : Dev nD) (t : Fin cfg0.N) (h0 : t.val % 14 = 0) :
    outsAt0 m c t.val t.isLt
      = step (start (iblk m c 6 t) (iblk m c 7 t) (iblk m c 8 t) (iblk m c 9 t)) (iblk m c 2 t)
          (deq (iblk m c 0 t) (iblk m c 4 t) (8 * (grid0.coords t 1).val) (8 * (grid0.coords t 0).val)) (iblk m c 3 t)
          (deq (iblk m c 1 t) (iblk m c 5 t) (8 * (grid0.coords t 1).val) (8 * (grid0.coords t 0).val)) := by
  rw [outsAt0_A m c t h0]
  unfold out0_A_10
  rw [View.read_writes_junk_eq_canon]
  refine canon_eq_of_take _ 12 _ ?_ (View.cover_of_tiledL _ S512x256.size (by sl_kernel_rfl))
  have hg := gate_scratchA c (grid0.coords t) (ms0_0 t) (hs0_0 t) (ms0_4 t) (hs0_4 t) (iblk m c 0 t) (iblk m c 4 t)
  have hu := up_scratchA c (grid0.coords t) (ms0_1 t) (hs0_1 t) (ms0_5 t) (hs0_5 t) (iblk m c 1 t) (iblk m c 5 t)
  have hfill : ∀ r : Rect S1536x1024, View.readCov (Val := Elt Ideal) (ms0_10 t).view
      (kernelRun0_A.sl.H10_1 c (ms0_6 t) (hs0_6 t) (ms0_7 t) (hs0_7 t) (ms0_8 t) (hs0_8 t) (ms0_9 t) (hs0_9 t)
        (iblk m c 6 t) (iblk m c 7 t) (iblk m c 8 t) (iblk m c 9 t)) r.toLoadRect
      = View.ld (start (iblk m c 6 t) (iblk m c 7 t) (iblk m c 8 t) (iblk m c 9 t)) r := fun r => by
    refine (View.readCov_fill _ _ _ _ _ (by decide)).trans (congrArg (View.ld · r) ?_)
    refine (pay_start _ _ _ _).trans ?_
    congr 1 <;> funext x <;> refine (Memref.IsWhole.readAt_unread _ _ _ _).trans (congrArg _ ?_) <;>
      (funext ax; apply Fin.ext; fin_cases ax <;> exact (Nat.zero_add _).trans (Nat.one_mul _))
  have e0 : View.readCov (Val := Elt Ideal) (ms0_10 t).view
      (kernelRun0_A.sl.H10_1 c (ms0_6 t) (hs0_6 t) (ms0_7 t) (hs0_7 t) (ms0_8 t) (hs0_8 t) (ms0_9 t) (hs0_9 t)
        (iblk m c 6 t) (iblk m c 7 t) (iblk m c 8 t) (iblk m c 9 t))
        (Rect.unit (s := S1536x1024) ![0, 0] S512x256.size inb_S1536x1024_S512x256_0_0).toLoadRect
      = View.ld (start (iblk m c 6 t) (iblk m c 7 t) (iblk m c 8 t) (iblk m c 9 t)) (Rect.unit (s := S1536x1024) ![0, 0] S512x256.size inb_S1536x1024_S512x256_0_0) := hfill _
  have e1 : View.readCov (Val := Elt Ideal) (ms0_10 t).view (kernelRun0_A.sl.H10_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![512, 0] S512x256.size inb_S1536x1024_S512x256_512_0).toLoadRect
      = View.ld (start (iblk m c 6 t) (iblk m c 7 t) (iblk m c 8 t) (iblk m c 9 t)) (Rect.unit (s := S1536x1024) ![512, 0] S512x256.size inb_S1536x1024_S512x256_512_0) := by
    iterate 1 refine (View.readCov_skip _ _ _ _ _ (by decide)).trans ?_
    exact hfill _
  have e2 : View.readCov (Val := Elt Ideal) (ms0_10 t).view (kernelRun0_A.sl.H10_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![1024, 0] S512x256.size inb_S1536x1024_S512x256_1024_0).toLoadRect
      = View.ld (start (iblk m c 6 t) (iblk m c 7 t) (iblk m c 8 t) (iblk m c 9 t)) (Rect.unit (s := S1536x1024) ![1024, 0] S512x256.size inb_S1536x1024_S512x256_1024_0) := by
    iterate 2 refine (View.readCov_skip _ _ _ _ _ (by decide)).trans ?_
    exact hfill _
  have e3 : View.readCov (Val := Elt Ideal) (ms0_10 t).view (kernelRun0_A.sl.H10_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![0, 256] S512x256.size inb_S1536x1024_S512x256_0_256).toLoadRect
      = View.ld (start (iblk m c 6 t) (iblk m c 7 t) (iblk m c 8 t) (iblk m c 9 t)) (Rect.unit (s := S1536x1024) ![0, 256] S512x256.size inb_S1536x1024_S512x256_0_256) := by
    iterate 3 refine (View.readCov_skip _ _ _ _ _ (by decide)).trans ?_
    exact hfill _
  have e4 : View.readCov (Val := Elt Ideal) (ms0_10 t).view (kernelRun0_A.sl.H10_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![512, 256] S512x256.size inb_S1536x1024_S512x256_512_256).toLoadRect
      = View.ld (start (iblk m c 6 t) (iblk m c 7 t) (iblk m c 8 t) (iblk m c 9 t)) (Rect.unit (s := S1536x1024) ![512, 256] S512x256.size inb_S1536x1024_S512x256_512_256) := by
    iterate 4 refine (View.readCov_skip _ _ _ _ _ (by decide)).trans ?_
    exact hfill _
  have e5 : View.readCov (Val := Elt Ideal) (ms0_10 t).view (kernelRun0_A.sl.H10_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![1024, 256] S512x256.size inb_S1536x1024_S512x256_1024_256).toLoadRect
      = View.ld (start (iblk m c 6 t) (iblk m c 7 t) (iblk m c 8 t) (iblk m c 9 t)) (Rect.unit (s := S1536x1024) ![1024, 256] S512x256.size inb_S1536x1024_S512x256_1024_256) := by
    iterate 5 refine (View.readCov_skip _ _ _ _ _ (by decide)).trans ?_
    exact hfill _
  have e6 : View.readCov (Val := Elt Ideal) (ms0_10 t).view (kernelRun0_A.sl.H10_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![0, 512] S512x256.size inb_S1536x1024_S512x256_0_512).toLoadRect
      = View.ld (start (iblk m c 6 t) (iblk m c 7 t) (iblk m c 8 t) (iblk m c 9 t)) (Rect.unit (s := S1536x1024) ![0, 512] S512x256.size inb_S1536x1024_S512x256_0_512) := by
    iterate 6 refine (View.readCov_skip _ _ _ _ _ (by decide)).trans ?_
    exact hfill _
  have e7 : View.readCov (Val := Elt Ideal) (ms0_10 t).view (kernelRun0_A.sl.H10_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![512, 512] S512x256.size inb_S1536x1024_S512x256_512_512).toLoadRect
      = View.ld (start (iblk m c 6 t) (iblk m c 7 t) (iblk m c 8 t) (iblk m c 9 t)) (Rect.unit (s := S1536x1024) ![512, 512] S512x256.size inb_S1536x1024_S512x256_512_512) := by
    iterate 7 refine (View.readCov_skip _ _ _ _ _ (by decide)).trans ?_
    exact hfill _
  have e8 : View.readCov (Val := Elt Ideal) (ms0_10 t).view (kernelRun0_A.sl.H10_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![1024, 512] S512x256.size inb_S1536x1024_S512x256_1024_512).toLoadRect
      = View.ld (start (iblk m c 6 t) (iblk m c 7 t) (iblk m c 8 t) (iblk m c 9 t)) (Rect.unit (s := S1536x1024) ![1024, 512] S512x256.size inb_S1536x1024_S512x256_1024_512) := by
    iterate 8 refine (View.readCov_skip _ _ _ _ _ (by decide)).trans ?_
    exact hfill _
  have e9 : View.readCov (Val := Elt Ideal) (ms0_10 t).view (kernelRun0_A.sl.H10_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![0, 768] S512x256.size inb_S1536x1024_S512x256_0_768).toLoadRect
      = View.ld (start (iblk m c 6 t) (iblk m c 7 t) (iblk m c 8 t) (iblk m c 9 t)) (Rect.unit (s := S1536x1024) ![0, 768] S512x256.size inb_S1536x1024_S512x256_0_768) := by
    iterate 9 refine (View.readCov_skip _ _ _ _ _ (by decide)).trans ?_
    exact hfill _
  have e10 : View.readCov (Val := Elt Ideal) (ms0_10 t).view (kernelRun0_A.sl.H10_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![512, 768] S512x256.size inb_S1536x1024_S512x256_512_768).toLoadRect
      = View.ld (start (iblk m c 6 t) (iblk m c 7 t) (iblk m c 8 t) (iblk m c 9 t)) (Rect.unit (s := S1536x1024) ![512, 768] S512x256.size inb_S1536x1024_S512x256_512_768) := by
    iterate 10 refine (View.readCov_skip _ _ _ _ _ (by decide)).trans ?_
    exact hfill _
  have e11 : View.readCov (Val := Elt Ideal) (ms0_10 t).view (kernelRun0_A.sl.H10_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) scM0_0 scM0_1 (iblk m c 0 t) (iblk m c 1 t) (iblk m c 2 t) (iblk m c 3 t) (iblk m c 4 t) (iblk m c 5 t) (iblk m c 6 t) (iblk m c 7 t) (iblk m c 8 t) (iblk m c 9 t))
        (Rect.unit (s := S1536x1024) ![1024, 768] S512x256.size inb_S1536x1024_S512x256_1024_768).toLoadRect
      = View.ld (start (iblk m c 6 t) (iblk m c 7 t) (iblk m c 8 t) (iblk m c 9 t)) (Rect.unit (s := S1536x1024) ![1024, 768] S512x256.size inb_S1536x1024_S512x256_1024_768) := by
    iterate 11 refine (View.readCov_skip _ _ _ _ _ (by decide)).trans ?_
    exact hfill _
  unfold kernelRun0_A
  exact ⟨piece_step (hs0_2 t) (hs0_3 t) _ _ _ _ _ _ _ _ _ hg hu 2 3 _ _ _ _ e11,
      piece_step (hs0_2 t) (hs0_3 t) _ _ _ _ _ _ _ _ _ hg hu 1 3 _ _ _ _ e10,
      piece_step (hs0_2 t) (hs0_3 t) _ _ _ _ _ _ _ _ _ hg hu 0 3 _ _ _ _ e9,
      piece_step (hs0_2 t) (hs0_3 t) _ _ _ _ _ _ _ _ _ hg hu 2 2 _ _ _ _ e8,
      piece_step (hs0_2 t) (hs0_3 t) _ _ _ _ _ _ _ _ _ hg hu 1 2 _ _ _ _ e7,
      piece_step (hs0_2 t) (hs0_3 t) _ _ _ _ _ _ _ _ _ hg hu 0 2 _ _ _ _ e6,
      piece_step (hs0_2 t) (hs0_3 t) _ _ _ _ _ _ _ _ _ hg hu 2 1 _ _ _ _ e5,
      piece_step (hs0_2 t) (hs0_3 t) _ _ _ _ _ _ _ _ _ hg hu 1 1 _ _ _ _ e4,
      piece_step (hs0_2 t) (hs0_3 t) _ _ _ _ _ _ _ _ _ hg hu 0 1 _ _ _ _ e3,
      piece_step (hs0_2 t) (hs0_3 t) _ _ _ _ _ _ _ _ _ hg hu 2 0 _ _ _ _ e2,
      piece_step (hs0_2 t) (hs0_3 t) _ _ _ _ _ _ _ _ _ hg hu 1 0 _ _ _ _ e1,
      piece_step (hs0_2 t) (hs0_3 t) _ _ _ _ _ _ _ _ _ hg hu 0 0 _ _ _ _ e0,
      trivial⟩

end Cert.DnormIdeal.Val
-- ==== Proof.DnormValue.lean ====
module

public import proofs.«01_k».proof.Proof.DnormBody
public import Idealize.ShloMosaic.Lib.Pipeline.ValueKit

@[expose] public section

set_option maxRecDepth 16384

noncomputable section

namespace Cert.DnormIdeal.Val

open Cert.DnormIdeal Cert.DnormIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx_val : ∀ t : Fin cfg0.N, win0_0.index t = ![0, 0] ∧ win0_1.index t = ![0, 0] ∧ win0_2.index t = ![0, t.val % 14]
    ∧ win0_3.index t = ![0, t.val % 14] ∧ win0_4.index t = ![t.val % 14, t.val / 14] ∧ win0_5.index t = ![t.val % 14, t.val / 14]
    ∧ win0_6.index t = ![0, 0] ∧ win0_7.index t = ![0, 0] ∧ win0_8.index t = ![0, t.val / 14] ∧ win0_9.index t = ![0, t.val / 14]
    ∧ win0_10.index t = ![0, t.val / 14] ∧ (grid0.coords t 0).val = t.val / 14 ∧ (grid0.coords t 1).val = t.val % 14 :=
  (by decide +kernel : ∀ t : Fin grid0.N, _)

/-- The gradient at the layer's input: the adapters' share plus the two products with the scaled weights. -/
def total (dg du : Vec Ideal S1536x14336 .bf16) (gc : Vec Ideal S14336x4096 .fp8e4m3) (gs : Vec Ideal S112x32 .f32)
    (uc : Vec Ideal S14336x4096 .fp8e4m3) (us : Vec Ideal S112x32 .f32) (zg zu : Vec Ideal S1536x256 .bf16) (ag au : Vec Ideal S256x4096 .bf16) :
    Vec Ideal S1536x4096 .f32 := fun y =>
  (((∑ r : Fin 256, (zg (ix2 (y 0) r) : EReal) * ag (ix2 r (y 1))) + ∑ r : Fin 256, (zu (ix2 (y 0) r) : EReal) * au (ix2 r (y 1)))
    + ((∑ f : Fin 14336, (dg (ix2 (y 0) f) : EReal) * deq gs gc 0 0 (ix2 f (y 1))) + ∑ f : Fin 14336, (du (ix2 (y 0) f) : EReal) * deq us uc 0 0 (ix2 f (y 1))) : EReal)

theorem gate_blk (c : Dev nD) (t : Fin cfg0.N) (x : S1024x1024.Idx) :
    deq (iblk m c 0 t) (iblk m c 4 t) (8 * (grid0.coords t 1).val) (8 * (grid0.coords t 0).val) x
      = deq (m ((c : Thread nD τ).loc main_arg3)) (m ((c : Thread nD τ).loc main_arg2)) 0 0 (((cfg0.win 4).blk t).view.emb x) := by
  have e : (iblk m c 0 t : S112x32.Idx → Elt Ideal .f32) = m ((c : Thread nD τ).loc main_arg3) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; omega)

theorem up_blk (c : Dev nD) (t : Fin cfg0.N) (x : S1024x1024.Idx) :
    deq (iblk m c 1 t) (iblk m c 5 t) (8 * (grid0.coords t 1).val) (8 * (grid0.coords t 0).val) x
      = deq (m ((c : Thread nD τ).loc main_arg5)) (m ((c : Thread nD τ).loc main_arg4)) 0 0 (((cfg0.win 5).blk t).view.emb x) := by
  have e : (iblk m c 1 t : S112x32.Idx → Elt Ideal .f32) = m ((c : Thread nD τ).loc main_arg5) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; omega)

theorem final (c : Dev nD) : (dats m 0 c).arrAt 10 (cfgs 0).N
    = total (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (V m c main_v0) (V m c main_v1) := by
  refine (dats m 0 c).arrAt_eq_of_covers 10 _ (by decide +kernel) fun t hf y => ?_
  blk_simp
  rw [after0_10, run_sum (fun n h => outsAt0 m c n h) 14
    (fun t => start (iblk m c 6 t) (iblk m c 7 t) (iblk m c 8 t) (iblk m c 9 t)) _
    (fun t h j => by rw [out_first m c t h]; rfl) (fun t h j => by rw [out_step m c t h]; rfl) t ((flush0_10 t).mp hf) _]
  refine congrArg₂ (fun a b : EReal => a + b) ?_ (Eq.trans Finset.sum_add_distrib (congrArg₂ (fun a b : EReal => a + b)
    (Fin.sum_mul_add_congr fun s k hl => congrArg₂ (fun a b : EReal => a * b) ?_ ((gate_blk m c _ _).trans (congrArg _ ?_)))
    (Fin.sum_mul_add_congr fun s k hl => congrArg₂ (fun a b : EReal => a * b) ?_ ((up_blk m c _ _).trans (congrArg _ ?_)))))
  · have e := idx_val ⟨14 * (t.val / 14), Nat.lt_of_le_of_lt (Nat.mul_div_le _ _) t.isLt⟩
    unfold start
    blk_point [iblk, idx_val t, e]
  all_goals
    have e := idx_val ⟨14 * (t.val / 14) + s.val, Pipeline.run_point_lt_of_flush t ((flush0_10 t).mp hf) s⟩
    blk_ext [iblk, V, idx_val t, e]

end Cert.DnormIdeal.Val
-- ==== Proof.DnormReference.lean ====
module

public import proofs.«01_k».proof.Proof.DnormValue
public import proofs.«01_k».proof.Proof.Gen.ReferenceDnormIdeal.Value

@[expose] public section

set_option maxRecDepth 16384

noncomputable section

namespace Cert.ReferenceDnormIdeal.Val

open Cert.ReferenceDnormIdeal Cert.ReferenceDnormIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The scales spread over the weight's entries, as the reference's host code does it. -/
def spread (S : FVec Ideal S112x32 .f32) : FVec Ideal S14336x4096 .bf16 :=
  shapeCast S14336x4096 (broadcastInDim S112x128x32x128 ![0, 1, 2, 3] bcast_S112x1x32x1_S112x128x32x128_0_1_2_3
    (broadcastInDim S112x1x32x1 ![0, 2] bcast_S112x32_S112x1x32x1_0_2 (truncf FTy.bf16 S bitsLt_bf16_f32))) shapeCasts_S112x128x32x128_S14336x4096

theorem spread_apply (S : FVec Ideal S112x32 .f32) (j : S14336x4096.Idx) : spread S j = scAt S (0 + (j 0).val / 128) (0 + (j 1).val / 128) := by
  have h0 : (j 0).val < 14336 := (j 0).isLt
  have h1 : (j 1).val < 4096 := (j 1).isLt
  unfold scAt
  rw [dif_pos (by constructor <;> omega)]
  pointwise [spread]

theorem pay_total (gc : FVec Ideal S14336x4096 .fp8e4m3) (gs : FVec Ideal S14336x4096 .bf16) (uc : FVec Ideal S14336x4096 .fp8e4m3) (us : FVec Ideal S14336x4096 .bf16)
    (dg du : FVec Ideal S1536x14336 .bf16) (zg : FVec Ideal S1536x256 .bf16) (ag : FVec Ideal S256x4096 .bf16) (zu : FVec Ideal S1536x256 .bf16) (au : FVec Ideal S256x4096 .bf16)
    (y : S1536x4096.Idx) :
    (k0_pay1 gc gs uc us dg du zg ag zu au y : Ideal .f32)
      = (((((∑ f : Fin 14336, (dg (ix2 (y 0) f) : EReal) * ((gc (ix2 f (y 1)) : EReal) * gs (ix2 f (y 1)))) + ∑ f : Fin 14336, (du (ix2 (y 0) f) : EReal) * ((uc (ix2 f (y 1)) : EReal) * us (ix2 f (y 1))))
      + (∑ r : Fin 256, (zg (ix2 (y 0) r) : EReal) * ag (ix2 r (y 1)))) + ∑ r : Fin 256, (zu (ix2 (y 0) r) : EReal) * au (ix2 r (y 1))) : EReal) := by
  pointwise [k0_pay1]

theorem e0 (c : Dev nD) : (iblk m c 0 t0_0 : FVec Ideal S1536x14336 .bf16) = m ((c : Thread nD τ).loc main_arg0) := by blk_ext! [iblk, V, idx t0_0]

theorem e1 (c : Dev nD) : (iblk m c 1 t0_0 : FVec Ideal S1536x14336 .bf16) = m ((c : Thread nD τ).loc main_arg1) := by blk_ext! [iblk, V, idx t0_0]

theorem e2 (c : Dev nD) : (iblk m c 2 t0_0 : FVec Ideal S14336x4096 .fp8e4m3) = m ((c : Thread nD τ).loc main_arg2) := by blk_ext! [iblk, V, idx t0_0]

theorem e3 (c : Dev nD) : (iblk m c 3 t0_0 : FVec Ideal S14336x4096 .bf16) = spread (m ((c : Thread nD τ).loc main_arg3)) :=
    Eq.trans (b := V m c main_v3) (by blk_ext! [iblk, idx t0_0]) (by entry_read; rfl)

theorem e4 (c : Dev nD) : (iblk m c 4 t0_0 : FVec Ideal S14336x4096 .fp8e4m3) = m ((c : Thread nD τ).loc main_arg4) := by blk_ext! [iblk, V, idx t0_0]

theorem e5 (c : Dev nD) : (iblk m c 5 t0_0 : FVec Ideal S14336x4096 .bf16) = spread (m ((c : Thread nD τ).loc main_arg5)) :=
    Eq.trans (b := V m c main_v7) (by blk_ext! [iblk, idx t0_0]) (by entry_read; rfl)

theorem e6 (c : Dev nD) : (iblk m c 6 t0_0 : FVec Ideal S1536x256 .bf16) = m ((c : Thread nD τ).loc main_arg6) := by blk_ext! [iblk, V, idx t0_0]

theorem e7 (c : Dev nD) : (iblk m c 7 t0_0 : FVec Ideal S1536x256 .bf16) = m ((c : Thread nD τ).loc main_arg7) := by blk_ext! [iblk, V, idx t0_0]

theorem e8 (c : Dev nD) : (iblk m c 8 t0_0 : FVec Ideal S256x4096 .bf16) = V m c main_v8 := by blk_ext! [iblk, idx t0_0]

theorem e9 (c : Dev nD) : (iblk m c 9 t0_0 : FVec Ideal S256x4096 .bf16) = V m c main_v9 := by blk_ext! [iblk, idx t0_0]

theorem final (c : Dev nD) : (dats m 0 c).arrAt 10 (cfgs 0).N
    = Cert.DnormIdeal.Val.total (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (V m c main_v8) (V m c main_v9) := by
  refine (dats m 0 c).arrAt_eq_of_after_last 10 t0_0 (by decide +kernel) _ fun j => ?_
  blk_simp
  rw [after0_10]
  frame_out
  rw [e0 m c, e1 m c, e2 m c, e3 m c, e4 m c, e5 m c, e6 m c, e7 m c, e8 m c, e9 m c]
  refine (pay_total _ _ _ _ _ _ _ _ _ _ j).trans ?_
  simp only [spread_apply]
  rw [add_assoc, add_comm]
  rfl

end Cert.ReferenceDnormIdeal.Val
-- ==== Proof.DnormClaim.lean ====
module

public import proofs.«01_k».proof.Proof.DnormReference
public import proofs.«01_k».proof.Defs

@[expose] public section

set_option maxRecDepth 16384

noncomputable section

open Idealize.ShloMosaic Idealize.ShloMosaic.TcCoe Idealize.ShloMosaic.Tactic

/-- The kernel's operands reshaped by its host code, and the reference's, are the reshaped arguments. -/
theorem Cert.DnormIdeal.Val.entry (m : (ℓ : Loc Cert.DnormIdeal.nD Cert.DnormIdeal.τ Cert.DnormIdeal.sig) → Buf (Elt Ideal) ℓ) (c : Dev Cert.DnormIdeal.nD) :
    Cert.DnormIdeal.Gen.V m c Cert.DnormIdeal.main_v0 = shapeCast Cert.DnormIdeal.S256x4096 (m ((c : Thread Cert.DnormIdeal.nD Cert.DnormIdeal.τ).loc Cert.DnormIdeal.main_arg8)) Cert.DnormIdeal.Gen.shapeCasts_S4x64x4096_S256x4096
    ∧ Cert.DnormIdeal.Gen.V m c Cert.DnormIdeal.main_v1 = shapeCast Cert.DnormIdeal.S256x4096 (m ((c : Thread Cert.DnormIdeal.nD Cert.DnormIdeal.τ).loc Cert.DnormIdeal.main_arg9)) Cert.DnormIdeal.Gen.shapeCasts_S4x64x4096_S256x4096 := by
  constructor
  · entry_read; rfl
  · entry_read; rfl

theorem Cert.ReferenceDnormIdeal.Val.entry (m : (ℓ : Loc Cert.ReferenceDnormIdeal.nD Cert.ReferenceDnormIdeal.τ Cert.ReferenceDnormIdeal.sig) → Buf (Elt Ideal) ℓ) (c : Dev Cert.ReferenceDnormIdeal.nD) :
    Cert.ReferenceDnormIdeal.Gen.V m c Cert.ReferenceDnormIdeal.main_v8 = shapeCast Cert.DnormIdeal.S256x4096 (m ((c : Thread Cert.ReferenceDnormIdeal.nD Cert.ReferenceDnormIdeal.τ).loc Cert.ReferenceDnormIdeal.main_arg8)) Cert.DnormIdeal.Gen.shapeCasts_S4x64x4096_S256x4096
    ∧ Cert.ReferenceDnormIdeal.Gen.V m c Cert.ReferenceDnormIdeal.main_v9 = shapeCast Cert.DnormIdeal.S256x4096 (m ((c : Thread Cert.ReferenceDnormIdeal.nD Cert.ReferenceDnormIdeal.τ).loc Cert.ReferenceDnormIdeal.main_arg9)) Cert.DnormIdeal.Gen.shapeCasts_S4x64x4096_S256x4096 := by
  constructor
  · entry_read; rfl
  · entry_read; rfl

/-- The kernel's result array is the reference's. -/
theorem Cert.Dnorm.algebraic : Cert.algebraic_DnormIdeal_ReferenceDnormIdeal := by
  pair_intro
  · run_from Cert.DnormIdeal.Value.run_blocks m g
  · run_from Cert.ReferenceDnormIdeal.Value.run_blocks m' g'
    obtain ⟨h0, h1, h2, h3, h4, h5, h6, h7, h8, h9⟩ := hagree c
    refine (Cert.ReferenceDnormIdeal.Val.final m' c).trans (Eq.trans ?_ (Cert.DnormIdeal.Val.final m c).symm)
    rw [(Cert.DnormIdeal.Val.entry m c).1, (Cert.DnormIdeal.Val.entry m c).2, (Cert.ReferenceDnormIdeal.Val.entry m' c).1,
      (Cert.ReferenceDnormIdeal.Val.entry m' c).2, h0, h1, h2, h3, h4, h5, h6, h7, h8, h9]
-- ==== Proof.FinishBody.lean ====
/-
  The body of the last call, point by point: the row block of the input gradient and its row mean, and the three adapter gradients summed over
  the row blocks.
-/
module

public import proofs.«01_k».proof.Proof.Gen.FinishIdeal.Value
public import proofs.«01_k».proof.Proof.Tiles

@[expose] public section

set_option maxRecDepth 16384

noncomputable section

namespace Cert.FinishIdeal.Val

open Cert.FinishIdeal Cert.FinishIdeal.Gen Idealize.ShloMosaic Idealize.ShloMosaic.TcCoe Cert.Tiles
open Idealize.ShloMosaic.Pipeline (Dat)
open Idealize.ShloMosaic.Tactic

/-- A whole buffer read back is its contents. -/
theorem whole_read {sp : Space} {s : Shape} {e : EltTy} {mr : Memref sig .tc sp s e} (h : mr.IsWhole) (X : s.Idx → Elt Ideal e) {off : Fin s.rank → ℕ}
    (hz : off = fun _ => 0) (inb) : View.readAt (Elt Ideal) mr.view (Rect.unit (s := s) off s.size inb).toLoadRect (h.unread X) = X := by
  rw [View.readAt_eq_ld, View.ld_unit_zero hz]
  exact h.read_unread X

theorem zero2 : (![0, 0] : Fin 2 → ℕ) = fun _ => 0 := by funext a; fin_cases a <;> rfl

/-- The factor of a row over the lanes. -/
def lane (ri : Vec Ideal S256x128 .f32) (i : Fin 256) (d : Fin 4096) : EReal := ri (ix2 i ⟨d.val % 128, Nat.mod_lt _ (by decide)⟩)

/-- One entry's part of its row's mean. -/
def part (dn : Vec Ideal S256x4096 .f32) (gn : Vec Ideal S1x4096 .f32) (xr : Vec Ideal S256x4096 .bf16) (ri : Vec Ideal S256x128 .f32) (i : Fin 256)
    (d : Fin 4096) : EReal := ((dn (ix2 i d) : EReal) * gn (ix2 0 d)) * ((xr (ix2 i d) : EReal) * lane ri i d)

/-- The mean over a row. -/
def mean (dn : Vec Ideal S256x4096 .f32) (gn : Vec Ideal S1x4096 .f32) (xr : Vec Ideal S256x4096 .bf16) (ri : Vec Ideal S256x128 .f32) (i : Fin 256) : EReal :=
  (∑ d : Fin 4096, part dn gn xr ri i d) * (Scalar.ofBits (F := Ideal) .f32 0x39800000#32 : EReal)

/-- The block of the input gradient. -/
def grad (dn : Vec Ideal S256x4096 .f32) (gn : Vec Ideal S1x4096 .f32) (xr dy : Vec Ideal S256x4096 .bf16) (ri : Vec Ideal S256x128 .f32) :
    Vec Ideal S256x4096 .bf16 := fun y =>
  ((dy y : EReal) + lane ri (y 0) (y 1) * (((dn y : EReal) * gn (ix2 0 (y 1))) - ((xr y : EReal) * lane ri (y 0) (y 1)) * mean dn gn xr ri (y 0)) : EReal)

/-- One 128-lane slice of a row block's products, as the body spells it. -/
def prod (dn : FVec Ideal S256x128 .f32) (gn : FVec Ideal S1x128 .f32) (xr : FVec Ideal S256x128 .bf16) (r : FVec Ideal S256x128 .f32) : FVec Ideal S256x128 .f32 :=
  mulf (mulf dn (broadcastTo S256x128 (shapeCast S1x128 gn shapeCasts_S1x128_S1x128) broadcasts_S1x128_S256x128)) (mulf (extf .f32 xr bitsLt_bf16_f32) r)

theorem prod_apply (dn : FVec Ideal S256x128 .f32) (gn : FVec Ideal S1x128 .f32) (xr : FVec Ideal S256x128 .bf16) (r : FVec Ideal S256x128 .f32) (x : S256x128.Idx) :
    prod dn gn xr r x = (((dn x : EReal) * gn (ix2 0 (x 1))) * ((xr x : EReal) * r x) : EReal) := by
  pointwise [prod]

/-- The 32 slices summed, as the body spells it. -/
def slices (g : Fin 32 → FVec Ideal S256x128 .f32) : FVec Ideal S256x128 .f32 :=
  addf (addf (addf (addf (addf (addf (addf (addf (addf (addf (addf (addf (addf (addf (addf (addf (addf (addf (addf (addf (addf (addf (addf (addf (addf (addf (addf (addf (addf (addf (addf (addf (broadcast S256x128 (Scalar.ofBits (F := Ideal) .f32 0x00000000#32)) (g 0)) (g 1)) (g 2)) (g 3)) (g 4)) (g 5)) (g 6)) (g 7)) (g 8)) (g 9)) (g 10)) (g 11)) (g 12)) (g 13)) (g 14)) (g 15)) (g 16)) (g 17)) (g 18)) (g 19)) (g 20)) (g 21)) (g 22)) (g 23)) (g 24)) (g 25)) (g 26)) (g 27)) (g 28)) (g 29)) (g 30)) (g 31)

theorem slices_apply (g : Fin 32 → FVec Ideal S256x128 .f32) (x : S256x128.Idx) : slices g x = (∑ k, (g k x : EReal) : EReal) := by
  have h : slices g x = (((((((((((((((((((((((((((((((((0 + (g 0 x : EReal)) + (g 1 x : EReal)) + (g 2 x : EReal)) + (g 3 x : EReal)) + (g 4 x : EReal)) + (g 5 x : EReal)) + (g 6 x : EReal)) + (g 7 x : EReal)) + (g 8 x : EReal)) + (g 9 x : EReal)) + (g 10 x : EReal)) + (g 11 x : EReal)) + (g 12 x : EReal)) + (g 13 x : EReal)) + (g 14 x : EReal)) + (g 15 x : EReal)) + (g 16 x : EReal)) + (g 17 x : EReal)) + (g 18 x : EReal)) + (g 19 x : EReal)) + (g 20 x : EReal)) + (g 21 x : EReal)) + (g 22 x : EReal)) + (g 23 x : EReal)) + (g 24 x : EReal)) + (g 25 x : EReal)) + (g 26 x : EReal)) + (g 27 x : EReal)) + (g 28 x : EReal)) + (g 29 x : EReal)) + (g 30 x : EReal)) + (g 31 x : EReal)) : EReal) := by pointwise [slices]
  rw [h]
  simp only [Fin.sum_univ_castSucc, Fin.sum_univ_zero]
  simp only [zero_add]
  rfl

/-- The mean over each row, as the body spells it. -/
def rowMean (a : FVec Ideal S256x128 .f32) : FVec Ideal S256x1 .f32 :=
  mulf (shapeCast S256x1 (multiReduction .add [1] S256 a 0x00000000#32 reduces_S256x128_S256 (.inl rfl) rfl) shapeCasts_S256_S256x1)
    (broadcast S256x1 (Scalar.ofBits (F := Ideal) .f32 0x39800000#32))

theorem rowMean_apply (a : FVec Ideal S256x128 .f32) (x : S256x1.Idx) :
    rowMean a x = ((∑ l : Fin 128, (a (ix2 (x 0) l) : EReal)) * (Scalar.ofBits (F := Ideal) .f32 0x39800000#32 : EReal) : EReal) := by
  pointwise [rowMean]

theorem inb_slice (k : Fin 32) : ∀ a, (![0, 128 * k.val] : Fin 2 → ℕ) a + S256x128.size a ≤ S256x4096.size a := by
  have := k.isLt
  intro a; fin_cases a
  · show 0 + 256 ≤ 256; omega
  · show 128 * k.val + 128 ≤ 4096; omega

theorem inb_row (k : Fin 32) : ∀ a, (![0, 128 * k.val] : Fin 2 → ℕ) a + S1x128.size a ≤ S1x4096.size a := by
  have := k.isLt
  intro a; fin_cases a
  · show 0 + 1 ≤ 1; omega
  · show 128 * k.val + 128 ≤ 4096; omega

section
variable (c : Dev nD) (m2 : Memref sig .tc .vmem S256x4096 .f32) (h2 : m2.IsWhole) (m3 : Memref sig .tc .vmem S256x4096 .bf16) (h3 : m3.IsWhole)
  (m5 : Memref sig .tc .vmem S1x4096 .f32) (h5 : m5.IsWhole) (m6 : Memref sig .tc .vmem S256x128 .f32) (h6 : m6.IsWhole)
  (dn : Vec Ideal S256x4096 .f32) (xr : Vec Ideal S256x4096 .bf16) (gn : Vec Ideal S1x4096 .f32) (ri : Vec Ideal S256x128 .f32)

/-- The row factor as the body reads it. -/
def factor : FVec Ideal S256x128 .f32 := kernelRun0_B.sl.r (F := Ideal) c m6 h6 ri

theorem factor_eq : factor c m6 h6 ri = ri := by
  unfold factor kernelRun0_B.sl.r
  rw [whole_read h6 ri zero2]
  funext x
  pointwise [k0_pay6]

/-- The slice's products over the staged blocks. -/
def slice (k : Fin 32) : FVec Ideal S256x128 .f32 :=
  prod (View.readAt (Elt Ideal) m2.view (Rect.unit (s := S256x4096) ![0, 128 * k.val] S256x128.size (inb_slice k)).toLoadRect (h2.unread dn))
    (View.readAt (Elt Ideal) m5.view (Rect.unit (s := S1x4096) ![0, 128 * k.val] S1x128.size (inb_row k)).toLoadRect (h5.unread gn))
    (View.readAt (Elt Ideal) m3.view (Rect.unit (s := S256x4096) ![0, 128 * k.val] S256x128.size (inb_slice k)).toLoadRect (h3.unread xr))
    (factor c m6 h6 ri)

theorem slice_apply (k : Fin 32) (x : S256x128.Idx) (hl : k.val * 128 + (x 1).val < 4096) :
    slice c m2 h2 m3 h3 m5 h5 m6 h6 dn xr gn ri k x = part dn gn xr ri (x 0) ⟨k.val * 128 + (x 1).val, hl⟩ := by
  have hx1 : (x 1).val < 128 := (x 1).isLt
  unfold slice
  rw [prod_apply, factor_eq]
  simp only [h2.readAt_unread, h3.readAt_unread, h5.readAt_unread]
  have ei : (Rect.unit (s := S256x4096) ![0, 128 * k.val] S256x128.size (inb_slice k)).toLoadRect.idx x = ix2 (x 0) ⟨k.val * 128 + (x 1).val, hl⟩ := by
    funext ax; apply Fin.ext; fin_cases ax
    · show 0 + 1 * (x 0).val = (x 0).val; omega
    · show 128 * k.val + 1 * (x 1).val = k.val * 128 + (x 1).val; omega
  have er : (Rect.unit (s := S1x4096) ![0, 128 * k.val] S1x128.size (inb_row k)).toLoadRect.idx (ix2 0 (x 1)) = ix2 0 ⟨k.val * 128 + (x 1).val, hl⟩ := by
    funext ax; apply Fin.ext; fin_cases ax
    · rfl
    · show 128 * k.val + 1 * (x 1).val = k.val * 128 + (x 1).val; omega
  rw [ei, er]
  unfold part lane
  refine congrArg₂ (fun a b : EReal => a * b) rfl (congrArg₂ (fun a b : EReal => a * b) rfl (congrArg ri ?_))
  funext ax; apply Fin.ext; fin_cases ax
  · rfl
  · show (x 1).val = (k.val * 128 + (x 1).val) % 128; omega

theorem mean_eq : kernelRun0_B.sl.r_19 (F := Ideal) c m2 h2 m3 h3 m5 h5 m6 h6 dn xr gn ri = fun x => mean dn gn xr ri (x 0) := by
  refine (show _ = rowMean (slices (slice c m2 h2 m3 h3 m5 h5 m6 h6 dn xr gn ri)) from rfl).trans ?_
  funext x
  rw [rowMean_apply]
  refine congrArg₂ (fun a b : EReal => a * b) ?_ rfl
  simp only [slices_apply]
  rw [Finset.sum_comm]
  exact Fin.sum_mul_add_congr fun k l hl => slice_apply c m2 h2 m3 h3 m5 h5 m6 h6 dn xr gn ri k (ix2 (x 0) l) hl

end

/-- One 128-lane slice of the input gradient's block, as the body spells it. -/
def gradTile (r : FVec Ideal S256x128 .f32) (cm : FVec Ideal S256x1 .f32) (xr dy : FVec Ideal S256x128 .bf16) (dn : FVec Ideal S256x128 .f32) (gn : FVec Ideal S1x128 .f32) :
    FVec Ideal S256x128 .bf16 :=
  truncf .bf16 (addf (extf .f32 dy bitsLt_bf16_f32) (mulf r (subf (mulf dn (broadcastTo S256x128 (shapeCast S1x128 gn shapeCasts_S1x128_S1x128) broadcasts_S1x128_S256x128))
    (mulf (mulf (extf .f32 xr bitsLt_bf16_f32) r) (broadcastTo S256x128 cm broadcasts_S256x1_S256x128))))) bitsLt_bf16_f32

theorem gradTile_apply (r : FVec Ideal S256x128 .f32) (cm : FVec Ideal S256x1 .f32) (xr dy : FVec Ideal S256x128 .bf16) (dn : FVec Ideal S256x128 .f32) (gn : FVec Ideal S1x128 .f32) (x : S256x128.Idx) :
    gradTile r cm xr dy dn gn x
      = ((dy x : EReal) + (r x : EReal) * (((dn x : EReal) * gn (ix2 0 (x 1))) - ((xr x : EReal) * r x) * cm (ix2 (x 0) 0)) : EReal) := by
  pointwise [gradTile]

theorem piece_grad {m2 : Memref sig .tc .vmem S256x4096 .f32} (h2 : m2.IsWhole) {m3 : Memref sig .tc .vmem S256x4096 .bf16} (h3 : m3.IsWhole)
    {m4 : Memref sig .tc .vmem S256x4096 .bf16} (h4 : m4.IsWhole) {m5 : Memref sig .tc .vmem S1x4096 .f32} (h5 : m5.IsWhole)
    (dn : Vec Ideal S256x4096 .f32) (xr dy : Vec Ideal S256x4096 .bf16) (gn : Vec Ideal S1x4096 .f32) (ri : Vec Ideal S256x128 .f32)
    (r : FVec Ideal S256x128 .f32) (hr : r = ri) (cm : FVec Ideal S256x1 .f32) (hc : cm = fun x => mean dn gn xr ri (x 0)) (k : Fin 32) (inb inb5)
    (x : S256x128.Idx) :
    gradTile r cm (View.readAt (Elt Ideal) m3.view (Rect.unit (s := S256x4096) ![0, 128 * k.val] S256x128.size inb).toLoadRect (h3.unread xr))
        (View.readAt (Elt Ideal) m4.view (Rect.unit (s := S256x4096) ![0, 128 * k.val] S256x128.size inb).toLoadRect (h4.unread dy))
        (View.readAt (Elt Ideal) m2.view (Rect.unit (s := S256x4096) ![0, 128 * k.val] S256x128.size inb).toLoadRect (h2.unread dn))
        (View.readAt (Elt Ideal) m5.view (Rect.unit (s := S1x4096) ![0, 128 * k.val] S1x128.size inb5).toLoadRect (h5.unread gn)) x
      = grad dn gn xr dy ri ((Rect.unit (s := S256x4096) ![0, 128 * k.val] S256x128.size inb).emb x) := by
  subst hr hc
  have hx0 : (((Rect.unit (s := S256x4096) ![0, 128 * k.val] S256x128.size inb).emb x) 0) = x 0 := by
    apply Fin.ext; show 0 + 1 * (x 0).val = _; omega
  have hl : lane r (x 0) (((Rect.unit (s := S256x4096) ![0, 128 * k.val] S256x128.size inb).emb x) 1) = r x := by
    unfold lane
    refine congrArg r ?_
    have hx1 : (x 1).val < 128 := (x 1).isLt
    funext ax; apply Fin.ext; fin_cases ax
    · rfl
    · show (128 * k.val + 1 * (x 1).val) % 128 = (x 1).val; omega
  rw [gradTile_apply]
  unfold grad
  rw [hx0, hl]
  simp only [h2.readAt_unread, h3.readAt_unread, h4.readAt_unread, h5.readAt_unread]
  have er : (Rect.unit (s := S1x4096) ![0, 128 * k.val] S1x128.size inb5).toLoadRect.idx (ix2 0 (x 1))
      = ix2 0 (((Rect.unit (s := S256x4096) ![0, 128 * k.val] S256x128.size inb).emb x) 1) := by
    funext ax; apply Fin.ext; fin_cases ax <;> rfl
  rw [er]
  rfl

/-- What one row block adds to an adapter's gradient `Z`. -/
def addOuter (Z : Vec Ideal S256x4096 .f32) (l : Vec Ideal S256x256 .bf16) (h : Vec Ideal S256x4096 .bf16) : Vec Ideal S256x4096 .f32 := fun y =>
  ((Z y : EReal) + ∑ k : Fin 256, (l (ix2 k (y 0)) : EReal) * h (ix2 k (y 1)) : EReal)

theorem pay_gate (Z : Vec Ideal S256x4096 .f32) (l : Vec Ideal S256x256 .bf16) (h : Vec Ideal S256x4096 .bf16) : k0_pay76 (k0_pay75 Z) l h = addOuter Z l h := by
  funext y
  pointwise [k0_pay76, k0_pay75, addOuter]

theorem pay_up (Z : Vec Ideal S256x4096 .f32) (l : Vec Ideal S256x256 .bf16) (h : Vec Ideal S256x4096 .bf16) : k0_pay77 Z l h = addOuter Z l h := by
  funext y
  pointwise [k0_pay77, addOuter]

theorem pay_down (Z : Vec Ideal S256x4096 .f32) (l : Vec Ideal S256x256 .bf16) (h : Vec Ideal S256x4096 .bf16) : k0_pay1 (k0_pay78 Z) l h = addOuter Z l h := by
  funext y
  pointwise [k0_pay1, k0_pay78, addOuter]

theorem pay_zero3 : (k0_pay3 (F := Ideal) : Vec Ideal S256x4096 .f32) = fun _ => (0 : EReal) := by
  funext y
  pointwise [k0_pay3]

theorem pay_zero4 : (k0_pay4 (F := Ideal) : Vec Ideal S256x4096 .f32) = fun _ => (0 : EReal) := pay_zero3

theorem pay_zero5 : (k0_pay5 (F := Ideal) : Vec Ideal S256x4096 .f32) = fun _ => (0 : EReal) := pay_zero3

/-- Each row times its job's alpha. -/
def scaled (a : Vec Ideal S4 .f32) (Z : Vec Ideal S256x4096 .f32) : Vec Ideal S256x4096 .f32 := fun y =>
  ((a (ix1 ⟨(y 0).val / 64, Nat.div_lt_of_lt_mul (y 0).isLt⟩) : EReal) * Z y : EReal)

theorem rows64 : ∀ (j : Fin 4) (i : Fin 256), IntOp.andi (IntOp.cmpi .sge (BitVec.ofNat 32 i.val) (BitVec.ofNat 32 (64 * j.val)))
    (IntOp.cmpi .slt (BitVec.ofNat 32 i.val) (BitVec.ofNat 32 (64 * j.val + 64))) = if i.val / 64 = j.val then 1#1 else 0#1 := by decide +kernel

theorem pay_scaled (a : Vec Ideal S4 .f32) (Z : Vec Ideal S256x4096 .f32) :
    k0_pay2 (a (ix1 0)) (a (ix1 1)) (a (ix1 2)) (a (ix1 3)) Z = scaled a Z := by
  funext y
  have h0 : (y 0).val < 256 := (y 0).isLt
  pointwise [k0_pay2, scaled]
  refine congrArg (· * Z y) ?_
  have e0 := rows64 0 (y 0)
  have e1 := rows64 1 (y 0)
  have e2 := rows64 2 (y 0)
  have e3 := rows64 3 (y 0)
  simp only [Fin.val_zero, Fin.val_one, Fin.val_two, show ((3 : Fin 4) : ℕ) = 3 from rfl, Nat.reduceMul, Nat.reduceAdd] at e0 e1 e2 e3
  rw [e0, e1, e2, e3]
  have key : ∀ (q : ℕ) (hq : q < 4), Scalar.select (if q = 3 then 1#1 else 0#1) (a (ix1 3)) (Scalar.select (if q = 2 then 1#1 else 0#1) (a (ix1 2))
      (Scalar.select (if q = 1 then 1#1 else 0#1) (a (ix1 1)) (Scalar.select (if q = 0 then 1#1 else 0#1) (a (ix1 0)) (0 : EReal)))) = (a (ix1 ⟨q, hq⟩) : EReal) := by
    intro q hq
    interval_cases q <;> rfl
  exact key _ _

theorem pay_mean (c : Dev nD) (m2 : Memref sig .tc .vmem S256x4096 .f32) (h2 : m2.IsWhole) (m3 : Memref sig .tc .vmem S256x4096 .bf16) (h3 : m3.IsWhole)
    (m5 : Memref sig .tc .vmem S1x4096 .f32) (h5 : m5.IsWhole) (m6 : Memref sig .tc .vmem S256x128 .f32) (h6 : m6.IsWhole)
    (dn : Vec Ideal S256x4096 .f32) (xr : Vec Ideal S256x4096 .bf16) (gn : Vec Ideal S1x4096 .f32) (ri : Vec Ideal S256x128 .f32) :
    (broadcastTo S256x128 (shapeCast S256x1 (kernelRun0_B.sl.r_19 (F := Ideal) c m2 h2 m3 h3 m5 h5 m6 h6 dn xr gn ri) shapeCasts_S256x1_S256x1) broadcasts_S256x1_S256x128
        : FVec Ideal S256x128 .f32) = fun x => mean dn gn xr ri (x 0) := by
  rw [mean_eq]
  funext x
  pointwise

variable (m : (ℓ : Loc nD τ sig) → Buf (Elt Ideal) ℓ)

theorem grad_A (c : Dev nD) (t : Fin cfg0.N) (h0 : t.val % 6 = 0) (h1 : ¬t.val % 6 = 5) :
    (outsAt0 m c t.val t.isLt).1 = grad (iblk m c 1 t) (iblk m c 4 t) (iblk m c 2 t) (iblk m c 3 t) (iblk m c 5 t) := by
  rw [outsAt0_A m c t h0 h1]
  unfold out0_A_10
  dsimp only
  rw [View.read_writes_junk_eq_canon]
  refine canon_eq_of_piecesOf _ _ ?_ (View.cover_of_tiledL _ S256x128.size (by sl_kernel_rfl))
  have hr : kernelRun0_A.sl.r (F := Ideal) c (ms0_5 t) (hs0_5 t) (iblk m c 5 t) = iblk m c 5 t := factor_eq c (ms0_5 t) (hs0_5 t) (iblk m c 5 t)
  have hc : kernelRun0_A.sl.r_19 (F := Ideal) c (ms0_1 t) (hs0_1 t) (ms0_2 t) (hs0_2 t) (ms0_4 t) (hs0_4 t) (ms0_5 t) (hs0_5 t) (iblk m c 1 t) (iblk m c 2 t) (iblk m c 4 t) (iblk m c 5 t) = fun x => mean (iblk m c 1 t) (iblk m c 4 t) (iblk m c 2 t) (iblk m c 5 t) (x 0) :=
    mean_eq c (ms0_1 t) (hs0_1 t) (ms0_2 t) (hs0_2 t) (ms0_4 t) (hs0_4 t) (ms0_5 t) (hs0_5 t) (iblk m c 1 t) (iblk m c 2 t) (iblk m c 4 t) (iblk m c 5 t)
  unfold kernelRun0_A
  exact ⟨piece_grad (hs0_1 t) (hs0_2 t) (hs0_3 t) (hs0_4 t) _ _ _ _ _ _ hr _ hc 31 _ _,
    piece_grad (hs0_1 t) (hs0_2 t) (hs0_3 t) (hs0_4 t) _ _ _ _ _ _ hr _ hc 30 _ _,
    piece_grad (hs0_1 t) (hs0_2 t) (hs0_3 t) (hs0_4 t) _ _ _ _ _ _ hr _ hc 29 _ _,
    piece_grad (hs0_1 t) (hs0_2 t) (hs0_3 t) (hs0_4 t) _ _ _ _ _ _ hr _ hc 28 _ _,
    piece_grad (hs0_1 t) (hs0_2 t) (hs0_3 t) (hs0_4 t) _ _ _ _ _ _ hr _ hc 27 _ _,
    piece_grad (hs0_1 t) (hs0_2 t) (hs0_3 t) (hs0_4 t) _ _ _ _ _ _ hr _ hc 26 _ _,
    piece_grad (hs0_1 t) (hs0_2 t) (hs0_3 t) (hs0_4 t) _ _ _ _ _ _ hr _ hc 25 _ _,
    piece_grad (hs0_1 t) (hs0_2 t) (hs0_3 t) (hs0_4 t) _ _ _ _ _ _ hr _ hc 24 _ _,
    piece_grad (hs0_1 t) (hs0_2 t) (hs0_3 t) (hs0_4 t) _ _ _ _ _ _ hr _ hc 23 _ _,
    piece_grad (hs0_1 t) (hs0_2 t) (hs0_3 t) (hs0_4 t) _ _ _ _ _ _ hr _ hc 22 _ _,
    piece_grad (hs0_1 t) (hs0_2 t) (hs0_3 t) (hs0_4 t) _ _ _ _ _ _ hr _ hc 21 _ _,
    piece_grad (hs0_1 t) (hs0_2 t) (hs0_3 t) (hs0_4 t) _ _ _ _ _ _ hr _ hc 20 _ _,
    piece_grad (hs0_1 t) (hs0_2 t) (hs0_3 t) (hs0_4 t) _ _ _ _ _ _ hr _ hc 19 _ _,
    piece_grad (hs0_1 t) (hs0_2 t) (hs0_3 t) (hs0_4 t) _ _ _ _ _ _ hr _ hc 18 _ _,
    piece_grad (hs0_1 t) (hs0_2 t) (hs0_3 t) (hs0_4 t) _ _ _ _ _ _ hr _ hc 17 _ _,
    piece_grad (hs0_1 t) (hs0_2 t) (hs0_3 t) (hs0_4 t) _ _ _ _ _ _ hr _ hc 16 _ _,
    piece_grad (hs0_1 t) (hs0_2 t) (hs0_3 t) (hs0_4 t) _ _ _ _ _ _ hr _ hc 15 _ _,
    piece_grad (hs0_1 t) (hs0_2 t) (hs0_3 t) (hs0_4 t) _ _ _ _ _ _ hr _ hc 14 _ _,
    piece_grad (hs0_1 t) (hs0_2 t) (hs0_3 t) (hs0_4 t) _ _ _ _ _ _ hr _ hc 13 _ _,
    piece_grad (hs0_1 t) (hs0_2 t) (hs0_3 t) (hs0_4 t) _ _ _ _ _ _ hr _ hc 12 _ _,
    piece_grad (hs0_1 t) (hs0_2 t) (hs0_3 t) (hs0_4 t) _ _ _ _ _ _ hr _ hc 11 _ _,
    piece_grad (hs0_1 t) (hs0_2 t) (hs0_3 t) (hs0_4 t) _ _ _ _ _ _ hr _ hc 10 _ _,
    piece_grad (hs0_1 t) (hs0_2 t) (hs0_3 t) (hs0_4 t) _ _ _ _ _ _ hr _ hc 9 _ _,
    piece_grad (hs0_1 t) (hs0_2 t) (hs0_3 t) (hs0_4 t) _ _ _ _ _ _ hr _ hc 8 _ _,
    piece_grad (hs0_1 t) (hs0_2 t) (hs0_3 t) (hs0_4 t) _ _ _ _ _ _ hr _ hc 7 _ _,
    piece_grad (hs0_1 t) (hs0_2 t) (hs0_3 t) (hs0_4 t) _ _ _ _ _ _ hr _ hc 6 _ _,
    piece_grad (hs0_1 t) (hs0_2 t) (hs0_3 t) (hs0_4 t) _ _ _ _ _ _ hr _ hc 5 _ _,
    piece_grad (hs0_1 t) (hs0_2 t) (hs0_3 t) (hs0_4 t) _ _ _ _ _ _ hr _ hc 4 _ _,
    piece_grad (hs0_1 t) (hs0_2 t) (hs0_3 t) (hs0_4 t) _ _ _ _ _ _ hr _ hc 3 _ _,
    piece_grad (hs0_1 t) (hs0_2 t) (hs0_3 t) (hs0_4 t) _ _ _ _ _ _ hr _ hc 2 _ _,
    piece_grad (hs0_1 t) (hs0_2 t) (hs0_3 t) (hs0_4 t) _ _ _ _ _ _ hr _ hc 1 _ _,
    piece_grad (hs0_1 t) (hs0_2 t) (hs0_3 t) (hs0_4 t) _ _ _ _ _ _ hr _ hc 0 _ _,
    trivial⟩

theorem mean_A (c : Dev nD) (t : Fin cfg0.N) (h0 : t.val % 6 = 0) (h1 : ¬t.val % 6 = 5) :
    (outsAt0 m c t.val t.isLt).2.1 = fun x => mean (iblk m c 1 t) (iblk m c 4 t) (iblk m c 2 t) (iblk m c 5 t) (x 0) := by
  rw [outsAt0_A m c t h0 h1]
  unfold out0_A_11
  dsimp only
  rw [View.read_writes_junk_eq_canon]
  unfold kernelRun0_A
  refine (View.canon_unit_zero zero2 _ _).trans ?_
  exact pay_mean c (ms0_1 t) (hs0_1 t) (ms0_2 t) (hs0_2 t) (ms0_4 t) (hs0_4 t) (ms0_5 t) (hs0_5 t) (iblk m c 1 t) (iblk m c 2 t) (iblk m c 4 t) (iblk m c 5 t)

theorem gate_A (c : Dev nD) (t : Fin cfg0.N) (h0 : t.val % 6 = 0) (h1 : ¬t.val % 6 = 5) :
    (outsAt0 m c t.val t.isLt).2.2.1 = addOuter (fun _ => (0 : EReal)) (iblk m c 8 t) (iblk m c 6 t) := by
  rw [outsAt0_A m c t h0 h1]
  unfold out0_A_12
  dsimp only
  rw [View.read_writes_junk_eq_canon]
  unfold kernelRun0_A
  refine (View.canon_cons_unit_zero zero2 _ _ _).trans ((pay_gate _ _ _).trans ?_)
  exact (congrArg₂ (addOuter · · _) ((View.readCov_unit_zero _ zero2 _ _).trans pay_zero3) (whole_read (hs0_8 t) _ zero2 _)).trans (congrArg (addOuter _ _ ·) (whole_read (hs0_6 t) _ zero2 _))

theorem up_A (c : Dev nD) (t : Fin cfg0.N) (h0 : t.val % 6 = 0) (h1 : ¬t.val % 6 = 5) :
    (outsAt0 m c t.val t.isLt).2.2.2.1 = addOuter (fun _ => (0 : EReal)) (iblk m c 9 t) (iblk m c 6 t) := by
  rw [outsAt0_A m c t h0 h1]
  unfold out0_A_13
  dsimp only
  rw [View.read_writes_junk_eq_canon]
  unfold kernelRun0_A
  refine (View.canon_cons_unit_zero zero2 _ _ _).trans ((pay_up _ _ _).trans ?_)
  exact (congrArg₂ (addOuter · · _) ((View.readCov_unit_zero _ zero2 _ _).trans pay_zero4) (whole_read (hs0_9 t) _ zero2 _)).trans (congrArg (addOuter _ _ ·) (whole_read (hs0_6 t) _ zero2 _))

theorem down_A (c : Dev nD) (t : Fin cfg0.N) (h0 : t.val % 6 = 0) (h1 : ¬t.val % 6 = 5) :
    (outsAt0 m c t.val t.isLt).2.2.2.2 = addOuter (fun _ => (0 : EReal)) (iblk m c 7 t) (iblk m c 3 t) := by
  rw [outsAt0_A m c t h0 h1]
  unfold out0_A_14
  dsimp only
  rw [View.read_writes_junk_eq_canon]
  unfold kernelRun0_A
  refine (View.canon_cons_unit_zero zero2 _ _ _).trans ((pay_down _ _ _).trans ?_)
  exact (congrArg₂ (addOuter · · _) ((View.readCov_unit_zero _ zero2 _ _).trans pay_zero5) (whole_read (hs0_7 t) _ zero2 _)).trans (congrArg (addOuter _ _ ·) (whole_read (hs0_3 t) _ zero2 _))

theorem grad_B (c : Dev nD) (t : Fin cfg0.N) (h0 : ¬t.val % 6 = 0) (h1 : ¬t.val % 6 = 5) :
    (outsAt0 m c t.val t.isLt).1 = grad (iblk m c 1 t) (iblk m c 4 t) (iblk m c 2 t) (iblk m c 3 t) (iblk m c 5 t) := by
  rw [outsAt0_B m c t h0 h1]
  unfold out0_B_10
  dsimp only
  rw [View.read_writes_junk_eq_canon]
  refine canon_eq_of_piecesOf _ _ ?_ (View.cover_of_tiledL _ S256x128.size (by sl_kernel_rfl))
  have hr : kernelRun0_B.sl.r (F := Ideal) c (ms0_5 t) (hs0_5 t) (iblk m c 5 t) = iblk m c 5 t := factor_eq c (ms0_5 t) (hs0_5 t) (iblk m c 5 t)
  have hc : kernelRun0_B.sl.r_19 (F := Ideal) c (ms0_1 t) (hs0_1 t) (ms0_2 t) (hs0_2 t) (ms0_4 t) (hs0_4 t) (ms0_5 t) (hs0_5 t) (iblk m c 1 t) (iblk m c 2 t) (iblk m c 4 t) (iblk m c 5 t) = fun x => mean (iblk m c 1 t) (iblk m c 4 t) (iblk m c 2 t) (iblk m c 5 t) (x 0) :=
    mean_eq c (ms0_1 t) (hs0_1 t) (ms0_2 t) (hs0_2 t) (ms0_4 t) (hs0_4 t) (ms0_5 t) (hs0_5 t) (iblk m c 1 t) (iblk m c 2 t) (iblk m c 4 t) (iblk m c 5 t)
  unfold kernelRun0_B
  exact ⟨piece_grad (hs0_1 t) (hs0_2 t) (hs0_3 t) (hs0_4 t) _ _ _ _ _ _ hr _ hc 31 _ _,
    piece_grad (hs0_1 t) (hs0_2 t) (hs0_3 t) (hs0_4 t) _ _ _ _ _ _ hr _ hc 30 _ _,
    piece_grad (hs0_1 t) (hs0_2 t) (hs0_3 t) (hs0_4 t) _ _ _ _ _ _ hr _ hc 29 _ _,
    piece_grad (hs0_1 t) (hs0_2 t) (hs0_3 t) (hs0_4 t) _ _ _ _ _ _ hr _ hc 28 _ _,
    piece_grad (hs0_1 t) (hs0_2 t) (hs0_3 t) (hs0_4 t) _ _ _ _ _ _ hr _ hc 27 _ _,
    piece_grad (hs0_1 t) (hs0_2 t) (hs0_3 t) (hs0_4 t) _ _ _ _ _ _ hr _ hc 26 _ _,
    piece_grad (hs0_1 t) (hs0_2 t) (hs0_3 t) (hs0_4 t) _ _ _ _ _ _ hr _ hc 25 _ _,
    piece_grad (hs0_1 t) (hs0_2 t) (hs0_3 t) (hs0_4 t) _ _ _ _ _ _ hr _ hc 24 _ _,
    piece_grad (hs0_1 t) (hs0_2 t) (hs0_3 t) (hs0_4 t) _ _ _ _ _ _ hr _ hc 23 _ _,
    piece_grad (hs0_1 t) (hs0_2 t) (hs0_3 t) (hs0_4 t) _ _ _ _ _ _ hr _ hc 22 _ _,
    piece_grad (hs0_1 t) (hs0_2 t) (hs0_3 t) (hs0_4 t) _ _ _ _ _ _ hr _ hc 21 _ _,
    piece_grad (hs0_1 t) (hs0_2 t) (hs0_3 t) (hs0_4 t) _ _ _ _ _ _ hr _ hc 20 _ _,
    piece_grad (hs0_1 t) (hs0_2 t) (hs0_3 t) (hs0_4 t) _ _ _ _ _ _ hr _ hc 19 _ _,
    piece_grad (hs0_1 t) (hs0_2 t) (hs0_3 t) (hs0_4 t) _ _ _ _ _ _ hr _ hc 18 _ _,
    piece_grad (hs0_1 t) (hs0_2 t) (hs0_3 t) (hs0_4 t) _ _ _ _ _ _ hr _ hc 17 _ _,
    piece_grad (hs0_1 t) (hs0_2 t) (hs0_3 t) (hs0_4 t) _ _ _ _ _ _ hr _ hc 16 _ _,
    piece_grad (hs0_1 t) (hs0_2 t) (hs0_3 t) (hs0_4 t) _ _ _ _ _ _ hr _ hc 15 _ _,
    piece_grad (hs0_1 t) (hs0_2 t) (hs0_3 t) (hs0_4 t) _ _ _ _ _ _ hr _ hc 14 _ _,
    piece_grad (hs0_1 t) (hs0_2 t) (hs0_3 t) (hs0_4 t) _ _ _ _ _ _ hr _ hc 13 _ _,
    piece_grad (hs0_1 t) (hs0_2 t) (hs0_3 t) (hs0_4 t) _ _ _ _ _ _ hr _ hc 12 _ _,
    piece_grad (hs0_1 t) (hs0_2 t) (hs0_3 t) (hs0_4 t) _ _ _ _ _ _ hr _ hc 11 _ _,
    piece_grad (hs0_1 t) (hs0_2 t) (hs0_3 t) (hs0_4 t) _ _ _ _ _ _ hr _ hc 10 _ _,
    piece_grad (hs0_1 t) (hs0_2 t) (hs0_3 t) (hs0_4 t) _ _ _ _ _ _ hr _ hc 9 _ _,
    piece_grad (hs0_1 t) (hs0_2 t) (hs0_3 t) (hs0_4 t) _ _ _ _ _ _ hr _ hc 8 _ _,
    piece_grad (hs0_1 t) (hs0_2 t) (hs0_3 t) (hs0_4 t) _ _ _ _ _ _ hr _ hc 7 _ _,
    piece_grad (hs0_1 t) (hs0_2 t) (hs0_3 t) (hs0_4 t) _ _ _ _ _ _ hr _ hc 6 _ _,
    piece_grad (hs0_1 t) (hs0_2 t) (hs0_3 t) (hs0_4 t) _ _ _ _ _ _ hr _ hc 5 _ _,
    piece_grad (hs0_1 t) (hs0_2 t) (hs0_3 t) (hs0_4 t) _ _ _ _ _ _ hr _ hc 4 _ _,
    piece_grad (hs0_1 t) (hs0_2 t) (hs0_3 t) (hs0_4 t) _ _ _ _ _ _ hr _ hc 3 _ _,
    piece_grad (hs0_1 t) (hs0_2 t) (hs0_3 t) (hs0_4 t) _ _ _ _ _ _ hr _ hc 2 _ _,
    piece_grad (hs0_1 t) (hs0_2 t) (hs0_3 t) (hs0_4 t) _ _ _ _ _ _ hr _ hc 1 _ _,
    piece_grad (hs0_1 t) (hs0_2 t) (hs0_3 t) (hs0_4 t) _ _ _ _ _ _ hr _ hc 0 _ _,
    trivial⟩

theorem mean_B (c : Dev nD) (t : Fin cfg0.N) (h0 : ¬t.val % 6 = 0) (h1 : ¬t.val % 6 = 5) :
    (outsAt0 m c t.val t.isLt).2.1 = fun x => mean (iblk m c 1 t) (iblk m c 4 t) (iblk m c 2 t) (iblk m c 5 t) (x 0) := by
  rw [outsAt0_B m c t h0 h1]
  unfold out0_B_11
  dsimp only
  rw [View.read_writes_junk_eq_canon]
  unfold kernelRun0_B
  refine (View.canon_unit_zero zero2 _ _).trans ?_
  exact pay_mean c (ms0_1 t) (hs0_1 t) (ms0_2 t) (hs0_2 t) (ms0_4 t) (hs0_4 t) (ms0_5 t) (hs0_5 t) (iblk m c 1 t) (iblk m c 2 t) (iblk m c 4 t) (iblk m c 5 t)

theorem gate_B (c : Dev nD) (t : Fin cfg0.N) (h0 : ¬t.val % 6 = 0) (h1 : ¬t.val % 6 = 5) :
    (outsAt0 m c t.val t.isLt).2.2.1 = addOuter (outsAt0 m c (t.val - 1) (Nat.lt_of_le_of_lt (Nat.sub_le _ _) t.isLt)).2.2.1 (iblk m c 8 t) (iblk m c 6 t) := by
  rw [outsAt0_B m c t h0 h1]
  unfold out0_B_12
  dsimp only
  rw [View.read_writes_junk_eq_canon]
  unfold kernelRun0_B
  refine (View.canon_unit_zero zero2 _ _).trans ((pay_gate _ _ _).trans ?_)
  exact (congrArg₂ (addOuter · · _) (whole_read (hs0_12 t) _ zero2 _) (whole_read (hs0_8 t) _ zero2 _)).trans (congrArg (addOuter _ _ ·) (whole_read (hs0_6 t) _ zero2 _))

theorem up_B (c : Dev nD) (t : Fin cfg0.N) (h0 : ¬t.val % 6 = 0) (h1 : ¬t.val % 6 = 5) :
    (outsAt0 m c t.val t.isLt).2.2.2.1 = addOuter (outsAt0 m c (t.val - 1) (Nat.lt_of_le_of_lt (Nat.sub_le _ _) t.isLt)).2.2.2.1 (iblk m c 9 t) (iblk m c 6 t) := by
  rw [outsAt0_B m c t h0 h1]
  unfold out0_B_13
  dsimp only
  rw [View.read_writes_junk_eq_canon]
  unfold kernelRun0_B
  refine (View.canon_unit_zero zero2 _ _).trans ((pay_up _ _ _).trans ?_)
  exact (congrArg₂ (addOuter · · _) (whole_read (hs0_13 t) _ zero2 _) (whole_read (hs0_9 t) _ zero2 _)).trans (congrArg (addOuter _ _ ·) (whole_read (hs0_6 t) _ zero2 _))

theorem down_B (c : Dev nD) (t : Fin cfg0.N) (h0 : ¬t.val % 6 = 0) (h1 : ¬t.val % 6 = 5) :
    (outsAt0 m c t.val t.isLt).2.2.2.2 = addOuter (outsAt0 m c (t.val - 1) (Nat.lt_of_le_of_lt (Nat.sub_le _ _) t.isLt)).2.2.2.2 (iblk m c 7 t) (iblk m c 3 t) := by
  rw [outsAt0_B m c t h0 h1]
  unfold out0_B_14
  dsimp only
  rw [View.read_writes_junk_eq_canon]
  unfold kernelRun0_B
  refine (View.canon_unit_zero zero2 _ _).trans ((pay_down _ _ _).trans ?_)
  exact (congrArg₂ (addOuter · · _) (whole_read (hs0_14 t) _ zero2 _) (whole_read (hs0_7 t) _ zero2 _)).trans (congrArg (addOuter _ _ ·) (whole_read (hs0_3 t) _ zero2 _))

theorem grad_C (c : Dev nD) (t : Fin cfg0.N) (h0 : ¬t.val % 6 = 0) (h1 : t.val % 6 = 5) :
    (outsAt0 m c t.val t.isLt).1 = grad (iblk m c 1 t) (iblk m c 4 t) (iblk m c 2 t) (iblk m c 3 t) (iblk m c 5 t) := by
  rw [outsAt0_C m c t h0 h1]
  unfold out0_C_10
  dsimp only
  rw [View.read_writes_junk_eq_canon]
  refine canon_eq_of_piecesOf _ _ ?_ (View.cover_of_tiledL _ S256x128.size (by sl_kernel_rfl))
  have hr : kernelRun0_C.sl.r (F := Ideal) c (ms0_5 t) (hs0_5 t) (iblk m c 5 t) = iblk m c 5 t := factor_eq c (ms0_5 t) (hs0_5 t) (iblk m c 5 t)
  have hc : kernelRun0_C.sl.r_19 (F := Ideal) c (ms0_1 t) (hs0_1 t) (ms0_2 t) (hs0_2 t) (ms0_4 t) (hs0_4 t) (ms0_5 t) (hs0_5 t) (iblk m c 1 t) (iblk m c 2 t) (iblk m c 4 t) (iblk m c 5 t) = fun x => mean (iblk m c 1 t) (iblk m c 4 t) (iblk m c 2 t) (iblk m c 5 t) (x 0) :=
    mean_eq c (ms0_1 t) (hs0_1 t) (ms0_2 t) (hs0_2 t) (ms0_4 t) (hs0_4 t) (ms0_5 t) (hs0_5 t) (iblk m c 1 t) (iblk m c 2 t) (iblk m c 4 t) (iblk m c 5 t)
  unfold kernelRun0_C
  exact ⟨piece_grad (hs0_1 t) (hs0_2 t) (hs0_3 t) (hs0_4 t) _ _ _ _ _ _ hr _ hc 31 _ _,
    piece_grad (hs0_1 t) (hs0_2 t) (hs0_3 t) (hs0_4 t) _ _ _ _ _ _ hr _ hc 30 _ _,
    piece_grad (hs0_1 t) (hs0_2 t) (hs0_3 t) (hs0_4 t) _ _ _ _ _ _ hr _ hc 29 _ _,
    piece_grad (hs0_1 t) (hs0_2 t) (hs0_3 t) (hs0_4 t) _ _ _ _ _ _ hr _ hc 28 _ _,
    piece_grad (hs0_1 t) (hs0_2 t) (hs0_3 t) (hs0_4 t) _ _ _ _ _ _ hr _ hc 27 _ _,
    piece_grad (hs0_1 t) (hs0_2 t) (hs0_3 t) (hs0_4 t) _ _ _ _ _ _ hr _ hc 26 _ _,
    piece_grad (hs0_1 t) (hs0_2 t) (hs0_3 t) (hs0_4 t) _ _ _ _ _ _ hr _ hc 25 _ _,
    piece_grad (hs0_1 t) (hs0_2 t) (hs0_3 t) (hs0_4 t) _ _ _ _ _ _ hr _ hc 24 _ _,
    piece_grad (hs0_1 t) (hs0_2 t) (hs0_3 t) (hs0_4 t) _ _ _ _ _ _ hr _ hc 23 _ _,
    piece_grad (hs0_1 t) (hs0_2 t) (hs0_3 t) (hs0_4 t) _ _ _ _ _ _ hr _ hc 22 _ _,
    piece_grad (hs0_1 t) (hs0_2 t) (hs0_3 t) (hs0_4 t) _ _ _ _ _ _ hr _ hc 21 _ _,
    piece_grad (hs0_1 t) (hs0_2 t) (hs0_3 t) (hs0_4 t) _ _ _ _ _ _ hr _ hc 20 _ _,
    piece_grad (hs0_1 t) (hs0_2 t) (hs0_3 t) (hs0_4 t) _ _ _ _ _ _ hr _ hc 19 _ _,
    piece_grad (hs0_1 t) (hs0_2 t) (hs0_3 t) (hs0_4 t) _ _ _ _ _ _ hr _ hc 18 _ _,
    piece_grad (hs0_1 t) (hs0_2 t) (hs0_3 t) (hs0_4 t) _ _ _ _ _ _ hr _ hc 17 _ _,
    piece_grad (hs0_1 t) (hs0_2 t) (hs0_3 t) (hs0_4 t) _ _ _ _ _ _ hr _ hc 16 _ _,
    piece_grad (hs0_1 t) (hs0_2 t) (hs0_3 t) (hs0_4 t) _ _ _ _ _ _ hr _ hc 15 _ _,
    piece_grad (hs0_1 t) (hs0_2 t) (hs0_3 t) (hs0_4 t) _ _ _ _ _ _ hr _ hc 14 _ _,
    piece_grad (hs0_1 t) (hs0_2 t) (hs0_3 t) (hs0_4 t) _ _ _ _ _ _ hr _ hc 13 _ _,
    piece_grad (hs0_1 t) (hs0_2 t) (hs0_3 t) (hs0_4 t) _ _ _ _ _ _ hr _ hc 12 _ _,
    piece_grad (hs0_1 t) (hs0_2 t) (hs0_3 t) (hs0_4 t) _ _ _ _ _ _ hr _ hc 11 _ _,
    piece_grad (hs0_1 t) (hs0_2 t) (hs0_3 t) (hs0_4 t) _ _ _ _ _ _ hr _ hc 10 _ _,
    piece_grad (hs0_1 t) (hs0_2 t) (hs0_3 t) (hs0_4 t) _ _ _ _ _ _ hr _ hc 9 _ _,
    piece_grad (hs0_1 t) (hs0_2 t) (hs0_3 t) (hs0_4 t) _ _ _ _ _ _ hr _ hc 8 _ _,
    piece_grad (hs0_1 t) (hs0_2 t) (hs0_3 t) (hs0_4 t) _ _ _ _ _ _ hr _ hc 7 _ _,
    piece_grad (hs0_1 t) (hs0_2 t) (hs0_3 t) (hs0_4 t) _ _ _ _ _ _ hr _ hc 6 _ _,
    piece_grad (hs0_1 t) (hs0_2 t) (hs0_3 t) (hs0_4 t) _ _ _ _ _ _ hr _ hc 5 _ _,
    piece_grad (hs0_1 t) (hs0_2 t) (hs0_3 t) (hs0_4 t) _ _ _ _ _ _ hr _ hc 4 _ _,
    piece_grad (hs0_1 t) (hs0_2 t) (hs0_3 t) (hs0_4 t) _ _ _ _ _ _ hr _ hc 3 _ _,
    piece_grad (hs0_1 t) (hs0_2 t) (hs0_3 t) (hs0_4 t) _ _ _ _ _ _ hr _ hc 2 _ _,
    piece_grad (hs0_1 t) (hs0_2 t) (hs0_3 t) (hs0_4 t) _ _ _ _ _ _ hr _ hc 1 _ _,
    piece_grad (hs0_1 t) (hs0_2 t) (hs0_3 t) (hs0_4 t) _ _ _ _ _ _ hr _ hc 0 _ _,
    trivial⟩

theorem mean_C (c : Dev nD) (t : Fin cfg0.N) (h0 : ¬t.val % 6 = 0) (h1 : t.val % 6 = 5) :
    (outsAt0 m c t.val t.isLt).2.1 = fun x => mean (iblk m c 1 t) (iblk m c 4 t) (iblk m c 2 t) (iblk m c 5 t) (x 0) := by
  rw [outsAt0_C m c t h0 h1]
  unfold out0_C_11
  dsimp only
  rw [View.read_writes_junk_eq_canon]
  unfold kernelRun0_C
  refine (View.canon_unit_zero zero2 _ _).trans ?_
  exact pay_mean c (ms0_1 t) (hs0_1 t) (ms0_2 t) (hs0_2 t) (ms0_4 t) (hs0_4 t) (ms0_5 t) (hs0_5 t) (iblk m c 1 t) (iblk m c 2 t) (iblk m c 4 t) (iblk m c 5 t)

theorem gate_C (c : Dev nD) (t : Fin cfg0.N) (h0 : ¬t.val % 6 = 0) (h1 : t.val % 6 = 5) :
    (outsAt0 m c t.val t.isLt).2.2.1 = addOuter (outsAt0 m c (t.val - 1) (Nat.lt_of_le_of_lt (Nat.sub_le _ _) t.isLt)).2.2.1 (iblk m c 8 t) (iblk m c 6 t) := by
  rw [outsAt0_C m c t h0 h1]
  unfold out0_C_12
  dsimp only
  rw [View.read_writes_junk_eq_canon]
  unfold kernelRun0_C
  refine (View.canon_unit_zero zero2 _ _).trans ((pay_gate _ _ _).trans ?_)
  exact (congrArg₂ (addOuter · · _) (whole_read (hs0_12 t) _ zero2 _) (whole_read (hs0_8 t) _ zero2 _)).trans (congrArg (addOuter _ _ ·) (whole_read (hs0_6 t) _ zero2 _))

theorem up_C (c : Dev nD) (t : Fin cfg0.N) (h0 : ¬t.val % 6 = 0) (h1 : t.val % 6 = 5) :
    (outsAt0 m c t.val t.isLt).2.2.2.1 = addOuter (outsAt0 m c (t.val - 1) (Nat.lt_of_le_of_lt (Nat.sub_le _ _) t.isLt)).2.2.2.1 (iblk m c 9 t) (iblk m c 6 t) := by
  rw [outsAt0_C m c t h0 h1]
  unfold out0_C_13
  dsimp only
  rw [View.read_writes_junk_eq_canon]
  unfold kernelRun0_C
  refine (View.canon_unit_zero zero2 _ _).trans ((pay_up _ _ _).trans ?_)
  exact (congrArg₂ (addOuter · · _) (whole_read (hs0_13 t) _ zero2 _) (whole_read (hs0_9 t) _ zero2 _)).trans (congrArg (addOuter _ _ ·) (whole_read (hs0_6 t) _ zero2 _))

theorem down_C (c : Dev nD) (t : Fin cfg0.N) (h0 : ¬t.val % 6 = 0) (h1 : t.val % 6 = 5) :
    (outsAt0 m c t.val t.isLt).2.2.2.2 = scaled (iblk m c 0 t) (addOuter (outsAt0 m c (t.val - 1) (Nat.lt_of_le_of_lt (Nat.sub_le _ _) t.isLt)).2.2.2.2 (iblk m c 7 t) (iblk m c 3 t)) := by
  rw [outsAt0_C m c t h0 h1]
  unfold out0_C_14
  dsimp only
  rw [View.read_writes_junk_eq_canon]
  unfold kernelRun0_C
  refine (View.canon_cons_unit_zero zero2 _ _ _).trans ?_
  have ha : ∀ (j : Fin 4) inb h, View.readAt (Elt Ideal) (ms0_0 t).view (Rect.unit (s := S4) ![j.val] S1.size inb).toLoadRect ((hs0_0 t).unread (iblk m c 0 t)) (Shape.Idx.first h)
      = (iblk m c 0 t : Vec Ideal S4 .f32) (ix1 j) := fun j inb h => ((hs0_0 t).readAt_unread _ _ _).trans (congrArg _ (by funext a; apply Fin.ext; fin_cases a; rfl))
  have hZ : kernelRun0_C.sl.v935 (F := Ideal) c (ms0_3 t) (hs0_3 t) (ms0_7 t) (hs0_7 t) (ms0_14 t) (hs0_14 t) (iblk m c 3 t) (iblk m c 7 t) (outsAt0 m c (t.val - 1) (Nat.lt_of_le_of_lt (Nat.sub_le _ _) t.isLt)).2.2.2.2
      = addOuter (outsAt0 m c (t.val - 1) (Nat.lt_of_le_of_lt (Nat.sub_le _ _) t.isLt)).2.2.2.2 (iblk m c 7 t) (iblk m c 3 t) := by
    refine (View.readCov_unit_zero _ zero2 _ _).trans ((pay_down _ _ _).trans ?_)
    exact (congrArg₂ (addOuter · · _) (whole_read (hs0_14 t) _ zero2 _) (whole_read (hs0_7 t) _ zero2 _)).trans (congrArg (addOuter _ _ ·) (whole_read (hs0_3 t) _ zero2 _))
  refine Eq.trans ?_ (pay_scaled _ _)
  rw [hZ]
  exact congr (congrArg₂ (fun a b => k0_pay2 a b) (ha 0 _ _) (ha 1 _ _)) (ha 2 _ _) |> fun e => congrFun (congr e (ha 3 _ _)) _

end Cert.FinishIdeal.Val
-- ==== Proof.FinishValue.lean ====
/-
  The last call's five result arrays, each as one formula over its arguments.
-/
module

public import proofs.«01_k».proof.Proof.FinishBody

@[expose] public section

set_option maxRecDepth 16384

noncomputable section

namespace Cert.FinishIdeal.Val

open Cert.FinishIdeal Cert.FinishIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx : ∀ t : Fin cfg0.N, win0_0.index t = ![0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![0, 0] ∧ win0_13.index t = ![0, 0]
    ∧ win0_14.index t = ![0, 0] :=
  (by decide +kernel : ∀ t : Fin grid0.N, _)

/-- The mean, over a row, of the upstream gradient under the norm's gain times the normalised input. -/
def rowMeans (dn : Vec Ideal S1536x4096 .f32) (gn : Vec Ideal S4096 .f32) (xr : Vec Ideal S1536x4096 .bf16) (ri : Vec Ideal S1536x1 .f32) (i : Fin 1536) : EReal :=
  (∑ d : Fin 4096, ((dn (ix2 i d) : EReal) * gn (ix1 d)) * ((xr (ix2 i d) : EReal) * ri (ix2 i 0))) * (Scalar.ofBits (F := Ideal) .f32 0x39800000#32 : EReal)

/-- The gradient of the layer's input. -/
def inputGrad (dn : Vec Ideal S1536x4096 .f32) (gn : Vec Ideal S4096 .f32) (xr dy : Vec Ideal S1536x4096 .bf16) (ri : Vec Ideal S1536x1 .f32) :
    Vec Ideal S1536x4096 .bf16 := fun y =>
  ((dy y : EReal) + (ri (ix2 (y 0) 0) : EReal) * (((dn y : EReal) * gn (ix1 (y 1))) - ((xr y : EReal) * ri (ix2 (y 0) 0)) * rowMeans dn gn xr ri (y 0)) : EReal)

/-- The product over all rows, one factor transposed. -/
def outer (l : Vec Ideal S1536x256 .bf16) (h : Vec Ideal S1536x4096 .bf16) : Vec Ideal S256x4096 .f32 := fun y =>
  (∑ k : Fin 1536, (l (ix2 k (y 0)) : EReal) * h (ix2 k (y 1)) : EReal)

theorem gain (c : Dev nD) (d : Fin 4096) : (V m c main_v0 : S1x4096.Idx → Elt Ideal .f32) (ix2 0 d) = (m ((c : Thread nD τ).loc main_arg3) : S4096.Idx → Elt Ideal .f32) (ix1 d) := by
  entry_read
  pointwise

theorem factors (c : Dev nD) (i : Fin 1536) (l : Fin 128) :
    (V m c main_v1 : S1536x128.Idx → Elt Ideal .f32) (ix2 i l) = (m ((c : Thread nD τ).loc main_arg4) : S1536x1.Idx → Elt Ideal .f32) (ix2 i 0) := by
  entry_read
  pointwise

theorem row_lt (t : Fin cfg0.N) (i : Fin 256) : 256 * t.val + i.val < 1536 := by
  have h := t.isLt
  have h6 : cfg0.N = 6 := rfl
  have := i.isLt
  omega

theorem blk_gain (c : Dev nD) (t : Fin cfg0.N) (d : Fin 4096) :
    (iblk m c 4 t : S1x4096.Idx → Elt Ideal .f32) (ix2 0 d) = (m ((c : Thread nD τ).loc main_arg3) : S4096.Idx → Elt Ideal .f32) (ix1 d) :=
  Eq.trans (by blk_ext [iblk, idx t]) (gain m c d)

theorem blk_lane (c : Dev nD) (t : Fin cfg0.N) (i : Fin 256) (d : Fin 4096) :
    lane (iblk m c 5 t) i d = (m ((c : Thread nD τ).loc main_arg4) : S1536x1.Idx → Elt Ideal .f32) (ix2 ⟨256 * t.val + i.val, row_lt t i⟩ 0) := by
  unfold lane
  exact Eq.trans (by blk_ext [iblk, idx t]) (factors m c ⟨256 * t.val + i.val, row_lt t i⟩ ⟨d.val % 128, Nat.mod_lt _ (by decide)⟩)

theorem blk_mean (c : Dev nD) (t : Fin cfg0.N) (i : Fin 256) :
    mean (iblk m c 1 t) (iblk m c 4 t) (iblk m c 2 t) (iblk m c 5 t) i
      = rowMeans (m ((c : Thread nD τ).loc main_arg0)) (m ((c : Thread nD τ).loc main_arg3)) (m ((c : Thread nD τ).loc main_arg1)) (m ((c : Thread nD τ).loc main_arg4))
        ⟨256 * t.val + i.val, row_lt t i⟩ := by
  unfold mean rowMeans
  refine congrArg₂ (fun a b : EReal => a * b) (Finset.sum_congr rfl fun d _ => ?_) rfl
  unfold part
  rw [blk_lane, blk_gain]
  refine congrArg₂ (fun a b : EReal => a * b) (congrArg₂ (fun a b : EReal => a * b) ?_ rfl) (congrArg₂ (fun a b : EReal => a * b) ?_ rfl) <;> blk_ext [iblk, V, idx t]

theorem grad_out (c : Dev nD) (t : Fin cfg0.N) :
    (outsAt0 m c t.val t.isLt).1 = grad (iblk m c 1 t) (iblk m c 4 t) (iblk m c 2 t) (iblk m c 3 t) (iblk m c 5 t) := by
  by_cases h0 : t.val % 6 = 0
  · exact grad_A m c t h0 (by omega)
  · by_cases h1 : t.val % 6 = 5
    · exact grad_C m c t h0 h1
    · exact grad_B m c t h0 h1

theorem mean_out (c : Dev nD) (t : Fin cfg0.N) :
    (outsAt0 m c t.val t.isLt).2.1 = fun x => mean (iblk m c 1 t) (iblk m c 4 t) (iblk m c 2 t) (iblk m c 5 t) (x 0) := by
  by_cases h0 : t.val % 6 = 0
  · exact mean_A m c t h0 (by omega)
  · by_cases h1 : t.val % 6 = 5
    · exact mean_C m c t h0 h1
    · exact mean_B m c t h0 h1

theorem grad_blk (c : Dev nD) (t : Fin cfg0.N) (y : S256x4096.Idx) :
    (grad (iblk m c 1 t) (iblk m c 4 t) (iblk m c 2 t) (iblk m c 3 t) (iblk m c 5 t) y : EReal)
      = inputGrad (m ((c : Thread nD τ).loc main_arg0)) (m ((c : Thread nD τ).loc main_arg3)) (m ((c : Thread nD τ).loc main_arg1)) (m ((c : Thread nD τ).loc main_arg2))
      (m ((c : Thread nD τ).loc main_arg4)) (ix2 ⟨256 * t.val + (y 0).val, row_lt t (y 0)⟩ (y 1)) := by
  unfold grad inputGrad
  have hl := blk_lane m c t (y 0) (y 1)
  refine congrArg₂ (fun a b : EReal => a + b) ?_ (congrArg₂ (fun a b : EReal => a * b) hl (congrArg₂ (fun a b : EReal => a - b)
    (congrArg₂ (fun a b : EReal => a * b) ?_ (blk_gain m c t (y 1))) (congrArg₂ (fun a b : EReal => a * b) (congrArg₂ (fun a b : EReal => a * b) ?_ hl)
      (blk_mean m c t (y 0))))) <;> blk_ext [iblk, V, idx t]

theorem final_grad (c : Dev nD) : (dats m 0 c).arrAt 10 (cfgs 0).N
    = inputGrad (m ((c : Thread nD τ).loc main_arg0)) (m ((c : Thread nD τ).loc main_arg3)) (m ((c : Thread nD τ).loc main_arg1)) (m ((c : Thread nD τ).loc main_arg2))
      (m ((c : Thread nD τ).loc main_arg4)) := by
  refine (dats m 0 c).arrAt_eq_of_covers 10 _ (by decide +kernel) fun t hf y => ?_
  blk_simp
  rw [after0_10, grad_out m c t]
  exact (grad_blk m c t y).trans (congrArg (inputGrad _ _ _ _ _) (by blk_ext [idx t]))

theorem final_mean (c : Dev nD) : (dats m 0 c).arrAt 11 (cfgs 0).N
    = fun y : S1536x128.Idx => rowMeans (m ((c : Thread nD τ).loc main_arg0)) (m ((c : Thread nD τ).loc main_arg3)) (m ((c : Thread nD τ).loc main_arg1))
      (m ((c : Thread nD τ).loc main_arg4)) (y 0) := by
  refine (dats m 0 c).arrAt_eq_of_covers 11 _ (by decide +kernel) fun t hf y => ?_
  blk_simp
  rw [after0_11, mean_out m c t]
  refine (blk_mean m c t (y 0)).trans (congrArg (rowMeans _ _ _ _) (Fin.ext ?_))
  blk_simp [idx t]
  show 256 * t.val + (y 0).val = _
  omega

/-- What one row block adds to an adapter's gradient. -/
def term (l : Vec Ideal S256x256 .bf16) (h : Vec Ideal S256x4096 .bf16) (y : S256x4096.Idx) : EReal := ∑ k : Fin 256, (l (ix2 k (y 0)) : EReal) * h (ix2 k (y 1))

/-- Each row times its job's alpha, over the argument arrays. -/
def scaledOuter (a : Vec Ideal S4 .f32) (l : Vec Ideal S1536x256 .bf16) (h : Vec Ideal S1536x4096 .bf16) : Vec Ideal S256x4096 .f32 := scaled a (outer l h)

theorem final_gate (c : Dev nD) : (dats m 0 c).arrAt 12 (cfgs 0).N = outer (m ((c : Thread nD τ).loc main_arg7)) (m ((c : Thread nD τ).loc main_arg5)) := by
  refine (dats m 0 c).arrAt_eq_of_covers 12 _ (by decide +kernel) fun t hf y => ?_
  blk_simp
  have h5 : t.val % 6 = 5 := (flush0_12 t).mp hf
  rw [after0_12]
  unfold outer
  rw [run_sum (fun n h => (outsAt0 m c n h).2.2.1) 6 (fun t _ => (0 : EReal)) (fun t i => term (iblk m c 8 t) (iblk m c 6 t) i)
      (fun t h j => by rw [gate_A m c t h (by omega)]; rfl)
      (fun t h j => by
        by_cases h' : t.val % 6 = 5
        · rw [gate_C m c t h h']; rfl
        · rw [gate_B m c t h h']; rfl) t h5 _]
  · rw [zero_add]
    unfold term
    refine Fin.sum_mul_add_congr fun s k hl => congrArg₂ (fun a b : EReal => a * b) ?_ ?_
    all_goals
      have e := idx ⟨6 * (t.val / 6) + s.val, Pipeline.run_point_lt_of_flush t h5 s⟩
      blk_ext [iblk, V, idx t, e]

theorem final_up (c : Dev nD) : (dats m 0 c).arrAt 13 (cfgs 0).N = outer (m ((c : Thread nD τ).loc main_arg8)) (m ((c : Thread nD τ).loc main_arg5)) := by
  refine (dats m 0 c).arrAt_eq_of_covers 13 _ (by decide +kernel) fun t hf y => ?_
  blk_simp
  have h5 : t.val % 6 = 5 := (flush0_13 t).mp hf
  rw [after0_13]
  unfold outer
  rw [run_sum (fun n h => (outsAt0 m c n h).2.2.2.1) 6 (fun t _ => (0 : EReal)) (fun t i => term (iblk m c 9 t) (iblk m c 6 t) i)
      (fun t h j => by rw [up_A m c t h (by omega)]; rfl)
      (fun t h j => by
        by_cases h' : t.val % 6 = 5
        · rw [up_C m c t h h']; rfl
        · rw [up_B m c t h h']; rfl) t h5 _]
  · rw [zero_add]
    unfold term
    refine Fin.sum_mul_add_congr fun s k hl => congrArg₂ (fun a b : EReal => a * b) ?_ ?_
    all_goals
      have e := idx ⟨6 * (t.val / 6) + s.val, Pipeline.run_point_lt_of_flush t h5 s⟩
      blk_ext [iblk, V, idx t, e]

/-- The third adapter's gradient before the last step's scaling: the sum up to row block `n`. -/
def downSum (c : Dev nD) (n : ℕ) (h : n < cfg0.N) : Vec Ideal S256x4096 .f32 :=
  if n % 6 = 5 then addOuter (outsAt0 m c (n - 1) (Nat.lt_of_le_of_lt (Nat.sub_le _ _) h)).2.2.2.2 (iblk m c 7 ⟨n, h⟩) (iblk m c 3 ⟨n, h⟩)
  else (outsAt0 m c n h).2.2.2.2

theorem final_down (c : Dev nD) : (dats m 0 c).arrAt 14 (cfgs 0).N
    = scaledOuter (m ((c : Thread nD τ).loc main_arg9)) (m ((c : Thread nD τ).loc main_arg6)) (m ((c : Thread nD τ).loc main_arg2)) := by
  refine (dats m 0 c).arrAt_eq_of_covers 14 _ (by decide +kernel) fun t hf y => ?_
  blk_simp
  have h5 : t.val % 6 = 5 := (flush0_14 t).mp hf
  have h0 : ¬t.val % 6 = 0 := by omega
  have hs : downSum m c t.val t.isLt = addOuter (outsAt0 m c (t.val - 1) (Nat.lt_of_le_of_lt (Nat.sub_le _ _) t.isLt)).2.2.2.2 (iblk m c 7 t) (iblk m c 3 t) := if_pos h5
  rw [after0_14, down_C m c t h0 h5, ← hs]
  unfold scaledOuter scaled outer
  refine congrArg₂ (fun a b : EReal => a * b) (by blk_ext [iblk, V, idx t]) ?_
  rw [run_sum (fun n h => downSum m c n h) 6 (fun t _ => (0 : EReal)) (fun t i => term (iblk m c 7 t) (iblk m c 3 t) i)
      (fun t h j => by exact (congrFun ((if_neg (by omega)).trans (down_A m c t h (by omega))) j).trans rfl)
      (fun t h j => by
        have hp : downSum m c (t.val - 1) (Nat.lt_of_le_of_lt (Nat.sub_le _ _) t.isLt) = (outsAt0 m c (t.val - 1) (Nat.lt_of_le_of_lt (Nat.sub_le _ _) t.isLt)).2.2.2.2 := if_neg (by omega)
        rw [hp]
        by_cases h' : t.val % 6 = 5
        · exact congrFun (if_pos h') j
        · exact (congrFun ((if_neg h').trans (down_B m c t h h')) j).trans rfl) t h5 _]
  · rw [zero_add]
    unfold term
    refine Fin.sum_mul_add_congr fun s k hl => congrArg₂ (fun a b : EReal => a * b) ?_ ?_
    all_goals
      have e := idx ⟨6 * (t.val / 6) + s.val, Pipeline.run_point_lt_of_flush t h5 s⟩
      blk_ext [iblk, V, idx t, e]

end Cert.FinishIdeal.Val
-- ==== Proof.FinishClaim.lean ====
/-
  The last call against its reference: the reference's five results are the same formulas.
-/
module

public import proofs.«01_k».proof.Proof.FinishValue
public import proofs.«01_k».proof.Proof.Gen.ReferenceFinishIdeal.Run
public import proofs.«01_k».proof.Defs

@[expose] public section

set_option maxRecDepth 16384

noncomputable section

namespace Cert.ReferenceFinishIdeal.Val

open Cert.ReferenceFinishIdeal Cert.ReferenceFinishIdeal.Gen Idealize.ShloMosaic Idealize.ShloMosaic.TcCoe
open Idealize.ShloMosaic.Tactic

theorem bits_4096 : Ideal.ofBits .f32 0x45800000#32 = ((4096 : ℝ) : EReal) := by
  simp [Ideal.ofBits, Ideal.ieee]
  rw [← EReal.coe_mul]
  norm_num

theorem bits_inv_4096 : Ideal.ofBits .f32 0x39800000#32 = ((1 / 4096 : ℝ) : EReal) := by
  simp [Ideal.ofBits, Ideal.ieee]
  rw [← EReal.coe_mul]
  norm_num

/-- Dividing by 4096 is multiplying by its reciprocal. -/
theorem div_4096 (a : EReal) : Ideal.div a (Ideal.ofBits .f32 0x45800000#32) = (a * (Ideal.ofBits .f32 0x39800000#32 : EReal) : EReal) := by
  rw [bits_4096, bits_inv_4096]
  unfold Ideal.div
  rw [if_neg (by exact_mod_cast (by norm_num : (4096 : ℝ) ≠ 0)), ← EReal.coe_inv, one_div]

/-- The mean over each row, as the reference's host code spells it. -/
def hostMean (dn : FVec Ideal S1536x4096 .f32) (gn : FVec Ideal S4096 .f32) (xr : FVec Ideal S1536x4096 .bf16) (ri : FVec Ideal S1536x1 .f32) : FVec Ideal S1536x1 .f32 :=
  Host.divf (broadcastInDim S1536x1 ![0] bcast_S1536_S1536x1_0 (Host.reduceAdd (mulf (mulf dn (broadcastInDim S1536x4096 ![0, 1] bcast_S1x4096_S1536x4096_0_1
    (broadcastInDim S1x4096 ![1] bcast_S4096_S1x4096_1 gn))) (mulf (extf .f32 xr bitsLt_bf16_f32) (broadcastInDim S1536x4096 ![0, 1] bcast_S1536x1_S1536x4096_0_1 ri)))
    (constant S_ .f32 0x00000000#32) reducesTo_S1536x4096_S1536_d1 h_S_)) (broadcastInDim S1536x1 ![] bcast_S_S1536x1 (constant S_ .f32 0x45800000#32))

theorem hostMean_apply (dn : FVec Ideal S1536x4096 .f32) (gn : FVec Ideal S4096 .f32) (xr : FVec Ideal S1536x4096 .bf16) (ri : FVec Ideal S1536x1 .f32) (x : S1536x1.Idx) :
    (hostMean dn gn xr ri x : EReal) = Cert.FinishIdeal.Val.rowMeans dn gn xr ri (x 0) := by
  pointwise [hostMean, Cert.FinishIdeal.Val.rowMeans]
  exact div_4096 _

theorem host_grad (dn : FVec Ideal S1536x4096 .f32) (gn : FVec Ideal S4096 .f32) (xr dy : FVec Ideal S1536x4096 .bf16) (ri : FVec Ideal S1536x1 .f32) :
    truncf .bf16 (addf (extf .f32 dy bitsLt_bf16_f32) (mulf (broadcastInDim S1536x4096 ![0, 1] bcast_S1536x1_S1536x4096_0_1 ri) (subf (mulf dn (broadcastInDim S1536x4096 ![0, 1] bcast_S1x4096_S1536x4096_0_1 (broadcastInDim S1x4096 ![1] bcast_S4096_S1x4096_1 gn))) (mulf (mulf (extf .f32 xr bitsLt_bf16_f32) (broadcastInDim S1536x4096 ![0, 1] bcast_S1536x1_S1536x4096_0_1 ri)) (broadcastInDim S1536x4096 ![0, 1] bcast_S1536x1_S1536x4096_0_1 (hostMean dn gn xr ri)))))) bitsLt_bf16_f32
      = Cert.FinishIdeal.Val.inputGrad dn gn xr dy ri := by
  have h := fun i => hostMean_apply dn gn xr ri (ix2 i 0)
  generalize hostMean dn gn xr ri = cm at h
  funext y
  unfold Cert.FinishIdeal.Val.inputGrad
  have hy := h (y 0)
  rw [show Cert.FinishIdeal.Val.rowMeans dn gn xr ri (y 0) = cm (ix2 (y 0) 0) from hy.symm]
  pointwise

theorem host_mean (dn : FVec Ideal S1536x4096 .f32) (gn : FVec Ideal S4096 .f32) (xr : FVec Ideal S1536x4096 .bf16) (ri : FVec Ideal S1536x1 .f32) :
    broadcastInDim S1536x128 ![0, 1] bcast_S1536x1_S1536x128_0_1 (hostMean dn gn xr ri) = fun y : S1536x128.Idx => Cert.FinishIdeal.Val.rowMeans dn gn xr ri (y 0) := by
  have h := fun i => hostMean_apply dn gn xr ri (ix2 i 0)
  generalize hostMean dn gn xr ri = cm at h
  funext y
  rw [show Cert.FinishIdeal.Val.rowMeans dn gn xr ri (y 0) = cm (ix2 (y 0) 0) from (h (y 0)).symm]
  pointwise

theorem host_outer (l : FVec Ideal S1536x256 .bf16) (h : FVec Ideal S1536x4096 .bf16) :
    Host.dotGeneral (F := Ideal) dot_S1536x256_S1536x4096_S256x4096_0_0_1_1_n_n none l h = Cert.FinishIdeal.Val.outer l h := by
  funext y
  pointwise [Cert.FinishIdeal.Val.outer]

theorem host_scaled (a : FVec Ideal S4 .f32) (l : FVec Ideal S1536x256 .bf16) (h : FVec Ideal S1536x4096 .bf16) :
    mulf (broadcastInDim S256x4096 ![0, 1] bcast_S256x1_S256x4096_0_1 (broadcastInDim S256x1 ![0] bcast_S256_S256x1_0 (shapeCast S256 (broadcastInDim S4x64 ![0] bcast_S4_S4x64_0 a) shapeCasts_S4x64_S256))) (Host.dotGeneral (F := Ideal) dot_S1536x256_S1536x4096_S256x4096_0_0_1_1_n_n none l h)
      = Cert.FinishIdeal.Val.scaledOuter a l h := by
  rw [host_outer]
  unfold Cert.FinishIdeal.Val.scaledOuter
  generalize Cert.FinishIdeal.Val.outer l h = Z
  funext y
  have h0 : (y 0).val < 256 := (y 0).isLt
  pointwise [Cert.FinishIdeal.Val.scaled]

end Cert.ReferenceFinishIdeal.Val

/-- The kernel's five result arrays are the reference's. -/
theorem Cert.Finish.algebraic : Cert.algebraic_FinishIdeal_ReferenceFinishIdeal := by
  pair_intro
  · run_from Cert.FinishIdeal.Value.run_blocks m g
  · run_from Cert.ReferenceFinishIdeal.Value.run m' g'
    · exact (Cert.ReferenceFinishIdeal.Val.host_grad _ _ _ _ _).trans (Cert.FinishIdeal.Val.final_grad m c).symm
    · exact (Cert.ReferenceFinishIdeal.Val.host_mean _ _ _ _).trans (Cert.FinishIdeal.Val.final_mean m c).symm
    · exact (Cert.ReferenceFinishIdeal.Val.host_outer _ _).trans (Cert.FinishIdeal.Val.final_gate m c).symm
    · exact (Cert.ReferenceFinishIdeal.Val.host_outer _ _).trans (Cert.FinishIdeal.Val.final_up m c).symm
    · exact (Cert.ReferenceFinishIdeal.Val.host_scaled _ _ _).trans (Cert.FinishIdeal.Val.final_down m c).symm
-- ==== Proof.FwdRuns.lean ====
/-
  What the runs of the gate and up projections share: the arrays at the launch, the blocks the windows hold, and the conditions on the
  grid coordinate.
-/
module

public import proofs.«01_k».proof.Proof.Gen.FwdIdeal.Launch
public import proofs.«01_k».proof.Proof.Gen.FwdIdeal.Skeleton
public import proofs.«01_k».proof.Proof.Gen.FwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FwdIdeal.Named

open Cert.FwdIdeal Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1320000 in
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

abbrev cond0_1 (i : grid0.Coords) : Prop := k0_cond2 i = 1#1
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl

abbrev VO0_18 : View sig .tc .vmem S1536x512 .bf16 := (Memref.whole cc0_stg18_0 : Memref sig .tc .vmem S1536x512 .bf16).view
abbrev VO0_19 : View sig .tc .vmem S1536x512 .bf16 := (Memref.whole cc0_stg19_0 : Memref sig .tc .vmem S1536x512 .bf16).view
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S112x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S112x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1536 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x4096 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x512 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1536x112 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1536x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1536x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1536x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1536x256 .bf16 := win0_21.stage (cfg0.slots t 21)
abbrev hs0_21 (t : Fin cfg0.N) : (ms0_21 t).IsWhole := hstage0_21 ((cfg0.slots t 21).cast nbuf0_21)
abbrev scM0_0 : Memref sig .tc .vmem S512x4096 .bf16 := Memref.whole cc0_scratch0
abbrev scM0_1 : Memref sig .tc .vmem S512x4096 .bf16 := Memref.whole cc0_scratch1
abbrev scM0_2 : Memref sig .tc .vmem S1536x256 .f32 := Memref.whole cc0_scratch2
abbrev VS0_2 : View sig .tc .vmem S1536x256 .f32 := scM0_2.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FwdIdeal.Named

end
-- ==== Proof.FwdRunA.lean ====
/-
  The run of the body at the first grid point.
-/
module

public import proofs.«01_k».proof.Proof.FwdRuns

@[expose] public section

set_option maxRecDepth 16384

noncomputable section

namespace Cert.FwdIdeal.Named

open Cert.FwdIdeal Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 9076000 in
noncomputable def kernelRun0_A (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) :
    Σ' (L18 : List (View.Piece (Elt F) S1536x512 .bf16)), Σ' (L19 : List (View.Piece (Elt F) S1536x512 .bf16)), Σ' (LS2 : List (View.Piece (Elt F) S1536x256 .f32)), Σ' (LT0 : List (View.Piece (Elt F) S512x4096 .bf16)), { LT1 : List (View.Piece (Elt F) S512x4096 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT0) ∗ (∃ f, arg24.view.loc (c : Thread nD τ) ↦[arg24.view.set]{fullShare} arg24.view.writes (Elt F) f LT1) ∗ (∃ f, arg25.view.loc (c : Thread nD τ) ↦[arg25.view.set]{fullShare} arg25.view.writes (Elt F) f LS2)) -∗ K ⟨⟩))
          ⊢ wp frame (wpE (defs₀ (F := F)) Variants.none c none) E (cc0_fwd_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun E K => ?run⟩
  case run =>
    simp only [cc0_fwd_ffn_eq_skeleton]; unfold cc0_fwd_ffn_skel
    simp only [k0_part122_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part123_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]; · iexists _; iexact HS1
    iexists _; iexact HS2

end Cert.FwdIdeal.Named

end
-- ==== Proof.FwdRunB.lean ====
/-
  The run of the body at a grid point that is neither the first nor the last.
-/
module

public import proofs.«01_k».proof.Proof.FwdRunA

@[expose] public section

set_option maxRecDepth 16384

noncomputable section

namespace Cert.FwdIdeal.Named

open Cert.FwdIdeal Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 9064000 in
noncomputable def kernelRun0_B (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) :
    Σ' (L18 : List (View.Piece (Elt F) S1536x512 .bf16)), Σ' (L19 : List (View.Piece (Elt F) S1536x512 .bf16)), Σ' (LS2 : List (View.Piece (Elt F) S1536x256 .f32)), Σ' (LT0 : List (View.Piece (Elt F) S512x4096 .bf16)), { LT1 : List (View.Piece (Elt F) S512x4096 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT0) ∗ (∃ f, arg24.view.loc (c : Thread nD τ) ↦[arg24.view.set]{fullShare} arg24.view.writes (Elt F) f LT1) ∗ (∃ f, arg25.view.loc (c : Thread nD τ) ↦[arg25.view.set]{fullShare} arg25.view.writes (Elt F) f LS2)) -∗ K ⟨⟩))
          ⊢ wp frame (wpE (defs₀ (F := F)) Variants.none c none) E (cc0_fwd_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun E K => ?run⟩
  case run =>
    simp only [cc0_fwd_ffn_eq_skeleton]; unfold cc0_fwd_ffn_skel
    simp only [k0_part122_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part123_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg25.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]; · iexists _; iexact HS1
    iexists _; iexact HS2

end Cert.FwdIdeal.Named

end
-- ==== Proof.FwdRunC.lean ====
/-
  The run of the body at the last grid point.
-/
module

public import proofs.«01_k».proof.Proof.FwdRunB

@[expose] public section

set_option maxRecDepth 16384

noncomputable section

namespace Cert.FwdIdeal.Named

open Cert.FwdIdeal Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 9136000 in
noncomputable def kernelRun0_C (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) :
    Σ' (L18 : List (View.Piece (Elt F) S1536x512 .bf16)), Σ' (L19 : List (View.Piece (Elt F) S1536x512 .bf16)), Σ' (LS2 : List (View.Piece (Elt F) S1536x256 .f32)), Σ' (LT0 : List (View.Piece (Elt F) S512x4096 .bf16)), { LT1 : List (View.Piece (Elt F) S512x4096 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ f, arg23.view.loc (c : Thread nD τ) ↦[arg23.view.set]{fullShare} arg23.view.writes (Elt F) f LT0) ∗ (∃ f, arg24.view.loc (c : Thread nD τ) ↦[arg24.view.set]{fullShare} arg24.view.writes (Elt F) f LT1) ∗ (∃ f, arg25.view.loc (c : Thread nD τ) ↦[arg25.view.set]{fullShare} arg25.view.writes (Elt F) f LS2)) -∗ K ⟨⟩))
          ⊢ wp frame (wpE (defs₀ (F := F)) Variants.none c none) E (cc0_fwd_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun E K => ?run⟩
  case run =>
    simp only [cc0_fwd_ffn_eq_skeleton]; unfold cc0_fwd_ffn_skel
    simp only [k0_part122_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part123_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg25.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]; · iexists _; iexact H18
    isplitl [H19]; · iexists _; iexact H19
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]; · iexists _; iexact HS1
    iexists _; iexact HS2

end Cert.FwdIdeal.Named

end
-- ==== Proof.FwdRun.lean ====
/-
  The run of the call with its gate and up outputs named; nothing is stated of the other five outputs.
-/
module

public import proofs.«01_k».proof.Proof.FwdRunC
public import Idealize.ShloMosaic.Lib.Claim

@[expose] public section

set_option maxRecDepth 16384

noncomputable section

namespace Cert.FwdIdeal.Named

open Cert.FwdIdeal Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (y : S1536x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).1 S512x128.size (by sl_kernel_rfl) y

def out0_A_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) : Vec F S1536x512 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).1)

theorem cover0_A_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (y : S1536x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.1 S512x128.size (by sl_kernel_rfl) y

def out0_A_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) : Vec F S1536x512 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.1)

theorem scover0_A_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.2.1 S1536x256.size (by sl_kernel_rfl) y

def sout0_A_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) : Vec F S1536x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.2.1)

theorem cover0_B_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1 S512x128.size (by sl_kernel_rfl) y

def out0_B_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x512 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1)

theorem cover0_B_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1 S512x128.size (by sl_kernel_rfl) y

def out0_B_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x512 .bf16 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1)

theorem scover0_B_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1 S1536x256.size (by sl_kernel_rfl) y

def sout0_B_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x256 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1)

theorem cover0_C_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1 S512x128.size (by sl_kernel_rfl) y

def out0_C_18 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x512 .bf16 :=
  VO0_18.read (Elt F) (VO0_18.writes (Elt F) VO0_18.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1)

theorem cover0_C_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1 S512x128.size (by sl_kernel_rfl) y

def out0_C_19 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x512 .bf16 :=
  VO0_19.read (Elt F) (VO0_19.writes (Elt F) VO0_19.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1)

theorem scover0_C_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) (y : S1536x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1 S1536x256.size (by sl_kernel_rfl) y

def sout0_C_2 (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec F S4 .f32) (x1 : Vec F S4 .i32) (x2 : Vec F S5 .i32) (x3 : Vec F S112x32 .f32) (x4 : Vec F S112x32 .f32) (x5 : Vec F S1536x4096 .bf16) (x6 : Vec F S1536x128 .f32) (x7 : Vec F S1536x256 .bf16) (x8 : Vec F S1536x256 .bf16) (x9 : Vec F S256x1536 .bf16) (x10 : Vec F S512x4096 .fp8e4m3) (x11 : Vec F S512x4096 .fp8e4m3) (x12 : Vec F S256x512 .bf16) (x13 : Vec F S256x512 .bf16) (x14 : Vec F S256x512 .bf16) (xs2 : Vec F S1536x256 .f32) : Vec F S1536x256 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.2.1)

def outsAt0 (c : Dev nD) : (n : ℕ) → n < cfg0.N → Vec F S1536x512 .bf16 × Vec F S1536x512 .bf16 × Vec F S1536x256 .f32
  | 0, hn => (out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 28 = 0 then
      if h1 : (n + 1) % 28 = 27 then
        False.elim (by have hN : n + 1 < 28 := lt_of_lt_of_eq hn (show cfg0.N = 28 from N_0); omega)
      else
        (out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 28 = 27 then
        (out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2, out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2)
      else
        (out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2)

theorem outsAt0_A (c : Dev nD) (t : Fin cfg0.N) (h0 : t.val % 28 = 0) (h1 : ¬t.val % 28 = 27) :
    outsAt0 m c t.val t.isLt = (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_neg h1).trans rfl)

theorem outsAt0_B (c : Dev nD) (t : Fin cfg0.N) (h0 : ¬t.val % 28 = 0) (h1 : ¬t.val % 28 = 27) :
    outsAt0 m c t.val t.isLt = (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 28 = 0) (h1 : t.val % 28 = 27) :
    outsAt0 m c t.val t.isLt = (out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2)) ∗ (∃ r, prngReg c r)) := by
  cases n with
  | zero => exact absurd rfl hz
  | succ n => rfl

def forgets0 : Fin 22 → Bool := fun w => w.val == 15 || w.val == 16 || w.val == 17 || w.val == 20 || w.val == 21
theorem forgets0_18 : forgets0 (18 : Fin 22) = false := by decide
theorem forgets0_19 : forgets0 (19 : Fin 22) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, _⟩ => (outsAt0 m c t.val t.isLt).1
    | ⟨19, _⟩ => (outsAt0 m c t.val t.isLt).2.1
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d))

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases h1 : t.val % 28 = 27
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      by_cases hz : t.val = 0
      · rw [PhiS_castSucc m c t, PhiS_zero m c _ _ hz, PhiA0_eq]
        rw [outsAt0_A m c t h0 h1]
        unfold out0_A_18 out0_A_19 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [HS0]; · iexact HS0
        isplitl [HS1]; · iexact HS1
        isplitl [HS2]; · iexact HS2
        iintro ⟨H0, H1, H2, H3, H4, H5, H6, H7, H8, H9, H10, H11, H12, H13, H14, H15, H16, H17, ⟨%e18, H18⟩, ⟨%e19, H19⟩, H20, H21, ⟨%fT0, HS0⟩, ⟨%fT1, HS1⟩, ⟨%es2, HS2⟩⟩
        isplitl [HS0 HS1 HS2 Hg]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]; · iexact H20
        iexact H21
      · exfalso; have hN : t.val < 28 := lt_of_lt_of_eq t.isLt (show cfg0.N = 28 from N_0); omega
  · by_cases h1 : t.val % 28 = 27
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      by_cases hz : t.val = 0
      · exfalso; have hN : t.val < 28 := lt_of_lt_of_eq t.isLt (show cfg0.N = 28 from N_0); omega
      · rw [PhiS_castSucc m c t, PhiS_pos m c _ _ hz]
        rw [outsAt0_C m c t h0 h1]
        unfold out0_C_18 out0_C_19 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [HS0]; · iexact HS0
        isplitl [HS1]; · iexact HS1
        isplitl [HS2]; · iexact HS2
        iintro ⟨H0, H1, H2, H3, H4, H5, H6, H7, H8, H9, H10, H11, H12, H13, H14, H15, H16, H17, ⟨%e18, H18⟩, ⟨%e19, H19⟩, H20, H21, ⟨%fT0, HS0⟩, ⟨%fT1, HS1⟩, ⟨%es2, HS2⟩⟩
        isplitl [HS0 HS1 HS2 Hg]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]; · iexact H20
        iexact H21
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      by_cases hz : t.val = 0
      · exfalso; have hN : t.val < 28 := lt_of_lt_of_eq t.isLt (show cfg0.N = 28 from N_0); omega
      · rw [PhiS_castSucc m c t, PhiS_pos m c _ _ hz]
        rw [outsAt0_B m c t h0 h1]
        unfold out0_B_18 out0_B_19 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [HS0]; · iexact HS0
        isplitl [HS1]; · iexact HS1
        isplitl [HS2]; · iexact HS2
        iintro ⟨H0, H1, H2, H3, H4, H5, H6, H7, H8, H9, H10, H11, H12, H13, H14, H15, H16, H17, ⟨%e18, H18⟩, ⟨%e19, H19⟩, H20, H21, ⟨%fT0, HS0⟩, ⟨%fT1, HS1⟩, ⟨%es2, HS2⟩⟩
        isplitl [HS0 HS1 HS2 Hg]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]
        · unfold owns; iexists _; isplitr
          swap; · iexact H19
          ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H20]; · iexact H20
        iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 28 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.FwdIdeal.Named

end
-- ==== Proof.FwdTile.lean ====
/-
  The tiles the gate and up projections' body stores: a dequantised weight tile, and a tile of one projection with its adapters' product.
-/
module

public import proofs.«01_k».proof.Proof.Gen.FwdIdeal
public import proofs.«01_k».proof.Proof.Tiles

@[expose] public section

set_option maxRecDepth 16384

noncomputable section

namespace Cert.FwdIdeal.Val

open Cert.FwdIdeal Cert.FwdIdeal.Gen Idealize.ShloMosaic Idealize.ShloMosaic.TcCoe Cert.Tiles

/-- The tile of a weight block at row `a` and column `b` of tiles, read and scaled by the body. -/
theorem piece {mr : Memref sig .tc .smem S112x32 .f32} (hmr : mr.IsWhole) {mw : Memref sig .tc .vmem S512x4096 .fp8e4m3} (hmw : mw.IsWhole)
    (i : grid0.Coords) (sc : Vec Ideal S112x32 .f32) (w : Vec Ideal S512x4096 .fp8e4m3) (a : Fin 4) (b : Fin 32) (off : Fin 2 → ℕ)
    (hoff : off = ![4 * (i 0).val + a.val, b.val]) (inbs inb h) (x : S128x128.Idx) :
    tile bitsLt_fp8e4m3_bf16 bitsLt_bf16_f32 shapeCasts_S128x128_S128x128
        (View.readAt (Elt Ideal) mr.view (Rect.unit (s := S112x32) off S1x1.size inbs).toLoadRect (hmr.unread sc) (Shape.Idx.first h))
        (View.readAt (Elt Ideal) mw.view (Rect.unit (s := S512x4096) ![128 * a.val, 128 * b.val] S128x128.size inb).toLoadRect (hmw.unread w)) x
      = deq sc w (4 * (i 0).val) 0 ((Rect.unit (s := S512x4096) ![128 * a.val, 128 * b.val] S128x128.size inb).emb x) := by
  have hi0 : (i 0).val < 28 := (i 0).isLt
  subst hoff
  refine tile_eq_deq sc w (4 * (i 0).val) 0 a b _ _ _ _ _ inb (fun h' => ?_) (by omega) (by omega) (fun x => ?_) x
  · rw [hmr.readAt_unread]
    congr 1
    funext ax
    apply Fin.ext
    fin_cases ax
    · rfl
    · show b.val + 1 * 0 = 0 + b.val
      omega
  · rw [hmw.readAt_unread]; rfl

/-- A block of one projection: the products with the weights' rows, plus the adapters' products under their row factor. -/
def proj (h : Vec Ideal S1536x4096 .bf16) (w : Vec Ideal S512x4096 .bf16) (al : Vec Ideal S1536x128 .f32) (z : Vec Ideal S1536x256 .bf16)
    (b : Vec Ideal S256x512 .bf16) : Vec Ideal S1536x512 .bf16 := fun y =>
  ((∑ k : Fin 4096, (h (ix2 (y 0) k) : EReal) * w (ix2 (y 1) k))
    + (al (ix2 (y 0) ⟨(y 1).val % 128, Nat.mod_lt _ (by decide)⟩) : EReal) * ∑ r : Fin 256, (z (ix2 (y 0) r) : EReal) * b (ix2 r (y 1)) : EReal)

/-- A whole projection: the products with the scaled weights' rows, plus the adapters' product under its row factor. -/
def total (h : Vec Ideal S1536x4096 .bf16) (wc : Vec Ideal S14336x4096 .fp8e4m3) (ws : Vec Ideal S112x32 .f32) (al : Vec Ideal S1536x1 .f32)
    (z : Vec Ideal S1536x256 .bf16) (b : Vec Ideal S256x14336 .bf16) : Vec Ideal S1536x14336 .bf16 := fun y =>
  ((∑ k : Fin 4096, (h (ix2 (y 0) k) : EReal) * deq ws wc 0 0 (ix2 (y 1) k))
    + (al (ix2 (y 0) 0) : EReal) * ∑ r : Fin 256, (z (ix2 (y 0) r) : EReal) * b (ix2 r (y 1)) : EReal)

/-- The products of a row block with a block of the scratch buffer's rows, as the body spells them. -/
def mainTile (p : FVec Ideal S512x4096 .bf16) (q : FVec Ideal S256x4096 .bf16) : FVec Ideal S512x256 .f32 :=
  matmul dot_S512x4096_S256x4096_S512x256_1_1_0_0_n_n none p q (constant (F := Ideal) S512x256 .f32 0x00000000#32)

theorem mainTile_apply (p : FVec Ideal S512x4096 .bf16) (q : FVec Ideal S256x4096 .bf16) (x : S512x256.Idx) :
    (mainTile p q x : EReal) = (∑ k : Fin 4096, (p (ix2 (x 0) k) : EReal) * q (ix2 (x 1) k) : EReal) := by
  pointwise [mainTile]

/-- The adapters' products of a row block, as the body spells them. -/
def loraTile (z : FVec Ideal S512x256 .bf16) (b : FVec Ideal S256x256 .bf16) : FVec Ideal S512x256 .f32 :=
  matmul dot_S512x256_S256x256_S512x256_1_0_0_1_n_n none z (shapeCast S256x256 b shapeCasts_S256x256_S256x256)
    (constant (F := Ideal) S512x256 .f32 0x00000000#32)

theorem loraTile_apply (z : FVec Ideal S512x256 .bf16) (b : FVec Ideal S256x256 .bf16) (x : S512x256.Idx) :
    (loraTile z b x : EReal) = (∑ r : Fin 256, (z (ix2 (x 0) r) : EReal) * b (ix2 r (x 1)) : EReal) := by
  pointwise [loraTile]

/-- One 128-lane slice of a projection's tile, as the body spells it. -/
def outTile (n : ℕ) (h : S512x256.Slices ![0, n] S512x128) (g lo : FVec Ideal S512x256 .f32) (al : FVec Ideal S512x128 .f32) : FVec Ideal S512x128 .bf16 :=
  truncf .bf16 (addf (extractStridedSlice S512x128 ![0, n] g h)
    (mulf (shapeCast S512x128 al shapeCasts_S512x128_S512x128) (extractStridedSlice S512x128 ![0, n] lo h))) bitsLt_bf16_f32

theorem outTile_apply (n : ℕ) (hn : n + 128 ≤ 256) (h) (g lo : FVec Ideal S512x256 .f32) (al : FVec Ideal S512x128 .f32) (x : S512x128.Idx) :
    outTile n h g lo al x = ((g (ix2 (x 0) ⟨n + (x 1).val, lt_of_lt_of_le (Nat.add_lt_add_left (x 1).isLt n) hn⟩) : EReal)
      + (al x : EReal) * lo (ix2 (x 0) ⟨n + (x 1).val, lt_of_lt_of_le (Nat.add_lt_add_left (x 1).isLt n) hn⟩) : EReal) := by
  pointwise [outTile]

theorem piece_proj {m5 : Memref sig .tc .vmem S1536x4096 .bf16} (hm5 : m5.IsWhole) {m6 : Memref sig .tc .vmem S1536x128 .f32} (hm6 : m6.IsWhole)
    {m7 : Memref sig .tc .vmem S1536x256 .bf16} (hm7 : m7.IsWhole) {m12 : Memref sig .tc .vmem S256x512 .bf16} (hm12 : m12.IsWhole)
    (v1 : View sig .tc .vmem S512x4096 .bf16) (L1 : List (View.Piece (Elt Ideal) S512x4096 .bf16)) (w : Vec Ideal S512x4096 .bf16) (h1 : View.canon L1 = w)
    (hd : Vec Ideal S1536x4096 .bf16) (al : Vec Ideal S1536x128 .f32) (z : Vec Ideal S1536x256 .bf16) (b : Vec Ideal S256x512 .bf16)
    (a : Fin 3) (g s : Fin 2) (inb inb5 inb6 inb7 inb12 inbw h) (x : S512x128.Idx) :
    outTile (128 * s.val) h
        (mainTile (View.readAt (Elt Ideal) m5.view (Rect.unit (s := S1536x4096) ![512 * a.val, 0] S512x4096.size inb5).toLoadRect (hm5.unread hd))
          (v1.readCov L1 (Rect.unit (s := S512x4096) ![256 * g.val, 0] S256x4096.size inbw).toLoadRect))
        (loraTile (View.readAt (Elt Ideal) m7.view (Rect.unit (s := S1536x256) ![512 * a.val, 0] S512x256.size inb7).toLoadRect (hm7.unread z))
          (View.readAt (Elt Ideal) m12.view (Rect.unit (s := S256x512) ![0, 256 * g.val] S256x256.size inb12).toLoadRect (hm12.unread b)))
        (View.readAt (Elt Ideal) m6.view (Rect.unit (s := S1536x128) ![512 * a.val, 0] S512x128.size inb6).toLoadRect (hm6.unread al)) x
      = proj hd w al z b ((Rect.unit (s := S1536x512) ![512 * a.val, 256 * g.val + 128 * s.val] S512x128.size inb).emb x) := by
  subst h1
  have hs : s.val < 2 := s.isLt
  have hx1 : (x 1).val < 128 := (x 1).isLt
  rw [outTile_apply _ (by omega), View.readCov_eq_canon', mainTile_apply, loraTile_apply]
  have e0 : (((Rect.unit (s := S1536x512) ![512 * a.val, 256 * g.val + 128 * s.val] S512x128.size inb).emb x) 0).val = 512 * a.val + (x 0).val := by
    show 512 * a.val + 1 * (x 0).val = _; omega
  have e1 : (((Rect.unit (s := S1536x512) ![512 * a.val, 256 * g.val + 128 * s.val] S512x128.size inb).emb x) 1).val = 256 * g.val + 128 * s.val + (x 1).val := by
    show 256 * g.val + 128 * s.val + 1 * (x 1).val = _; omega
  simp only [hm5.readAt_unread, hm6.readAt_unread, hm7.readAt_unread, hm12.readAt_unread]
  refine congrArg₂ (fun a b : EReal => a + b)
    (Finset.sum_congr rfl fun k _ => congrArg₂ (fun a b : EReal => a * b) (congrArg hd ?_) (congrArg (View.canon L1) ?_))
    (congrArg₂ (fun a b : EReal => a * b) (congrArg al ?_)
      (Finset.sum_congr rfl fun k _ => congrArg₂ (fun a b : EReal => a * b) (congrArg z ?_) (congrArg b ?_)))
  · funext ax; apply Fin.ext; fin_cases ax
    · exact (by show 512 * a.val + 1 * (x 0).val = 512 * a.val + (x 0).val; omega : _ = 512 * a.val + (x 0).val).trans e0.symm
    · show 0 + 1 * k.val = k.val; omega
  · funext ax; apply Fin.ext; fin_cases ax
    · exact (by show 256 * g.val + 1 * (128 * s.val + (x 1).val) = 256 * g.val + 128 * s.val + (x 1).val; omega : _ = 256 * g.val + 128 * s.val + (x 1).val).trans e1.symm
    · show 0 + 1 * k.val = k.val; omega
  · funext ax; apply Fin.ext; fin_cases ax
    · exact (by show 512 * a.val + 1 * (x 0).val = 512 * a.val + (x 0).val; omega : _ = 512 * a.val + (x 0).val).trans e0.symm
    · show 0 + 1 * (x 1).val = (((Rect.unit (s := S1536x512) ![512 * a.val, 256 * g.val + 128 * s.val] S512x128.size inb).emb x) 1).val % 128
      rw [e1]; omega
  · funext ax; apply Fin.ext; fin_cases ax
    · exact (by show 512 * a.val + 1 * (x 0).val = 512 * a.val + (x 0).val; omega : _ = 512 * a.val + (x 0).val).trans e0.symm
    · show 0 + 1 * k.val = k.val; omega
  · funext ax; apply Fin.ext; fin_cases ax
    · show 0 + 1 * k.val = k.val; omega
    · exact (by show 256 * g.val + 1 * (128 * s.val + (x 1).val) = 256 * g.val + 128 * s.val + (x 1).val; omega : _ = 256 * g.val + 128 * s.val + (x 1).val).trans e1.symm

end Cert.FwdIdeal.Val
-- ==== Proof.FwdBodyB.lean ====
/-
  The gate and up blocks the body stores at a grid point that is neither the first nor the last.
-/
module

public import proofs.«01_k».proof.Proof.FwdRunB
public import proofs.«01_k».proof.Proof.FwdTile

@[expose] public section

set_option maxRecDepth 16384

noncomputable section

namespace Cert.FwdIdeal.Val

open Cert.FwdIdeal Cert.FwdIdeal.Gen Cert.FwdIdeal.Named Idealize.ShloMosaic Idealize.ShloMosaic.TcCoe Cert.Tiles
open Idealize.ShloMosaic.Tactic

theorem gate_scratchB (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_B.sl.HS0_128 (F := Ideal) c i mr hr mw hw sc w) = deq sc w (4 * (i 0).val) 0 :=
  canon_eq_of_piecesOf _ _
    ⟨piece hr hw i sc w 3 31 _ (k0_off32_eq i 3) _ _ _, piece hr hw i sc w 3 30 _ (k0_off31_eq i 3) _ _ _, piece hr hw i sc w 3 29 _ (k0_off30_eq i 3) _ _ _, piece hr hw i sc w 3 28 _ (k0_off29_eq i 3) _ _ _, piece hr hw i sc w 3 27 _ (k0_off28_eq i 3) _ _ _, piece hr hw i sc w 3 26 _ (k0_off27_eq i 3) _ _ _, piece hr hw i sc w 3 25 _ (k0_off26_eq i 3) _ _ _, piece hr hw i sc w 3 24 _ (k0_off25_eq i 3) _ _ _,
      piece hr hw i sc w 3 23 _ (k0_off24_eq i 3) _ _ _, piece hr hw i sc w 3 22 _ (k0_off23_eq i 3) _ _ _, piece hr hw i sc w 3 21 _ (k0_off22_eq i 3) _ _ _, piece hr hw i sc w 3 20 _ (k0_off21_eq i 3) _ _ _, piece hr hw i sc w 3 19 _ (k0_off20_eq i 3) _ _ _, piece hr hw i sc w 3 18 _ (k0_off19_eq i 3) _ _ _, piece hr hw i sc w 3 17 _ (k0_off18_eq i 3) _ _ _, piece hr hw i sc w 3 16 _ (k0_off17_eq i 3) _ _ _,
      piece hr hw i sc w 3 15 _ (k0_off16_eq i 3) _ _ _, piece hr hw i sc w 3 14 _ (k0_off15_eq i 3) _ _ _, piece hr hw i sc w 3 13 _ (k0_off14_eq i 3) _ _ _, piece hr hw i sc w 3 12 _ (k0_off13_eq i 3) _ _ _, piece hr hw i sc w 3 11 _ (k0_off12_eq i 3) _ _ _, piece hr hw i sc w 3 10 _ (k0_off11_eq i 3) _ _ _, piece hr hw i sc w 3 9 _ (k0_off10_eq i 3) _ _ _, piece hr hw i sc w 3 8 _ (k0_off9_eq i 3) _ _ _,
      piece hr hw i sc w 3 7 _ (k0_off8_eq i 3) _ _ _, piece hr hw i sc w 3 6 _ (k0_off7_eq i 3) _ _ _, piece hr hw i sc w 3 5 _ (k0_off6_eq i 3) _ _ _, piece hr hw i sc w 3 4 _ (k0_off5_eq i 3) _ _ _, piece hr hw i sc w 3 3 _ (k0_off4_eq i 3) _ _ _, piece hr hw i sc w 3 2 _ (k0_off3_eq i 3) _ _ _, piece hr hw i sc w 3 1 _ (k0_off2_eq i 3) _ _ _, piece hr hw i sc w 3 0 _ (k0_off1_eq i 3) _ _ _,
      piece hr hw i sc w 2 31 _ (k0_off32_eq i 2) _ _ _, piece hr hw i sc w 2 30 _ (k0_off31_eq i 2) _ _ _, piece hr hw i sc w 2 29 _ (k0_off30_eq i 2) _ _ _, piece hr hw i sc w 2 28 _ (k0_off29_eq i 2) _ _ _, piece hr hw i sc w 2 27 _ (k0_off28_eq i 2) _ _ _, piece hr hw i sc w 2 26 _ (k0_off27_eq i 2) _ _ _, piece hr hw i sc w 2 25 _ (k0_off26_eq i 2) _ _ _, piece hr hw i sc w 2 24 _ (k0_off25_eq i 2) _ _ _,
      piece hr hw i sc w 2 23 _ (k0_off24_eq i 2) _ _ _, piece hr hw i sc w 2 22 _ (k0_off23_eq i 2) _ _ _, piece hr hw i sc w 2 21 _ (k0_off22_eq i 2) _ _ _, piece hr hw i sc w 2 20 _ (k0_off21_eq i 2) _ _ _, piece hr hw i sc w 2 19 _ (k0_off20_eq i 2) _ _ _, piece hr hw i sc w 2 18 _ (k0_off19_eq i 2) _ _ _, piece hr hw i sc w 2 17 _ (k0_off18_eq i 2) _ _ _, piece hr hw i sc w 2 16 _ (k0_off17_eq i 2) _ _ _,
      piece hr hw i sc w 2 15 _ (k0_off16_eq i 2) _ _ _, piece hr hw i sc w 2 14 _ (k0_off15_eq i 2) _ _ _, piece hr hw i sc w 2 13 _ (k0_off14_eq i 2) _ _ _, piece hr hw i sc w 2 12 _ (k0_off13_eq i 2) _ _ _, piece hr hw i sc w 2 11 _ (k0_off12_eq i 2) _ _ _, piece hr hw i sc w 2 10 _ (k0_off11_eq i 2) _ _ _, piece hr hw i sc w 2 9 _ (k0_off10_eq i 2) _ _ _, piece hr hw i sc w 2 8 _ (k0_off9_eq i 2) _ _ _,
      piece hr hw i sc w 2 7 _ (k0_off8_eq i 2) _ _ _, piece hr hw i sc w 2 6 _ (k0_off7_eq i 2) _ _ _, piece hr hw i sc w 2 5 _ (k0_off6_eq i 2) _ _ _, piece hr hw i sc w 2 4 _ (k0_off5_eq i 2) _ _ _, piece hr hw i sc w 2 3 _ (k0_off4_eq i 2) _ _ _, piece hr hw i sc w 2 2 _ (k0_off3_eq i 2) _ _ _, piece hr hw i sc w 2 1 _ (k0_off2_eq i 2) _ _ _, piece hr hw i sc w 2 0 _ (k0_off1_eq i 2) _ _ _,
      piece hr hw i sc w 1 31 _ (k0_off32_eq i 1) _ _ _, piece hr hw i sc w 1 30 _ (k0_off31_eq i 1) _ _ _, piece hr hw i sc w 1 29 _ (k0_off30_eq i 1) _ _ _, piece hr hw i sc w 1 28 _ (k0_off29_eq i 1) _ _ _, piece hr hw i sc w 1 27 _ (k0_off28_eq i 1) _ _ _, piece hr hw i sc w 1 26 _ (k0_off27_eq i 1) _ _ _, piece hr hw i sc w 1 25 _ (k0_off26_eq i 1) _ _ _, piece hr hw i sc w 1 24 _ (k0_off25_eq i 1) _ _ _,
      piece hr hw i sc w 1 23 _ (k0_off24_eq i 1) _ _ _, piece hr hw i sc w 1 22 _ (k0_off23_eq i 1) _ _ _, piece hr hw i sc w 1 21 _ (k0_off22_eq i 1) _ _ _, piece hr hw i sc w 1 20 _ (k0_off21_eq i 1) _ _ _, piece hr hw i sc w 1 19 _ (k0_off20_eq i 1) _ _ _, piece hr hw i sc w 1 18 _ (k0_off19_eq i 1) _ _ _, piece hr hw i sc w 1 17 _ (k0_off18_eq i 1) _ _ _, piece hr hw i sc w 1 16 _ (k0_off17_eq i 1) _ _ _,
      piece hr hw i sc w 1 15 _ (k0_off16_eq i 1) _ _ _, piece hr hw i sc w 1 14 _ (k0_off15_eq i 1) _ _ _, piece hr hw i sc w 1 13 _ (k0_off14_eq i 1) _ _ _, piece hr hw i sc w 1 12 _ (k0_off13_eq i 1) _ _ _, piece hr hw i sc w 1 11 _ (k0_off12_eq i 1) _ _ _, piece hr hw i sc w 1 10 _ (k0_off11_eq i 1) _ _ _, piece hr hw i sc w 1 9 _ (k0_off10_eq i 1) _ _ _, piece hr hw i sc w 1 8 _ (k0_off9_eq i 1) _ _ _,
      piece hr hw i sc w 1 7 _ (k0_off8_eq i 1) _ _ _, piece hr hw i sc w 1 6 _ (k0_off7_eq i 1) _ _ _, piece hr hw i sc w 1 5 _ (k0_off6_eq i 1) _ _ _, piece hr hw i sc w 1 4 _ (k0_off5_eq i 1) _ _ _, piece hr hw i sc w 1 3 _ (k0_off4_eq i 1) _ _ _, piece hr hw i sc w 1 2 _ (k0_off3_eq i 1) _ _ _, piece hr hw i sc w 1 1 _ (k0_off2_eq i 1) _ _ _, piece hr hw i sc w 1 0 _ (k0_off1_eq i 1) _ _ _,
      piece hr hw i sc w 0 31 _ (k0_off32_eq i 0) _ _ _, piece hr hw i sc w 0 30 _ (k0_off31_eq i 0) _ _ _, piece hr hw i sc w 0 29 _ (k0_off30_eq i 0) _ _ _, piece hr hw i sc w 0 28 _ (k0_off29_eq i 0) _ _ _, piece hr hw i sc w 0 27 _ (k0_off28_eq i 0) _ _ _, piece hr hw i sc w 0 26 _ (k0_off27_eq i 0) _ _ _, piece hr hw i sc w 0 25 _ (k0_off26_eq i 0) _ _ _, piece hr hw i sc w 0 24 _ (k0_off25_eq i 0) _ _ _,
      piece hr hw i sc w 0 23 _ (k0_off24_eq i 0) _ _ _, piece hr hw i sc w 0 22 _ (k0_off23_eq i 0) _ _ _, piece hr hw i sc w 0 21 _ (k0_off22_eq i 0) _ _ _, piece hr hw i sc w 0 20 _ (k0_off21_eq i 0) _ _ _, piece hr hw i sc w 0 19 _ (k0_off20_eq i 0) _ _ _, piece hr hw i sc w 0 18 _ (k0_off19_eq i 0) _ _ _, piece hr hw i sc w 0 17 _ (k0_off18_eq i 0) _ _ _, piece hr hw i sc w 0 16 _ (k0_off17_eq i 0) _ _ _,
      piece hr hw i sc w 0 15 _ (k0_off16_eq i 0) _ _ _, piece hr hw i sc w 0 14 _ (k0_off15_eq i 0) _ _ _, piece hr hw i sc w 0 13 _ (k0_off14_eq i 0) _ _ _, piece hr hw i sc w 0 12 _ (k0_off13_eq i 0) _ _ _, piece hr hw i sc w 0 11 _ (k0_off12_eq i 0) _ _ _, piece hr hw i sc w 0 10 _ (k0_off11_eq i 0) _ _ _, piece hr hw i sc w 0 9 _ (k0_off10_eq i 0) _ _ _, piece hr hw i sc w 0 8 _ (k0_off9_eq i 0) _ _ _,
      piece hr hw i sc w 0 7 _ (k0_off8_eq i 0) _ _ _, piece hr hw i sc w 0 6 _ (k0_off7_eq i 0) _ _ _, piece hr hw i sc w 0 5 _ (k0_off6_eq i 0) _ _ _, piece hr hw i sc w 0 4 _ (k0_off5_eq i 0) _ _ _, piece hr hw i sc w 0 3 _ (k0_off4_eq i 0) _ _ _, piece hr hw i sc w 0 2 _ (k0_off3_eq i 0) _ _ _, piece hr hw i sc w 0 1 _ (k0_off2_eq i 0) _ _ _, piece hr hw i sc w 0 0 _ (k0_off1_eq i 0) _ _ _,
      trivial⟩
    (View.cover_of_tiledL _ S128x128.size (by sl_kernel_rfl))

theorem up_scratchB (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_B.sl.HS1_128 (F := Ideal) c i mr hr mw hw sc w) = deq sc w (4 * (i 0).val) 0 :=
  gate_scratchB c i mr hr mw hw sc w

theorem gateB (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) (xs2 : Vec Ideal S1536x256 .f32) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1 = proj x5 (deq x3 x10 (4 * (i 0).val) 0) x6 x7 x12 := by
  refine canon_eq_of_piecesOf _ _ ?_ (View.cover_of_tiledL _ S512x128.size (by sl_kernel_rfl))
  have hw := gate_scratchB c i arg4 harg4 arg11 harg11 x3 x10
  unfold kernelRun0_B
  exact ⟨piece_proj harg6 harg7 harg8 harg13 _ _ _ hw x5 x6 x7 x12 2 1 1 inb_S1536x512_S512x128_1024_384 _ _ _ _ _ _,
      piece_proj harg6 harg7 harg8 harg13 _ _ _ hw x5 x6 x7 x12 2 1 0 inb_S1536x512_S512x128_1024_256 _ _ _ _ _ _,
      piece_proj harg6 harg7 harg8 harg13 _ _ _ hw x5 x6 x7 x12 1 1 1 inb_S1536x512_S512x128_512_384 _ _ _ _ _ _,
      piece_proj harg6 harg7 harg8 harg13 _ _ _ hw x5 x6 x7 x12 1 1 0 inb_S1536x512_S512x128_512_256 _ _ _ _ _ _,
      piece_proj harg6 harg7 harg8 harg13 _ _ _ hw x5 x6 x7 x12 0 1 1 inb_S1536x512_S512x128_0_384 _ _ _ _ _ _,
      piece_proj harg6 harg7 harg8 harg13 _ _ _ hw x5 x6 x7 x12 0 1 0 inb_S1536x512_S512x128_0_256 _ _ _ _ _ _,
      piece_proj harg6 harg7 harg8 harg13 _ _ _ hw x5 x6 x7 x12 2 0 1 inb_S1536x512_S512x128_1024_128 _ _ _ _ _ _,
      piece_proj harg6 harg7 harg8 harg13 _ _ _ hw x5 x6 x7 x12 2 0 0 inb_S1536x512_S512x128_1024_0 _ _ _ _ _ _,
      piece_proj harg6 harg7 harg8 harg13 _ _ _ hw x5 x6 x7 x12 1 0 1 inb_S1536x512_S512x128_512_128 _ _ _ _ _ _,
      piece_proj harg6 harg7 harg8 harg13 _ _ _ hw x5 x6 x7 x12 1 0 0 inb_S1536x512_S512x128_512_0 _ _ _ _ _ _,
      piece_proj harg6 harg7 harg8 harg13 _ _ _ hw x5 x6 x7 x12 0 0 1 inb_S1536x512_S512x128_0_128 _ _ _ _ _ _,
      piece_proj harg6 harg7 harg8 harg13 _ _ _ hw x5 x6 x7 x12 0 0 0 inb_S1536x512_S512x128_0_0 _ _ _ _ _ _,
      trivial⟩

theorem upB (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : ¬cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) (xs2 : Vec Ideal S1536x256 .f32) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1 = proj x5 (deq x4 x11 (4 * (i 0).val) 0) x6 x8 x13 := by
  refine canon_eq_of_piecesOf _ _ ?_ (View.cover_of_tiledL _ S512x128.size (by sl_kernel_rfl))
  have hw := up_scratchB c i arg5 harg5 arg12 harg12 x4 x11
  unfold kernelRun0_B
  exact ⟨piece_proj harg6 harg7 harg9 harg14 _ _ _ hw x5 x6 x8 x13 2 1 1 inb_S1536x512_S512x128_1024_384 _ _ _ _ _ _,
      piece_proj harg6 harg7 harg9 harg14 _ _ _ hw x5 x6 x8 x13 2 1 0 inb_S1536x512_S512x128_1024_256 _ _ _ _ _ _,
      piece_proj harg6 harg7 harg9 harg14 _ _ _ hw x5 x6 x8 x13 1 1 1 inb_S1536x512_S512x128_512_384 _ _ _ _ _ _,
      piece_proj harg6 harg7 harg9 harg14 _ _ _ hw x5 x6 x8 x13 1 1 0 inb_S1536x512_S512x128_512_256 _ _ _ _ _ _,
      piece_proj harg6 harg7 harg9 harg14 _ _ _ hw x5 x6 x8 x13 0 1 1 inb_S1536x512_S512x128_0_384 _ _ _ _ _ _,
      piece_proj harg6 harg7 harg9 harg14 _ _ _ hw x5 x6 x8 x13 0 1 0 inb_S1536x512_S512x128_0_256 _ _ _ _ _ _,
      piece_proj harg6 harg7 harg9 harg14 _ _ _ hw x5 x6 x8 x13 2 0 1 inb_S1536x512_S512x128_1024_128 _ _ _ _ _ _,
      piece_proj harg6 harg7 harg9 harg14 _ _ _ hw x5 x6 x8 x13 2 0 0 inb_S1536x512_S512x128_1024_0 _ _ _ _ _ _,
      piece_proj harg6 harg7 harg9 harg14 _ _ _ hw x5 x6 x8 x13 1 0 1 inb_S1536x512_S512x128_512_128 _ _ _ _ _ _,
      piece_proj harg6 harg7 harg9 harg14 _ _ _ hw x5 x6 x8 x13 1 0 0 inb_S1536x512_S512x128_512_0 _ _ _ _ _ _,
      piece_proj harg6 harg7 harg9 harg14 _ _ _ hw x5 x6 x8 x13 0 0 1 inb_S1536x512_S512x128_0_128 _ _ _ _ _ _,
      piece_proj harg6 harg7 harg9 harg14 _ _ _ hw x5 x6 x8 x13 0 0 0 inb_S1536x512_S512x128_0_0 _ _ _ _ _ _,
      trivial⟩

end Cert.FwdIdeal.Val
-- ==== Proof.FwdBodyA.lean ====
/-
  The gate and up blocks the body stores at the first grid point.
-/
module

public import proofs.«01_k».proof.Proof.FwdRunA
public import proofs.«01_k».proof.Proof.FwdBodyB

@[expose] public section

set_option maxRecDepth 16384

noncomputable section

namespace Cert.FwdIdeal.Val

open Cert.FwdIdeal Cert.FwdIdeal.Gen Cert.FwdIdeal.Named Idealize.ShloMosaic Idealize.ShloMosaic.TcCoe Cert.Tiles
open Idealize.ShloMosaic.Tactic

theorem gate_scratchA (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_A.sl.HS0_128 (F := Ideal) c i mr hr mw hw sc w) = deq sc w (4 * (i 0).val) 0 :=
  gate_scratchB c i mr hr mw hw sc w

theorem up_scratchA (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_A.sl.HS1_128 (F := Ideal) c i mr hr mw hw sc w) = deq sc w (4 * (i 0).val) 0 :=
  gate_scratchA c i mr hr mw hw sc w

theorem gateA (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).1 = proj x5 (deq x3 x10 (4 * (i 0).val) 0) x6 x7 x12 := by
  refine canon_eq_of_piecesOf _ _ ?_ (View.cover_of_tiledL _ S512x128.size (by sl_kernel_rfl))
  have hw := gate_scratchA c i arg4 harg4 arg11 harg11 x3 x10
  unfold kernelRun0_A
  exact ⟨piece_proj harg6 harg7 harg8 harg13 _ _ _ hw x5 x6 x7 x12 2 1 1 inb_S1536x512_S512x128_1024_384 _ _ _ _ _ _,
      piece_proj harg6 harg7 harg8 harg13 _ _ _ hw x5 x6 x7 x12 2 1 0 inb_S1536x512_S512x128_1024_256 _ _ _ _ _ _,
      piece_proj harg6 harg7 harg8 harg13 _ _ _ hw x5 x6 x7 x12 1 1 1 inb_S1536x512_S512x128_512_384 _ _ _ _ _ _,
      piece_proj harg6 harg7 harg8 harg13 _ _ _ hw x5 x6 x7 x12 1 1 0 inb_S1536x512_S512x128_512_256 _ _ _ _ _ _,
      piece_proj harg6 harg7 harg8 harg13 _ _ _ hw x5 x6 x7 x12 0 1 1 inb_S1536x512_S512x128_0_384 _ _ _ _ _ _,
      piece_proj harg6 harg7 harg8 harg13 _ _ _ hw x5 x6 x7 x12 0 1 0 inb_S1536x512_S512x128_0_256 _ _ _ _ _ _,
      piece_proj harg6 harg7 harg8 harg13 _ _ _ hw x5 x6 x7 x12 2 0 1 inb_S1536x512_S512x128_1024_128 _ _ _ _ _ _,
      piece_proj harg6 harg7 harg8 harg13 _ _ _ hw x5 x6 x7 x12 2 0 0 inb_S1536x512_S512x128_1024_0 _ _ _ _ _ _,
      piece_proj harg6 harg7 harg8 harg13 _ _ _ hw x5 x6 x7 x12 1 0 1 inb_S1536x512_S512x128_512_128 _ _ _ _ _ _,
      piece_proj harg6 harg7 harg8 harg13 _ _ _ hw x5 x6 x7 x12 1 0 0 inb_S1536x512_S512x128_512_0 _ _ _ _ _ _,
      piece_proj harg6 harg7 harg8 harg13 _ _ _ hw x5 x6 x7 x12 0 0 1 inb_S1536x512_S512x128_0_128 _ _ _ _ _ _,
      piece_proj harg6 harg7 harg8 harg13 _ _ _ hw x5 x6 x7 x12 0 0 0 inb_S1536x512_S512x128_0_0 _ _ _ _ _ _,
      trivial⟩

theorem upA (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : cond0_0 i) (hc1 : ¬cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14).2.1 = proj x5 (deq x4 x11 (4 * (i 0).val) 0) x6 x8 x13 := by
  refine canon_eq_of_piecesOf _ _ ?_ (View.cover_of_tiledL _ S512x128.size (by sl_kernel_rfl))
  have hw := up_scratchA c i arg5 harg5 arg12 harg12 x4 x11
  unfold kernelRun0_A
  exact ⟨piece_proj harg6 harg7 harg9 harg14 _ _ _ hw x5 x6 x8 x13 2 1 1 inb_S1536x512_S512x128_1024_384 _ _ _ _ _ _,
      piece_proj harg6 harg7 harg9 harg14 _ _ _ hw x5 x6 x8 x13 2 1 0 inb_S1536x512_S512x128_1024_256 _ _ _ _ _ _,
      piece_proj harg6 harg7 harg9 harg14 _ _ _ hw x5 x6 x8 x13 1 1 1 inb_S1536x512_S512x128_512_384 _ _ _ _ _ _,
      piece_proj harg6 harg7 harg9 harg14 _ _ _ hw x5 x6 x8 x13 1 1 0 inb_S1536x512_S512x128_512_256 _ _ _ _ _ _,
      piece_proj harg6 harg7 harg9 harg14 _ _ _ hw x5 x6 x8 x13 0 1 1 inb_S1536x512_S512x128_0_384 _ _ _ _ _ _,
      piece_proj harg6 harg7 harg9 harg14 _ _ _ hw x5 x6 x8 x13 0 1 0 inb_S1536x512_S512x128_0_256 _ _ _ _ _ _,
      piece_proj harg6 harg7 harg9 harg14 _ _ _ hw x5 x6 x8 x13 2 0 1 inb_S1536x512_S512x128_1024_128 _ _ _ _ _ _,
      piece_proj harg6 harg7 harg9 harg14 _ _ _ hw x5 x6 x8 x13 2 0 0 inb_S1536x512_S512x128_1024_0 _ _ _ _ _ _,
      piece_proj harg6 harg7 harg9 harg14 _ _ _ hw x5 x6 x8 x13 1 0 1 inb_S1536x512_S512x128_512_128 _ _ _ _ _ _,
      piece_proj harg6 harg7 harg9 harg14 _ _ _ hw x5 x6 x8 x13 1 0 0 inb_S1536x512_S512x128_512_0 _ _ _ _ _ _,
      piece_proj harg6 harg7 harg9 harg14 _ _ _ hw x5 x6 x8 x13 0 0 1 inb_S1536x512_S512x128_0_128 _ _ _ _ _ _,
      piece_proj harg6 harg7 harg9 harg14 _ _ _ hw x5 x6 x8 x13 0 0 0 inb_S1536x512_S512x128_0_0 _ _ _ _ _ _,
      trivial⟩

end Cert.FwdIdeal.Val
-- ==== Proof.FwdBodyC.lean ====
/-
  The gate and up blocks the body stores at the last grid point.
-/
module

public import proofs.«01_k».proof.Proof.FwdRunC
public import proofs.«01_k».proof.Proof.FwdBodyB

@[expose] public section

set_option maxRecDepth 16384

noncomputable section

namespace Cert.FwdIdeal.Val

open Cert.FwdIdeal Cert.FwdIdeal.Gen Cert.FwdIdeal.Named Idealize.ShloMosaic Idealize.ShloMosaic.TcCoe Cert.Tiles
open Idealize.ShloMosaic.Tactic

theorem gate_scratchC (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_C.sl.HS0_128 (F := Ideal) c i mr hr mw hw sc w) = deq sc w (4 * (i 0).val) 0 :=
  gate_scratchB c i mr hr mw hw sc w

theorem up_scratchC (c : Dev nD) (i : grid0.Coords) (mr : Memref sig .tc .smem S112x32 .f32) (hr : mr.IsWhole)
    (mw : Memref sig .tc .vmem S512x4096 .fp8e4m3) (hw : mw.IsWhole) (sc : Vec Ideal S112x32 .f32) (w : Vec Ideal S512x4096 .fp8e4m3) :
    View.canon (kernelRun0_C.sl.HS1_128 (F := Ideal) c i mr hr mw hw sc w) = deq sc w (4 * (i 0).val) 0 :=
  gate_scratchC c i mr hr mw hw sc w

theorem gateC (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) (xs2 : Vec Ideal S1536x256 .f32) :
    View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).1 = proj x5 (deq x3 x10 (4 * (i 0).val) 0) x6 x7 x12 := by
  refine canon_eq_of_piecesOf _ _ ?_ (View.cover_of_tiledL _ S512x128.size (by sl_kernel_rfl))
  have hw := gate_scratchC c i arg4 harg4 arg11 harg11 x3 x10
  unfold kernelRun0_C
  exact ⟨piece_proj harg6 harg7 harg8 harg13 _ _ _ hw x5 x6 x7 x12 2 1 1 inb_S1536x512_S512x128_1024_384 _ _ _ _ _ _,
      piece_proj harg6 harg7 harg8 harg13 _ _ _ hw x5 x6 x7 x12 2 1 0 inb_S1536x512_S512x128_1024_256 _ _ _ _ _ _,
      piece_proj harg6 harg7 harg8 harg13 _ _ _ hw x5 x6 x7 x12 1 1 1 inb_S1536x512_S512x128_512_384 _ _ _ _ _ _,
      piece_proj harg6 harg7 harg8 harg13 _ _ _ hw x5 x6 x7 x12 1 1 0 inb_S1536x512_S512x128_512_256 _ _ _ _ _ _,
      piece_proj harg6 harg7 harg8 harg13 _ _ _ hw x5 x6 x7 x12 0 1 1 inb_S1536x512_S512x128_0_384 _ _ _ _ _ _,
      piece_proj harg6 harg7 harg8 harg13 _ _ _ hw x5 x6 x7 x12 0 1 0 inb_S1536x512_S512x128_0_256 _ _ _ _ _ _,
      piece_proj harg6 harg7 harg8 harg13 _ _ _ hw x5 x6 x7 x12 2 0 1 inb_S1536x512_S512x128_1024_128 _ _ _ _ _ _,
      piece_proj harg6 harg7 harg8 harg13 _ _ _ hw x5 x6 x7 x12 2 0 0 inb_S1536x512_S512x128_1024_0 _ _ _ _ _ _,
      piece_proj harg6 harg7 harg8 harg13 _ _ _ hw x5 x6 x7 x12 1 0 1 inb_S1536x512_S512x128_512_128 _ _ _ _ _ _,
      piece_proj harg6 harg7 harg8 harg13 _ _ _ hw x5 x6 x7 x12 1 0 0 inb_S1536x512_S512x128_512_0 _ _ _ _ _ _,
      piece_proj harg6 harg7 harg8 harg13 _ _ _ hw x5 x6 x7 x12 0 0 1 inb_S1536x512_S512x128_0_128 _ _ _ _ _ _,
      piece_proj harg6 harg7 harg8 harg13 _ _ _ hw x5 x6 x7 x12 0 0 0 inb_S1536x512_S512x128_0_0 _ _ _ _ _ _,
      trivial⟩

theorem upC (c : Dev nD) (i : grid0.Coords) (arg1 : Memref sig .tc .smem S4 .f32) (harg1 : arg1.IsWhole) (arg2 : Memref sig .tc .smem S4 .i32) (harg2 : arg2.IsWhole) (arg3 : Memref sig .tc .smem S5 .i32) (harg3 : arg3.IsWhole) (arg4 : Memref sig .tc .smem S112x32 .f32) (harg4 : arg4.IsWhole) (arg5 : Memref sig .tc .smem S112x32 .f32) (harg5 : arg5.IsWhole) (arg6 : Memref sig .tc .vmem S1536x4096 .bf16) (harg6 : arg6.IsWhole) (arg7 : Memref sig .tc .vmem S1536x128 .f32) (harg7 : arg7.IsWhole) (arg8 : Memref sig .tc .vmem S1536x256 .bf16) (harg8 : arg8.IsWhole) (arg9 : Memref sig .tc .vmem S1536x256 .bf16) (harg9 : arg9.IsWhole) (arg10 : Memref sig .tc .vmem S256x1536 .bf16) (harg10 : arg10.IsWhole) (arg11 : Memref sig .tc .vmem S512x4096 .fp8e4m3) (harg11 : arg11.IsWhole) (arg12 : Memref sig .tc .vmem S512x4096 .fp8e4m3) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1536x512 .fp8e4m3) (harg16 : arg16.IsWhole) (arg17 : Memref sig .tc .vmem S1536x112 .f32) (harg17 : arg17.IsWhole) (arg18 : Memref sig .tc .vmem S1536x512 .bf16) (harg18 : arg18.IsWhole) (arg19 : Memref sig .tc .vmem S1536x512 .bf16) (harg19 : arg19.IsWhole) (arg20 : Memref sig .tc .vmem S1536x512 .bf16) (harg20 : arg20.IsWhole) (arg21 : Memref sig .tc .vmem S256x512 .f32) (harg21 : arg21.IsWhole) (arg22 : Memref sig .tc .vmem S1536x256 .bf16) (harg22 : arg22.IsWhole) (arg23 : Memref sig .tc .vmem S512x4096 .bf16) (harg23 : arg23.IsWhole) (arg24 : Memref sig .tc .vmem S512x4096 .bf16) (harg24 : arg24.IsWhole) (arg25 : Memref sig .tc .vmem S1536x256 .f32) (harg25 : arg25.IsWhole) (hc0 : ¬cond0_0 i) (hc1 : cond0_1 i)
    (x0 : Vec Ideal S4 .f32) (x1 : Vec Ideal S4 .i32) (x2 : Vec Ideal S5 .i32) (x3 : Vec Ideal S112x32 .f32) (x4 : Vec Ideal S112x32 .f32) (x5 : Vec Ideal S1536x4096 .bf16) (x6 : Vec Ideal S1536x128 .f32) (x7 : Vec Ideal S1536x256 .bf16) (x8 : Vec Ideal S1536x256 .bf16) (x9 : Vec Ideal S256x1536 .bf16) (x10 : Vec Ideal S512x4096 .fp8e4m3) (x11 : Vec Ideal S512x4096 .fp8e4m3) (x12 : Vec Ideal S256x512 .bf16) (x13 : Vec Ideal S256x512 .bf16) (x14 : Vec Ideal S256x512 .bf16) (xs2 : Vec Ideal S1536x256 .f32) :
    View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs2).2.1 = proj x5 (deq x4 x11 (4 * (i 0).val) 0) x6 x8 x13 := by
  refine canon_eq_of_piecesOf _ _ ?_ (View.cover_of_tiledL _ S512x128.size (by sl_kernel_rfl))
  have hw := up_scratchC c i arg5 harg5 arg12 harg12 x4 x11
  unfold kernelRun0_C
  exact ⟨piece_proj harg6 harg7 harg9 harg14 _ _ _ hw x5 x6 x8 x13 2 1 1 inb_S1536x512_S512x128_1024_384 _ _ _ _ _ _,
      piece_proj harg6 harg7 harg9 harg14 _ _ _ hw x5 x6 x8 x13 2 1 0 inb_S1536x512_S512x128_1024_256 _ _ _ _ _ _,
      piece_proj harg6 harg7 harg9 harg14 _ _ _ hw x5 x6 x8 x13 1 1 1 inb_S1536x512_S512x128_512_384 _ _ _ _ _ _,
      piece_proj harg6 harg7 harg9 harg14 _ _ _ hw x5 x6 x8 x13 1 1 0 inb_S1536x512_S512x128_512_256 _ _ _ _ _ _,
      piece_proj harg6 harg7 harg9 harg14 _ _ _ hw x5 x6 x8 x13 0 1 1 inb_S1536x512_S512x128_0_384 _ _ _ _ _ _,
      piece_proj harg6 harg7 harg9 harg14 _ _ _ hw x5 x6 x8 x13 0 1 0 inb_S1536x512_S512x128_0_256 _ _ _ _ _ _,
      piece_proj harg6 harg7 harg9 harg14 _ _ _ hw x5 x6 x8 x13 2 0 1 inb_S1536x512_S512x128_1024_128 _ _ _ _ _ _,
      piece_proj harg6 harg7 harg9 harg14 _ _ _ hw x5 x6 x8 x13 2 0 0 inb_S1536x512_S512x128_1024_0 _ _ _ _ _ _,
      piece_proj harg6 harg7 harg9 harg14 _ _ _ hw x5 x6 x8 x13 1 0 1 inb_S1536x512_S512x128_512_128 _ _ _ _ _ _,
      piece_proj harg6 harg7 harg9 harg14 _ _ _ hw x5 x6 x8 x13 1 0 0 inb_S1536x512_S512x128_512_0 _ _ _ _ _ _,
      piece_proj harg6 harg7 harg9 harg14 _ _ _ hw x5 x6 x8 x13 0 0 1 inb_S1536x512_S512x128_0_128 _ _ _ _ _ _,
      piece_proj harg6 harg7 harg9 harg14 _ _ _ hw x5 x6 x8 x13 0 0 0 inb_S1536x512_S512x128_0_0 _ _ _ _ _ _,
      trivial⟩

end Cert.FwdIdeal.Val
-- ==== Proof.FwdBody.lean ====
/-
  The gate and up blocks the body stores at every grid point.
-/
module

public import proofs.«01_k».proof.Proof.FwdRun
public import proofs.«01_k».proof.Proof.FwdBodyA
public import proofs.«01_k».proof.Proof.FwdBodyB
public import proofs.«01_k».proof.Proof.FwdBodyC

@[expose] public section

set_option maxRecDepth 16384

noncomputable section

namespace Cert.FwdIdeal.Val

open Cert.FwdIdeal Cert.FwdIdeal.Gen Cert.FwdIdeal.Named Idealize.ShloMosaic Idealize.ShloMosaic.TcCoe Cert.Tiles

variable (m : (ℓ : Loc nD τ sig) → Buf (Elt Ideal) ℓ)

theorem gate_block (c : Dev nD) (t : Fin cfg0.N) : (outsAt0 m c t.val t.isLt).1
    = proj (iblk m c 5 t) (deq (iblk m c 3 t) (iblk m c 10 t) (4 * (grid0.coords t 0).val) 0) (iblk m c 6 t) (iblk m c 7 t) (iblk m c 12 t) := by
  by_cases h0 : t.val % 28 = 0
  · have h1 : ¬t.val % 28 = 27 := by omega
    rw [outsAt0_A m c t h0 h1]
    unfold out0_A_18
    dsimp only
    rw [View.read_writes_junk_eq_canon]
    exact gateA ..
  · by_cases h1 : t.val % 28 = 27
    · rw [outsAt0_C m c t h0 h1]
      unfold out0_C_18
      dsimp only
      rw [View.read_writes_junk_eq_canon]
      exact gateC ..
    · rw [outsAt0_B m c t h0 h1]
      unfold out0_B_18
      dsimp only
      rw [View.read_writes_junk_eq_canon]
      exact gateB ..

theorem up_block (c : Dev nD) (t : Fin cfg0.N) : (outsAt0 m c t.val t.isLt).2.1
    = proj (iblk m c 5 t) (deq (iblk m c 4 t) (iblk m c 11 t) (4 * (grid0.coords t 0).val) 0) (iblk m c 6 t) (iblk m c 8 t) (iblk m c 13 t) := by
  by_cases h0 : t.val % 28 = 0
  · have h1 : ¬t.val % 28 = 27 := by omega
    rw [outsAt0_A m c t h0 h1]
    unfold out0_A_19
    dsimp only
    rw [View.read_writes_junk_eq_canon]
    exact upA ..
  · by_cases h1 : t.val % 28 = 27
    · rw [outsAt0_C m c t h0 h1]
      unfold out0_C_19
      dsimp only
      rw [View.read_writes_junk_eq_canon]
      exact upC ..
    · rw [outsAt0_B m c t h0 h1]
      unfold out0_B_19
      dsimp only
      rw [View.read_writes_junk_eq_canon]
      exact upB ..

end Cert.FwdIdeal.Val
-- ==== Proof.FwdValue.lean ====
/-
  The gate and up projections' result arrays, each as one formula over the arguments.
-/
module

public import proofs.«01_k».proof.Proof.FwdBody

@[expose] public section

set_option maxRecDepth 16384

noncomputable section

namespace Cert.FwdIdeal.Val

open Cert.FwdIdeal Cert.FwdIdeal.Gen Cert.FwdIdeal.Named Idealize.ShloMosaic Idealize.ShloMosaic.TcCoe Idealize.SL.Sem Cert.Tiles
open Idealize.ShloMosaic.Pipeline (Dat)
open Idealize.ShloMosaic.Tactic

variable (m : (ℓ : Loc nD τ sig) → Buf (Elt Ideal) ℓ)

theorem idx_val : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_10.index t = ![t.val, 0] ∧ win0_11.index t = ![t.val, 0]
    ∧ win0_12.index t = ![0, t.val] ∧ win0_13.index t = ![0, t.val] ∧ win0_18.index t = ![0, t.val] ∧ win0_19.index t = ![0, t.val]
    ∧ (grid0.coords t 0).val = t.val :=
  (by decide +kernel : ∀ t : Fin grid0.N, _)

theorem gate_weight (c : Dev nD) (t : Fin cfg0.N) (x : S512x4096.Idx) :
    deq (iblk m c 3 t) (iblk m c 10 t) (4 * (grid0.coords t 0).val) 0 x
      = deq (m ((c : Thread nD τ).loc main_arg3)) (m ((c : Thread nD τ).loc main_arg10)) 0 0 (((cfg0.win 10).blk t).view.emb x) := by
  have e : (iblk m c 3 t : S112x32.Idx → Elt Ideal .f32) = m ((c : Thread nD τ).loc main_arg3) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; try omega)

theorem up_weight (c : Dev nD) (t : Fin cfg0.N) (x : S512x4096.Idx) :
    deq (iblk m c 4 t) (iblk m c 11 t) (4 * (grid0.coords t 0).val) 0 x
      = deq (m ((c : Thread nD τ).loc main_arg4)) (m ((c : Thread nD τ).loc main_arg11)) 0 0 (((cfg0.win 11).blk t).view.emb x) := by
  have e : (iblk m c 4 t : S112x32.Idx → Elt Ideal .f32) = m ((c : Thread nD τ).loc main_arg4) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; try omega)

theorem factor (c : Dev nD) (i : Fin 1536) (l : Fin 128) :
    (V m c main_v3 : S1536x128.Idx → Elt Ideal .f32) (ix2 i l) = (m ((c : Thread nD τ).loc main_arg6) : S1536x1.Idx → Elt Ideal .f32) (ix2 i 0) := by
  entry_read
  pointwise

theorem final_gate (c : Dev nD) : (dats m 0 c).arrAt 18 (cfgs 0).N
    = total (m ((c : Thread nD τ).loc main_arg5)) (m ((c : Thread nD τ).loc main_arg10)) (m ((c : Thread nD τ).loc main_arg3))
      (m ((c : Thread nD τ).loc main_arg6)) (m ((c : Thread nD τ).loc main_arg7)) (V m c main_v0) := by
  refine (dats m 0 c).arrAt_eq_of_covers 18 _ (by decide +kernel) fun t hf y => ?_
  blk_simp
  rw [after0_18, gate_block]
  unfold proj total
  refine congrArg₂ (fun a b : EReal => a + b) (Finset.sum_congr rfl fun k _ => congrArg₂ (fun a b : EReal => a * b) ?_ ((gate_weight m c t _).trans (congrArg _ ?_)))
    (congrArg₂ (fun a b : EReal => a * b) (Eq.trans ?_ (factor m c _ ⟨(y 1).val % 128, Nat.mod_lt _ (by decide)⟩)) (Finset.sum_congr rfl fun r _ => congrArg₂ (fun a b : EReal => a * b) ?_ ?_))
  all_goals blk_ext [iblk, V, idx_val t]

theorem final_up (c : Dev nD) : (dats m 0 c).arrAt 19 (cfgs 0).N
    = total (m ((c : Thread nD τ).loc main_arg5)) (m ((c : Thread nD τ).loc main_arg11)) (m ((c : Thread nD τ).loc main_arg4))
      (m ((c : Thread nD τ).loc main_arg6)) (m ((c : Thread nD τ).loc main_arg8)) (V m c main_v1) := by
  refine (dats m 0 c).arrAt_eq_of_covers 19 _ (by decide +kernel) fun t hf y => ?_
  blk_simp
  rw [after0_19, up_block]
  unfold proj total
  refine congrArg₂ (fun a b : EReal => a + b) (Finset.sum_congr rfl fun k _ => congrArg₂ (fun a b : EReal => a * b) ?_ ((up_weight m c t _).trans (congrArg _ ?_)))
    (congrArg₂ (fun a b : EReal => a * b) (Eq.trans ?_ (factor m c _ ⟨(y 1).val % 128, Nat.mod_lt _ (by decide)⟩)) (Finset.sum_congr rfl fun r _ => congrArg₂ (fun a b : EReal => a * b) ?_ ?_))
  all_goals blk_ext [iblk, V, idx_val t]

/-- The run, with the two result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v4_3) = (dats m 0 c).arrAt 18 cfg0.N
      ∧ r.2.mem ((c : Thread nD τ).loc main_v4_4) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨((dats m 0 c).toRForget_arrAt_iff forgets0_18 _ _).mp ((h.1 c).1 18),
      ((dats m 0 c).toRForget_arrAt_iff forgets0_19 _ _).mp ((h.1 c).1 19), h.2 c⟩)
    (θ_run_and (run_main m ρ) (unchanged m ρ))

end Cert.FwdIdeal.Val
-- ==== Proof.FwdReference.lean ====
/-
  The gate and up projections' reference: each of its result arrays is the same formula.
-/
module

public import proofs.«01_k».proof.Proof.FwdTile
public import proofs.«01_k».proof.Proof.Gen.ReferenceFwdIdeal.Value

@[expose] public section

set_option maxRecDepth 16384

noncomputable section

namespace Cert.ReferenceFwdIdeal.Val

open Cert.ReferenceFwdIdeal Cert.ReferenceFwdIdeal.Gen Idealize.ShloMosaic Idealize.ShloMosaic.TcCoe Cert.Tiles
open Idealize.ShloMosaic.Pipeline (Dat)
open Idealize.ShloMosaic.Tactic

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- The scales spread over the weight's entries, as the reference's host code does it. -/
def spread (S : FVec Ideal S112x32 .f32) : FVec Ideal S14336x4096 .bf16 :=
  shapeCast S14336x4096 (broadcastInDim S112x128x32x128 ![0, 1, 2, 3] bcast_S112x1x32x1_S112x128x32x128_0_1_2_3
    (broadcastInDim S112x1x32x1 ![0, 2] bcast_S112x32_S112x1x32x1_0_2 (truncf FTy.bf16 S bitsLt_bf16_f32))) shapeCasts_S112x128x32x128_S14336x4096

theorem spread_apply (S : FVec Ideal S112x32 .f32) (j : S14336x4096.Idx) : spread S j = scAt S (0 + (j 0).val / 128) (0 + (j 1).val / 128) := by
  have h0 : (j 0).val < 14336 := (j 0).isLt
  have h1 : (j 1).val < 4096 := (j 1).isLt
  unfold scAt
  rw [dif_pos (by constructor <;> omega)]
  pointwise [spread]

theorem pay_gate (wc : FVec Ideal S14336x4096 .fp8e4m3) (ws : FVec Ideal S14336x4096 .bf16) (al : FVec Ideal S1536x1 .f32) (z : FVec Ideal S1536x256 .bf16)
    (b : FVec Ideal S256x14336 .bf16) (h : FVec Ideal S1536x4096 .bf16) (y : S1536x14336.Idx) :
    (k0_pay4 wc ws al z b h y : Ideal .bf16)
      = ((∑ k : Fin 4096, (h (ix2 (y 0) k) : EReal) * ((wc (ix2 (y 1) k) : EReal) * ws (ix2 (y 1) k)))
        + (al (ix2 (y 0) 0) : EReal) * ∑ r : Fin 256, (z (ix2 (y 0) r) : EReal) * b (ix2 r (y 1)) : EReal) := by
  pointwise [k0_pay4]

theorem pay_up (wc : FVec Ideal S14336x4096 .fp8e4m3) (ws : FVec Ideal S14336x4096 .bf16) (al : FVec Ideal S1536x1 .f32) (z : FVec Ideal S1536x256 .bf16)
    (b : FVec Ideal S256x14336 .bf16) (h : FVec Ideal S1536x4096 .bf16) (y : S1536x14336.Idx) :
    (k0_pay1 (k0_pay2 wc ws) (k0_pay3 al z b) h y : Ideal .bf16)
      = ((∑ k : Fin 4096, (h (ix2 (y 0) k) : EReal) * ((wc (ix2 (y 1) k) : EReal) * ws (ix2 (y 1) k)))
        + (al (ix2 (y 0) 0) : EReal) * ∑ r : Fin 256, (z (ix2 (y 0) r) : EReal) * b (ix2 r (y 1)) : EReal) := by
  pointwise [k0_pay1, k0_pay2, k0_pay3]

theorem e2 (c : Dev nD) : (iblk m c 2 t0_0 : FVec Ideal S1536x4096 .bf16) = m ((c : Thread nD τ).loc main_arg5) := by blk_ext! [iblk, V, idx t0_0]

theorem e3 (c : Dev nD) : (iblk m c 3 t0_0 : FVec Ideal S1536x1 .f32) = m ((c : Thread nD τ).loc main_arg6) := by blk_ext! [iblk, V, idx t0_0]

theorem e4 (c : Dev nD) : (iblk m c 4 t0_0 : FVec Ideal S1536x256 .bf16) = m ((c : Thread nD τ).loc main_arg7) := by blk_ext! [iblk, V, idx t0_0]

theorem e5 (c : Dev nD) : (iblk m c 5 t0_0 : FVec Ideal S1536x256 .bf16) = m ((c : Thread nD τ).loc main_arg8) := by blk_ext! [iblk, V, idx t0_0]

theorem e6 (c : Dev nD) : (iblk m c 6 t0_0 : FVec Ideal S14336x4096 .fp8e4m3) = m ((c : Thread nD τ).loc main_arg10) := by blk_ext! [iblk, V, idx t0_0]

theorem e7 (c : Dev nD) : (iblk m c 7 t0_0 : FVec Ideal S14336x4096 .fp8e4m3) = m ((c : Thread nD τ).loc main_arg11) := by blk_ext! [iblk, V, idx t0_0]

theorem e0 (c : Dev nD) : (iblk m c 0 t0_0 : FVec Ideal S14336x4096 .bf16) = spread (m ((c : Thread nD τ).loc main_arg3)) :=
  Eq.trans (b := V m c main_v3) (by blk_ext! [iblk, idx t0_0]) (by entry_read; rfl)

theorem e1 (c : Dev nD) : (iblk m c 1 t0_0 : FVec Ideal S14336x4096 .bf16) = spread (m ((c : Thread nD τ).loc main_arg4)) :=
  Eq.trans (b := V m c main_v7) (by blk_ext! [iblk, idx t0_0]) (by entry_read; rfl)

theorem e8 (c : Dev nD) : (iblk m c 8 t0_0 : FVec Ideal S256x14336 .bf16) = V m c main_v8 := by blk_ext! [iblk, idx t0_0]

theorem e9 (c : Dev nD) : (iblk m c 9 t0_0 : FVec Ideal S256x14336 .bf16) = V m c main_v9 := by blk_ext! [iblk, idx t0_0]

theorem final_gate (c : Dev nD) : (dats m 0 c).arrAt 10 (cfgs 0).N
    = Cert.FwdIdeal.Val.total (m ((c : Thread nD τ).loc main_arg5)) (m ((c : Thread nD τ).loc main_arg10)) (m ((c : Thread nD τ).loc main_arg3))
      (m ((c : Thread nD τ).loc main_arg6)) (m ((c : Thread nD τ).loc main_arg7)) (V m c main_v8) := by
  refine (dats m 0 c).arrAt_eq_of_after_last 10 t0_0 (by decide +kernel) _ fun j => ?_
  blk_simp
  rw [after0_10]
  frame_out
  rw [e0 m c, e2 m c, e3 m c, e4 m c, e6 m c, e8 m c]
  refine (pay_gate _ _ _ _ _ _ j).trans ?_
  simp only [spread_apply]
  rfl

theorem final_up (c : Dev nD) : (dats m 0 c).arrAt 11 (cfgs 0).N
    = Cert.FwdIdeal.Val.total (m ((c : Thread nD τ).loc main_arg5)) (m ((c : Thread nD τ).loc main_arg11)) (m ((c : Thread nD τ).loc main_arg4))
      (m ((c : Thread nD τ).loc main_arg6)) (m ((c : Thread nD τ).loc main_arg8)) (V m c main_v9) := by
  refine (dats m 0 c).arrAt_eq_of_after_last 11 t0_0 (by decide +kernel) _ fun j => ?_
  blk_simp
  rw [after0_11]
  frame_out
  rw [e1 m c, e2 m c, e3 m c, e5 m c, e7 m c, e9 m c]
  refine (pay_up _ _ _ _ _ _ j).trans ?_
  simp only [spread_apply]
  rfl

end Cert.ReferenceFwdIdeal.Val
-- ==== Proof.FwdClaim.lean ====
/-
  The gate and up projections against their reference.
-/
module

public import proofs.«01_k».proof.Proof.FwdValue
public import proofs.«01_k».proof.Proof.FwdReference
public import proofs.«01_k».proof.Defs

@[expose] public section

set_option maxRecDepth 16384

noncomputable section

open Idealize.ShloMosaic Idealize.ShloMosaic.TcCoe Idealize.ShloMosaic.Tactic

/-- The gate's adapter as the kernel's host code reshapes it. -/
theorem Cert.FwdIdeal.Val.entry_gate (m : (ℓ : Loc Cert.FwdIdeal.nD Cert.FwdIdeal.τ Cert.FwdIdeal.sig) → Buf (Elt Ideal) ℓ) (c : Dev Cert.FwdIdeal.nD) :
    Cert.FwdIdeal.Named.V m c Cert.FwdIdeal.main_v0 = shapeCast Cert.FwdIdeal.S256x14336 (m ((c : Thread Cert.FwdIdeal.nD Cert.FwdIdeal.τ).loc Cert.FwdIdeal.main_arg12)) Cert.FwdIdeal.Gen.shapeCasts_S4x64x14336_S256x14336 := by
  entry_read; rfl

/-- The up projection's adapter as the kernel's host code reshapes it. -/
theorem Cert.FwdIdeal.Val.entry_up (m : (ℓ : Loc Cert.FwdIdeal.nD Cert.FwdIdeal.τ Cert.FwdIdeal.sig) → Buf (Elt Ideal) ℓ) (c : Dev Cert.FwdIdeal.nD) :
    Cert.FwdIdeal.Named.V m c Cert.FwdIdeal.main_v1 = shapeCast Cert.FwdIdeal.S256x14336 (m ((c : Thread Cert.FwdIdeal.nD Cert.FwdIdeal.τ).loc Cert.FwdIdeal.main_arg13)) Cert.FwdIdeal.Gen.shapeCasts_S4x64x14336_S256x14336 := by
  entry_read; rfl

/-- The gate's adapter as the reference's host code reshapes it. -/
theorem Cert.ReferenceFwdIdeal.Val.entry_gate (m : (ℓ : Loc Cert.ReferenceFwdIdeal.nD Cert.ReferenceFwdIdeal.τ Cert.ReferenceFwdIdeal.sig) → Buf (Elt Ideal) ℓ) (c : Dev Cert.ReferenceFwdIdeal.nD) :
    Cert.ReferenceFwdIdeal.Gen.V m c Cert.ReferenceFwdIdeal.main_v8 = shapeCast Cert.FwdIdeal.S256x14336 (m ((c : Thread Cert.ReferenceFwdIdeal.nD Cert.ReferenceFwdIdeal.τ).loc Cert.ReferenceFwdIdeal.main_arg12)) Cert.FwdIdeal.Gen.shapeCasts_S4x64x14336_S256x14336 := by
  entry_read; rfl

/-- The up projection's adapter as the reference's host code reshapes it. -/
theorem Cert.ReferenceFwdIdeal.Val.entry_up (m : (ℓ : Loc Cert.ReferenceFwdIdeal.nD Cert.ReferenceFwdIdeal.τ Cert.ReferenceFwdIdeal.sig) → Buf (Elt Ideal) ℓ) (c : Dev Cert.ReferenceFwdIdeal.nD) :
    Cert.ReferenceFwdIdeal.Gen.V m c Cert.ReferenceFwdIdeal.main_v9 = shapeCast Cert.FwdIdeal.S256x14336 (m ((c : Thread Cert.ReferenceFwdIdeal.nD Cert.ReferenceFwdIdeal.τ).loc Cert.ReferenceFwdIdeal.main_arg13)) Cert.FwdIdeal.Gen.shapeCasts_S4x64x14336_S256x14336 := by
  entry_read; rfl

/-- The kernel's two result arrays are the reference's. -/
theorem Cert.Fwd.algebraic : Cert.algebraic_FwdIdeal_ReferenceFwdIdeal := by
  pair_intro
  · run_from Cert.FwdIdeal.Val.run_blocks m g
  · run_from Cert.ReferenceFwdIdeal.Value.run_blocks m' g'
    · obtain ⟨h0, h1, h2, h3, h4, h5, h6, h7, h8, h9, h10, h11, h12, h13, h14⟩ := hagree c
      refine (Cert.ReferenceFwdIdeal.Val.final_gate m' c).trans (Eq.trans ?_ (Cert.FwdIdeal.Val.final_gate m c).symm)
      rw [Cert.FwdIdeal.Val.entry_gate m c, Cert.ReferenceFwdIdeal.Val.entry_gate m' c, h3, h5, h6, h7, h10, h12]
    · obtain ⟨h0, h1, h2, h3, h4, h5, h6, h7, h8, h9, h10, h11, h12, h13, h14⟩ := hagree c
      refine (Cert.ReferenceFwdIdeal.Val.final_up m' c).trans (Eq.trans ?_ (Cert.FwdIdeal.Val.final_up m c).symm)
      rw [Cert.FwdIdeal.Val.entry_up m c, Cert.ReferenceFwdIdeal.Val.entry_up m' c, h4, h5, h6, h8, h11, h13]
-- ==== Proof.FwdFrame.lean ====
/-
  The printed gate and up call: its text is the idealized program's own, so its frame is that program's run read at the machine's floats.
-/
module

public import proofs.«01_k».proof.Proof.FwdRun
public import proofs.«01_k».proof.Proof.Gen.Fwd
public import proofs.«01_k».proof.Defs

@[expose] public section

set_option maxRecDepth 16384

noncomputable section

namespace Cert.Fwd.Named

open Idealize.ShloMosaic Idealize.ShloMosaic.TcCoe

set_option maxHeartbeats 4000000

/-- The kernel's body is the idealized program's. -/
theorem body_eq : @Cert.Fwd.cc0_fwd_ffn Bits _ _ = @Cert.FwdIdeal.cc0_fwd_ffn Bits _ _ := rfl

/-- The table of kernel bodies is the idealized program's. -/
theorem defs₀_eq : Cert.Fwd.defs₀ (F := Bits) = Cert.FwdIdeal.defs₀ (F := Bits) := by
  unfold Cert.Fwd.defs₀ Cert.FwdIdeal.defs₀
  congr 1
  funext l p
  fin_cases l
  rfl

/-- The body table is the idealized program's. -/
theorem defs_eq : Cert.Fwd.defs (F := Bits) = Cert.FwdIdeal.defs (F := Bits) := by
  unfold Cert.Fwd.defs Cert.FwdIdeal.defs
  rw [defs₀_eq]
  rfl

/-- The host function is the idealized program's. -/
theorem main_eq : Cert.Fwd.main (F := Bits) = Cert.FwdIdeal.main (F := Bits) := rfl

theorem quiescent : Cert.quiescent_Fwd := fun m g _ => by
  have h := Cert.FwdIdeal.Named.frame (F := Bits) m g
  rw [← defs_eq, ← main_eq] at h
  exact h

end Cert.Fwd.Named
-- ==== Proof.BwdRuns.lean ====
/-
  What the runs of the feed-forward gradients share: the arrays at the launch, the blocks the windows hold, and the conditions on the
  grid coordinate.
-/
module

public import proofs.«01_k».proof.Proof.Gen.BwdIdeal.Launch
public import proofs.«01_k».proof.Proof.Gen.BwdIdeal.Skeleton
public import proofs.«01_k».proof.Proof.Gen.BwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BwdIdeal.Named

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

abbrev cond0_1 (i : grid0.Coords) : Prop := k0_cond2 i = 1#1
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl

abbrev VO0_20 : View sig .tc .vmem S256x512 .f32 := (Memref.whole cc0_stg20_0 : Memref sig .tc .vmem S256x512 .f32).view
abbrev VO0_21 : View sig .tc .vmem S256x512 .f32 := (Memref.whole cc0_stg21_0 : Memref sig .tc .vmem S256x512 .f32).view
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S32x112 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4096x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x512 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x112 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1536x512 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1536x112 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1536x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1536x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1536x256 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1536x256 .bf16 := win0_23.stage (cfg0.slots t 23)
abbrev hs0_23 (t : Fin cfg0.N) : (ms0_23 t).IsWhole := hstage0_23 ((cfg0.slots t 23).cast nbuf0_23)
abbrev scM0_0 : Memref sig .tc .vmem S4096x512 .bf16 := Memref.whole cc0_scratch0
abbrev scM0_1 : Memref sig .tc .vmem S1536x512 .bf16 := Memref.whole cc0_scratch1
abbrev scM0_2 : Memref sig .tc .vmem S1536x512 .bf16 := Memref.whole cc0_scratch2
abbrev scM0_3 : Memref sig .tc .vmem S1536x256 .f32 := Memref.whole cc0_scratch3
abbrev scM0_4 : Memref sig .tc .vmem S1536x256 .f32 := Memref.whole cc0_scratch4
abbrev VS0_3 : View sig .tc .vmem S1536x256 .f32 := scM0_3.view
abbrev VS0_4 : View sig .tc .vmem S1536x256 .f32 := scM0_4.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.BwdIdeal.Named

end
-- ==== Proof.BwdRunA.lean ====
/-
  The run of the body at the first grid point.
-/
module

public import proofs.«01_k».proof.Proof.BwdRuns

@[expose] public section

set_option maxRecDepth 16384

noncomputable section

namespace Cert.BwdIdeal.Named

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 6124000 in
noncomputable def kernelRun0_A (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : cond0_0 i) (hc1 : ¬cond0_1 i)
    (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16) :
    Σ' (L20 : List (View.Piece (Elt F) S256x512 .f32)), Σ' (L21 : List (View.Piece (Elt F) S256x512 .f32)), Σ' (LS3 : List (View.Piece (Elt F) S1536x256 .f32)), Σ' (LS4 : List (View.Piece (Elt F) S1536x256 .f32)), Σ' (LT0 : List (View.Piece (Elt F) S4096x512 .bf16)), Σ' (LT1 : List (View.Piece (Elt F) S1536x512 .bf16)), { LT2 : List (View.Piece (Elt F) S1536x512 .bf16) //
      ∀ (E : Set ℕ) (K : PUnit → sProp (MT nD τ sig Unit (Elt F) ℕ (UR sig nD τ) ℕ)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ f, a21.view.loc (c : Thread nD τ) ↦[a21.view.set]{fullShare} a21.view.writes (Elt F) f L20) ∗ (∃ f, a22.view.loc (c : Thread nD τ) ↦[a22.view.set]{fullShare} a22.view.writes (Elt F) f L21) ∗ (∃ d, owns (c : Thread nD τ) a23 fullShare d) ∗ (∃ d, owns (c : Thread nD τ) a24 fullShare d) ∗ (∃ f, a25.view.loc (c : Thread nD τ) ↦[a25.view.set]{fullShare} a25.view.writes (Elt F) f LT0) ∗ (∃ f, a26.view.loc (c : Thread nD τ) ↦[a26.view.set]{fullShare} a26.view.writes (Elt F) f LT1) ∗ (∃ f, a27.view.loc (c : Thread nD τ) ↦[a27.view.set]{fullShare} a27.view.writes (Elt F) f LT2) ∗ (∃ f, a28.view.loc (c : Thread nD τ) ↦[a28.view.set]{fullShare} a28.view.writes (Elt F) f LS3) ∗ (∃ f, a29.view.loc (c : Thread nD τ) ↦[a29.view.set]{fullShare} a29.view.writes (Elt F) f LS4)) -∗ K ⟨⟩))
          ⊢ wp frame (wpE (defs₀ (F := F)) Variants.none c none) E (cc0_bwd_ffn i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29) K } := by
  refine ⟨?_, ?_, ?_, ?_, ?_, ?_, ?_, fun E K => ?run⟩
  case run =>
    simp only [cc0_bwd_ffn_eq_skeleton]; unfold cc0_bwd_ffn_skel
    simp only [k0_part119_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part120_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w11.eq_unread hf10; obtain rfl := w12.eq_unread hf11; obtain rfl := w13.eq_unread hf12; obtain rfl := w14.eq_unread hf13
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]
    · iexists _; isplitr; · ipureintro; exact w11.read_unread _
      iexact H10
    isplitl [H11]
    · iexists _; isplitr; · ipureintro; exact w12.read_unread _
      iexact H11
    isplitl [H12]
    · iexists _; isplitr; · ipureintro; exact w13.read_unread _
      iexact H12
    isplitl [H13]
    · iexists _; isplitr; · ipureintro; exact w14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]; · iexists _; iexact H20
    isplitl [H21]; · iexists _; iexact H21
    isplitl [H22]
    · iexists _, _; isplitr; swap; · iexact H22
      ipureintro; rfl
    isplitl [H23]
    · iexists _, _; isplitr; swap; · iexact H23
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.BwdIdeal.Named

end
-- ==== Proof.BwdRunB.lean ====
/-
  The run of the body at a grid point that is neither the first nor the last.
-/
module

public import proofs.«01_k».proof.Proof.BwdRuns

@[expose] public section

set_option maxRecDepth 16384

noncomputable section

namespace Cert.BwdIdeal.Named

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 6100000 in
noncomputable def kernelRun0_B (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : ¬cond0_0 i) (hc1 : ¬cond0_1 i)
    (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16) (xs3 : Vec F S1536x256 .f32) (xs4 : Vec F S1536x256 .f32) :
    Σ' (L20 : List (View.Piece (Elt F) S256x512 .f32)), Σ' (L21 : List (View.Piece (Elt F) S256x512 .f32)), Σ' (LS3 : List (View.Piece (Elt F) S1536x256 .f32)), Σ' (LS4 : List (View.Piece (Elt F) S1536x256 .f32)), Σ' (LT0 : List (View.Piece (Elt F) S4096x512 .bf16)), Σ' (LT1 : List (View.Piece (Elt F) S1536x512 .bf16)), { LT2 : List (View.Piece (Elt F) S1536x512 .bf16) //
      ∀ (E : Set ℕ) (K : PUnit → sProp (MT nD τ sig Unit (Elt F) ℕ (UR sig nD τ) ℕ)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ owns (c : Thread nD τ) a28 fullShare xs3 ∗ owns (c : Thread nD τ) a29 fullShare xs4
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ f, a21.view.loc (c : Thread nD τ) ↦[a21.view.set]{fullShare} a21.view.writes (Elt F) f L20) ∗ (∃ f, a22.view.loc (c : Thread nD τ) ↦[a22.view.set]{fullShare} a22.view.writes (Elt F) f L21) ∗ (∃ d, owns (c : Thread nD τ) a23 fullShare d) ∗ (∃ d, owns (c : Thread nD τ) a24 fullShare d) ∗ (∃ f, a25.view.loc (c : Thread nD τ) ↦[a25.view.set]{fullShare} a25.view.writes (Elt F) f LT0) ∗ (∃ f, a26.view.loc (c : Thread nD τ) ↦[a26.view.set]{fullShare} a26.view.writes (Elt F) f LT1) ∗ (∃ f, a27.view.loc (c : Thread nD τ) ↦[a27.view.set]{fullShare} a27.view.writes (Elt F) f LT2) ∗ (∃ f, a28.view.loc (c : Thread nD τ) ↦[a28.view.set]{fullShare} a28.view.writes (Elt F) f LS3) ∗ (∃ f, a29.view.loc (c : Thread nD τ) ↦[a29.view.set]{fullShare} a29.view.writes (Elt F) f LS4)) -∗ K ⟨⟩))
          ⊢ wp frame (wpE (defs₀ (F := F)) Variants.none c none) E (cc0_bwd_ffn i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29) K } := by
  refine ⟨?_, ?_, ?_, ?_, ?_, ?_, ?_, fun E K => ?run⟩
  case run =>
    simp only [cc0_bwd_ffn_eq_skeleton]; unfold cc0_bwd_ffn_skel
    simp only [k0_part119_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part120_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w11.eq_unread hf10; obtain rfl := w12.eq_unread hf11; obtain rfl := w13.eq_unread hf12; obtain rfl := w14.eq_unread hf13; obtain rfl := w28.eq_unread hfs3; obtain rfl := w29.eq_unread hfs4
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]
    · iexists _; isplitr; · ipureintro; exact w11.read_unread _
      iexact H10
    isplitl [H11]
    · iexists _; isplitr; · ipureintro; exact w12.read_unread _
      iexact H11
    isplitl [H12]
    · iexists _; isplitr; · ipureintro; exact w13.read_unread _
      iexact H12
    isplitl [H13]
    · iexists _; isplitr; · ipureintro; exact w14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]; · iexists _; iexact H20
    isplitl [H21]; · iexists _; iexact H21
    isplitl [H22]
    · iexists _, _; isplitr; swap; · iexact H22
      ipureintro; rfl
    isplitl [H23]
    · iexists _, _; isplitr; swap; · iexact H23
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.BwdIdeal.Named

end
-- ==== Proof.BwdRunC.lean ====
/-
  The run of the body at the last grid point.
-/
module

public import proofs.«01_k».proof.Proof.BwdRuns

@[expose] public section

set_option maxRecDepth 16384

noncomputable section

namespace Cert.BwdIdeal.Named

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 6212000 in
noncomputable def kernelRun0_C (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : ¬cond0_0 i) (hc1 : cond0_1 i)
    (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16) (xs3 : Vec F S1536x256 .f32) (xs4 : Vec F S1536x256 .f32) :
    Σ' (L20 : List (View.Piece (Elt F) S256x512 .f32)), Σ' (L21 : List (View.Piece (Elt F) S256x512 .f32)), Σ' (LS3 : List (View.Piece (Elt F) S1536x256 .f32)), Σ' (LS4 : List (View.Piece (Elt F) S1536x256 .f32)), Σ' (LT0 : List (View.Piece (Elt F) S4096x512 .bf16)), Σ' (LT1 : List (View.Piece (Elt F) S1536x512 .bf16)), { LT2 : List (View.Piece (Elt F) S1536x512 .bf16) //
      ∀ (E : Set ℕ) (K : PUnit → sProp (MT nD τ sig Unit (Elt F) ℕ (UR sig nD τ) ℕ)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ owns (c : Thread nD τ) a28 fullShare xs3 ∗ owns (c : Thread nD τ) a29 fullShare xs4
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ f, a21.view.loc (c : Thread nD τ) ↦[a21.view.set]{fullShare} a21.view.writes (Elt F) f L20) ∗ (∃ f, a22.view.loc (c : Thread nD τ) ↦[a22.view.set]{fullShare} a22.view.writes (Elt F) f L21) ∗ (∃ d, owns (c : Thread nD τ) a23 fullShare d) ∗ (∃ d, owns (c : Thread nD τ) a24 fullShare d) ∗ (∃ f, a25.view.loc (c : Thread nD τ) ↦[a25.view.set]{fullShare} a25.view.writes (Elt F) f LT0) ∗ (∃ f, a26.view.loc (c : Thread nD τ) ↦[a26.view.set]{fullShare} a26.view.writes (Elt F) f LT1) ∗ (∃ f, a27.view.loc (c : Thread nD τ) ↦[a27.view.set]{fullShare} a27.view.writes (Elt F) f LT2) ∗ (∃ f, a28.view.loc (c : Thread nD τ) ↦[a28.view.set]{fullShare} a28.view.writes (Elt F) f LS3) ∗ (∃ f, a29.view.loc (c : Thread nD τ) ↦[a29.view.set]{fullShare} a29.view.writes (Elt F) f LS4)) -∗ K ⟨⟩))
          ⊢ wp frame (wpE (defs₀ (F := F)) Variants.none c none) E (cc0_bwd_ffn i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29) K } := by
  refine ⟨?_, ?_, ?_, ?_, ?_, ?_, ?_, fun E K => ?run⟩
  case run =>
    simp only [cc0_bwd_ffn_eq_skeleton]; unfold cc0_bwd_ffn_skel
    simp only [k0_part119_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part120_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w11.eq_unread hf10; obtain rfl := w12.eq_unread hf11; obtain rfl := w13.eq_unread hf12; obtain rfl := w14.eq_unread hf13; obtain rfl := w28.eq_unread hfs3; obtain rfl := w29.eq_unread hfs4
    sl_exec (disch := first | sl_exact hc0 | sl_exact hc1)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]
    · iexists _; isplitr; · ipureintro; exact w11.read_unread _
      iexact H10
    isplitl [H11]
    · iexists _; isplitr; · ipureintro; exact w12.read_unread _
      iexact H11
    isplitl [H12]
    · iexists _; isplitr; · ipureintro; exact w13.read_unread _
      iexact H12
    isplitl [H13]
    · iexists _; isplitr; · ipureintro; exact w14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]; · iexists _; iexact H20
    isplitl [H21]; · iexists _; iexact H21
    isplitl [H22]
    · iexists _, _; isplitr; swap; · iexact H22
      ipureintro; rfl
    isplitl [H23]
    · iexists _, _; isplitr; swap; · iexact H23
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.BwdIdeal.Named

end
-- ==== Proof.BwdRun.lean ====
/-
  The run of the call with its adapter gradients named; nothing is stated of the other six outputs.
-/
module

public import proofs.«01_k».proof.Proof.BwdRunA
public import proofs.«01_k».proof.Proof.BwdRunB
public import proofs.«01_k».proof.Proof.BwdRunC
public import Idealize.ShloMosaic.Lib.Claim

@[expose] public section

set_option maxRecDepth 16384

noncomputable section

namespace Cert.BwdIdeal.Named

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
section A
variable (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : cond0_0 i) (hc1 : ¬cond0_1 i)
  (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16)

theorem cover0_A_20 (y : S256x512.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).1, y ∈ pc.1.set :=
  View.cover_of_tiledL _ S256x512.size (by sl_kernel_rfl) y

def out0_A_20 : Vec F S256x512 .f32 :=
  VO0_20.read (Elt F) (VO0_20.writes (Elt F) VO0_20.junk (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).1)

theorem cover0_A_21 (y : S256x512.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.1, y ∈ pc.1.set :=
  View.cover_of_tiledL _ S256x512.size (by sl_kernel_rfl) y

def out0_A_21 : Vec F S256x512 .f32 :=
  VO0_21.read (Elt F) (VO0_21.writes (Elt F) VO0_21.junk (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.1)

theorem scover0_A_3 (y : S1536x256.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.2.1, y ∈ pc.1.set :=
  View.cover_of_tiledL _ S1536x256.size (by sl_kernel_rfl) y

def sout0_A_3 : Vec F S1536x256 .f32 :=
  VS0_3.read (Elt F) (VS0_3.writes (Elt F) VS0_3.junk (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.2.1)

theorem scover0_A_4 (y : S1536x256.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.2.2.1, y ∈ pc.1.set :=
  View.cover_of_tiledL _ S1536x256.size (by sl_kernel_rfl) y

def sout0_A_4 : Vec F S1536x256 .f32 :=
  VS0_4.read (Elt F) (VS0_4.writes (Elt F) VS0_4.junk (kernelRun0_A c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13).2.2.2.1)

end A

section B
variable (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : ¬cond0_0 i) (hc1 : ¬cond0_1 i)
  (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16) (xs3 : Vec F S1536x256 .f32) (xs4 : Vec F S1536x256 .f32)

theorem cover0_B_20 (y : S256x512.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).1, y ∈ pc.1.set :=
  View.cover_of_tiledL _ S256x512.size (by sl_kernel_rfl) y

def out0_B_20 : Vec F S256x512 .f32 :=
  VO0_20.read (Elt F) (VO0_20.writes (Elt F) VO0_20.junk (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).1)

theorem cover0_B_21 (y : S256x512.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.1, y ∈ pc.1.set :=
  View.cover_of_tiledL _ S256x512.size (by sl_kernel_rfl) y

def out0_B_21 : Vec F S256x512 .f32 :=
  VO0_21.read (Elt F) (VO0_21.writes (Elt F) VO0_21.junk (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.1)

theorem scover0_B_3 (y : S1536x256.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.1, y ∈ pc.1.set :=
  View.cover_of_tiledL _ S1536x256.size (by sl_kernel_rfl) y

def sout0_B_3 : Vec F S1536x256 .f32 :=
  VS0_3.read (Elt F) (VS0_3.writes (Elt F) VS0_3.junk (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.1)

theorem scover0_B_4 (y : S1536x256.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.2.1, y ∈ pc.1.set :=
  View.cover_of_tiledL _ S1536x256.size (by sl_kernel_rfl) y

def sout0_B_4 : Vec F S1536x256 .f32 :=
  VS0_4.read (Elt F) (VS0_4.writes (Elt F) VS0_4.junk (kernelRun0_B c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.2.1)

end B

section C
variable (c : Dev nD) (i : grid0.Coords) (a1 : Memref sig .tc .smem S4 .f32) (w1 : a1.IsWhole) (a2 : Memref sig .tc .smem S4 .i32) (w2 : a2.IsWhole) (a3 : Memref sig .tc .smem S5 .i32) (w3 : a3.IsWhole) (a4 : Memref sig .tc .smem S32x112 .f32) (w4 : a4.IsWhole) (a5 : Memref sig .tc .vmem S1536x4096 .bf16) (w5 : a5.IsWhole) (a6 : Memref sig .tc .vmem S1536x256 .bf16) (w6 : a6.IsWhole) (a7 : Memref sig .tc .vmem S256x1536 .bf16) (w7 : a7.IsWhole) (a8 : Memref sig .tc .vmem S256x1536 .bf16) (w8 : a8.IsWhole) (a9 : Memref sig .tc .vmem S1536x512 .bf16) (w9 : a9.IsWhole) (a10 : Memref sig .tc .vmem S1536x512 .bf16) (w10 : a10.IsWhole) (a11 : Memref sig .tc .vmem S4096x512 .fp8e4m3) (w11 : a11.IsWhole) (a12 : Memref sig .tc .vmem S256x512 .bf16) (w12 : a12.IsWhole) (a13 : Memref sig .tc .vmem S256x512 .bf16) (w13 : a13.IsWhole) (a14 : Memref sig .tc .vmem S256x512 .bf16) (w14 : a14.IsWhole) (a15 : Memref sig .tc .vmem S1536x512 .fp8e4m3) (w15 : a15.IsWhole) (a16 : Memref sig .tc .vmem S1536x112 .f32) (w16 : a16.IsWhole) (a17 : Memref sig .tc .vmem S1536x512 .fp8e4m3) (w17 : a17.IsWhole) (a18 : Memref sig .tc .vmem S1536x112 .f32) (w18 : a18.IsWhole) (a19 : Memref sig .tc .vmem S1536x512 .bf16) (w19 : a19.IsWhole) (a20 : Memref sig .tc .vmem S1536x512 .bf16) (w20 : a20.IsWhole) (a21 : Memref sig .tc .vmem S256x512 .f32) (w21 : a21.IsWhole) (a22 : Memref sig .tc .vmem S256x512 .f32) (w22 : a22.IsWhole) (a23 : Memref sig .tc .vmem S1536x256 .bf16) (w23 : a23.IsWhole) (a24 : Memref sig .tc .vmem S1536x256 .bf16) (w24 : a24.IsWhole) (a25 : Memref sig .tc .vmem S4096x512 .bf16) (w25 : a25.IsWhole) (a26 : Memref sig .tc .vmem S1536x512 .bf16) (w26 : a26.IsWhole) (a27 : Memref sig .tc .vmem S1536x512 .bf16) (w27 : a27.IsWhole) (a28 : Memref sig .tc .vmem S1536x256 .f32) (w28 : a28.IsWhole) (a29 : Memref sig .tc .vmem S1536x256 .f32) (w29 : a29.IsWhole) (hc0 : ¬cond0_0 i) (hc1 : cond0_1 i)
  (x0 : Vec F S4 .f32) (x1 : Vec F S4 .i32) (x2 : Vec F S5 .i32) (x3 : Vec F S32x112 .f32) (x4 : Vec F S1536x4096 .bf16) (x5 : Vec F S1536x256 .bf16) (x6 : Vec F S256x1536 .bf16) (x7 : Vec F S256x1536 .bf16) (x8 : Vec F S1536x512 .bf16) (x9 : Vec F S1536x512 .bf16) (x10 : Vec F S4096x512 .fp8e4m3) (x11 : Vec F S256x512 .bf16) (x12 : Vec F S256x512 .bf16) (x13 : Vec F S256x512 .bf16) (xs3 : Vec F S1536x256 .f32) (xs4 : Vec F S1536x256 .f32)

theorem cover0_C_20 (y : S256x512.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).1, y ∈ pc.1.set :=
  View.cover_of_tiledL _ S256x512.size (by sl_kernel_rfl) y

def out0_C_20 : Vec F S256x512 .f32 :=
  VO0_20.read (Elt F) (VO0_20.writes (Elt F) VO0_20.junk (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).1)

theorem cover0_C_21 (y : S256x512.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.1, y ∈ pc.1.set :=
  View.cover_of_tiledL _ S256x512.size (by sl_kernel_rfl) y

def out0_C_21 : Vec F S256x512 .f32 :=
  VO0_21.read (Elt F) (VO0_21.writes (Elt F) VO0_21.junk (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.1)

theorem scover0_C_3 (y : S1536x256.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.1, y ∈ pc.1.set :=
  View.cover_of_tiledL _ S1536x256.size (by sl_kernel_rfl) y

def sout0_C_3 : Vec F S1536x256 .f32 :=
  VS0_3.read (Elt F) (VS0_3.writes (Elt F) VS0_3.junk (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.1)

theorem scover0_C_4 (y : S1536x256.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.2.1, y ∈ pc.1.set :=
  View.cover_of_tiledL _ S1536x256.size (by sl_kernel_rfl) y

def sout0_C_4 : Vec F S1536x256 .f32 :=
  VS0_4.read (Elt F) (VS0_4.writes (Elt F) VS0_4.junk (kernelRun0_C c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28 a29 w29 hc0 hc1 x0 x1 x2 x3 x4 x5 x6 x7 x8 x9 x10 x11 x12 x13 xs3 xs4).2.2.2.1)

end C

def outsA (c : Dev nD) (t : Fin cfg0.N) (h0 : t.val % 28 = 0) (h1 : ¬t.val % 28 = 27) :
    Vec F S256x512 .f32 × Vec F S256x512 .f32 × Vec F S1536x256 .f32 × Vec F S1536x256 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

def outsB (c : Dev nD) (t : Fin cfg0.N) (h0 : ¬t.val % 28 = 0) (h1 : ¬t.val % 28 = 27) (xs3 xs4 : Vec F S1536x256 .f32) :
    Vec F S256x512 .f32 × Vec F S256x512 .f32 × Vec F S1536x256 .f32 × Vec F S1536x256 .f32 :=
  (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4)

def outsC (c : Dev nD) (t : Fin cfg0.N) (h0 : ¬t.val % 28 = 0) (h1 : t.val % 28 = 27) (xs3 xs4 : Vec F S1536x256 .f32) :
    Vec F S256x512 .f32 × Vec F S256x512 .f32 × Vec F S1536x256 .f32 × Vec F S1536x256 .f32 :=
  (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs3 xs4)

def outsAt0 (c : Dev nD) : (n : ℕ) → n < cfg0.N → Vec F S256x512 .f32 × Vec F S256x512 .f32 × Vec F S1536x256 .f32 × Vec F S1536x256 .f32
  | 0, hn => outsA m c ⟨0, hn⟩ (Nat.zero_mod _) (fun h => by (try dsimp only at h); omega)
  | n + 1, hn =>
    if h0 : (n + 1) % 28 = 0 then
      if h1 : (n + 1) % 28 = 27 then
        False.elim (by have hN : n + 1 < 28 := lt_of_lt_of_eq hn (show cfg0.N = 28 from N_0); omega)
      else
        outsA m c ⟨n + 1, hn⟩ h0 h1
    else
      if h1 : (n + 1) % 28 = 27 then
        outsC m c ⟨n + 1, hn⟩ h0 h1 (outsAt0 c n (Nat.lt_of_succ_lt hn)).2.2.1 (outsAt0 c n (Nat.lt_of_succ_lt hn)).2.2.2
      else
        outsB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 28 = 0) (h1 : ¬t.val % 28 = 27) :
    outsAt0 m c t.val t.isLt = outsA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 28 = 0) (h1 : ¬t.val % 28 = 27) :
    outsAt0 m c t.val t.isLt = outsB m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 28 = 0) (h1 : t.val % 28 = 27) :
    outsAt0 m c t.val t.isLt = outsC m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2)) ∗ (∃ r, prngReg c r)) := by
  cases n with
  | zero => exact absurd rfl hz
  | succ n => rfl

def forgets0 : Fin 24 → Bool := fun w => w.val == 14 || w.val == 15 || w.val == 16 || w.val == 17 || w.val == 18 || w.val == 19 || w.val == 22 || w.val == 23
theorem forgets0_20 : forgets0 (20 : Fin 24) = false := by decide
theorem forgets0_21 : forgets0 (21 : Fin 24) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, _⟩ => (outsAt0 m c t.val t.isLt).1
    | ⟨21, _⟩ => (outsAt0 m c t.val t.isLt).2.1
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare d)
    ∗ (∃ d, owns (c : Thread nD τ) (ms0_23 t) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (dats m 0 c).leavesExact 20 t
    ∗ (dats m 0 c).leavesExact 21 t
    ∗ (∃ d, owns (c : Thread nD τ) (ms0_22 t) fullShare d)
    ∗ (∃ d, owns (c : Thread nD τ) (ms0_23 t) fullShare d))

set_option maxHeartbeats 33600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases h1 : t.val % 28 = 27
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      by_cases hz : t.val = 0
      · rw [PhiS_castSucc m c t, PhiS_zero m c _ _ hz, PhiA0_eq]
        rw [outsAt0_A m c t h0 h1]
        unfold outsA out0_A_20 out0_A_21 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, H19, ⟨%e20, H20⟩, ⟨%e21, H21⟩, H22, H23, ⟨%fT0, HS0⟩, ⟨%fT1, HS1⟩, ⟨%fT2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]
        · unfold owns; iexists _; isplitr
          swap; · iexact H20
          ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]; · iexact H22
        iexact H23
      · exfalso; have hN : t.val < 28 := lt_of_lt_of_eq t.isLt (show cfg0.N = 28 from N_0); omega
  · by_cases h1 : t.val % 28 = 27
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      by_cases hz : t.val = 0
      · exfalso; have hN : t.val < 28 := lt_of_lt_of_eq t.isLt (show cfg0.N = 28 from N_0); omega
      · rw [PhiS_castSucc m c t, PhiS_pos m c _ _ hz]
        rw [outsAt0_C m c t h0 h1]
        unfold outsC out0_C_20 out0_C_21 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, H19, ⟨%e20, H20⟩, ⟨%e21, H21⟩, H22, H23, ⟨%fT0, HS0⟩, ⟨%fT1, HS1⟩, ⟨%fT2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]
        · unfold owns; iexists _; isplitr
          swap; · iexact H20
          ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]; · iexact H22
        iexact H23
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      by_cases hz : t.val = 0
      · exfalso; have hN : t.val < 28 := lt_of_lt_of_eq t.isLt (show cfg0.N = 28 from N_0); omega
      · rw [PhiS_castSucc m c t, PhiS_pos m c _ _ hz]
        rw [outsAt0_B m c t h0 h1]
        unfold outsB out0_B_20 out0_B_21 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, H19, ⟨%e20, H20⟩, ⟨%e21, H21⟩, H22, H23, ⟨%fT0, HS0⟩, ⟨%fT1, HS1⟩, ⟨%fT2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]
        · unfold owns; iexists _; isplitr
          swap; · iexact H20
          ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]; · iexact H22
        iexact H23

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 28 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.BwdIdeal.Named

end
-- ==== Proof.BwdTile.lean ====
/-
  The tiles the feed-forward gradients' body stores: a dequantised weight tile, and a tile of the gate's or the up projection's gradient.
-/
module

public import proofs.«01_k».proof.Proof.Gen.BwdIdeal.Skeleton
public import proofs.«01_k».proof.Proof.Tiles

@[expose] public section

set_option maxRecDepth 16384

noncomputable section

namespace Cert.BwdIdeal.Val

open Cert.BwdIdeal Cert.BwdIdeal.Gen Idealize.ShloMosaic Idealize.ShloMosaic.TcCoe Cert.Tiles

/-- The tile of a weight block at row `a` and column `b` of tiles, read and scaled by the body. -/
theorem piece {mr : Memref sig .tc .smem S32x112 .f32} (hmr : mr.IsWhole) {mw : Memref sig .tc .vmem S4096x512 .fp8e4m3} (hmw : mw.IsWhole)
    (i : grid0.Coords) (sc : Vec Ideal S32x112 .f32) (w : Vec Ideal S4096x512 .fp8e4m3) (a : Fin 32) (b : Fin 4) (off : Fin 2 → ℕ)
    (hoff : off = ![a.val, 4 * (i 0).val + b.val]) (inbs inb h) (x : S128x128.Idx) :
    tile bitsLt_fp8e4m3_bf16 bitsLt_bf16_f32 shapeCasts_S128x128_S128x128
        (View.readAt (Elt Ideal) mr.view (Rect.unit (s := S32x112) off S1x1.size inbs).toLoadRect (hmr.unread sc) (Shape.Idx.first h))
        (View.readAt (Elt Ideal) mw.view (Rect.unit (s := S4096x512) ![128 * a.val, 128 * b.val] S128x128.size inb).toLoadRect (hmw.unread w)) x
      = deq sc w 0 (4 * (i 0).val) ((Rect.unit (s := S4096x512) ![128 * a.val, 128 * b.val] S128x128.size inb).emb x) := by
  have hi0 : (i 0).val < 28 := (i 0).isLt
  subst hoff
  refine tile_eq_deq sc w 0 (4 * (i 0).val) a b _ _ _ _ _ inb (fun h' => ?_) (by omega) (by omega) (fun x => ?_) x
  · rw [hmr.readAt_unread]
    congr 1
    funext ax
    apply Fin.ext
    fin_cases ax
    · show a.val + 1 * 0 = 0 + a.val
      omega
    · rfl
  · rw [hmw.readAt_unread]; rfl

/-- The gradient of the activations in one row: the products with the weight's column, plus the adapter's. -/
def dact (yd : Vec Ideal S1536x4096 .bf16) (zd : Vec Ideal S1536x256 .bf16) (w : Fin 4096 → EReal) (a : Fin 256 → EReal) (t : Fin 1536) : EReal :=
  (∑ k : Fin 4096, (yd (ix2 t k) : EReal) * w k) + ∑ r : Fin 256, (zd (ix2 t r) : EReal) * a r

/-- The gate's gradient from the activation's. -/
def gateGrad (da g u : EReal) : EReal := da * u * Ideal.logistic g * (1 + g * (1 - Ideal.logistic g))

/-- The up projection's gradient from the activation's. -/
def upGrad (da g : EReal) : EReal := da * g * Ideal.logistic g

/-- A block of the gate's gradient. -/
def gateBlock (yd : Vec Ideal S1536x4096 .bf16) (zd : Vec Ideal S1536x256 .bf16) (w : Vec Ideal S4096x512 .bf16) (ad : Vec Ideal S256x512 .bf16)
    (g u : Vec Ideal S1536x512 .bf16) : Vec Ideal S1536x512 .bf16 := fun y =>
  gateGrad (dact yd zd (fun k => w (ix2 k (y 1))) (fun r => ad (ix2 r (y 1))) (y 0)) (g y) (u y)

/-- A block of the up projection's gradient. -/
def upBlock (yd : Vec Ideal S1536x4096 .bf16) (zd : Vec Ideal S1536x256 .bf16) (w : Vec Ideal S4096x512 .bf16) (ad : Vec Ideal S256x512 .bf16)
    (g : Vec Ideal S1536x512 .bf16) : Vec Ideal S1536x512 .bf16 := fun y =>
  upGrad (dact yd zd (fun k => w (ix2 k (y 1))) (fun r => ad (ix2 r (y 1))) (y 0)) (g y)

/-- One entry of an adapter's gradient: its job's alpha times the products of the adapter's outputs with a gradient's column. -/
def adapter (al : Vec Ideal S4 .f32) (zt : Vec Ideal S256x1536 .bf16) (col : Fin 1536 → EReal) (i : Fin 256) : EReal :=
  (al (ix1 ⟨i.val / 64, Nat.div_lt_of_lt_mul i.isLt⟩) : EReal) * ∑ t : Fin 1536, (zt (ix2 i t) : EReal) * col t

/-- The whole gradient of the gate's adapter. -/
def gateTotal (al : Vec Ideal S4 .f32) (sc : Vec Ideal S32x112 .f32) (yd : Vec Ideal S1536x4096 .bf16) (zd : Vec Ideal S1536x256 .bf16)
    (zt : Vec Ideal S256x1536 .bf16) (g u : Vec Ideal S1536x14336 .bf16) (wc : Vec Ideal S4096x14336 .fp8e4m3) (ad : Vec Ideal S256x14336 .bf16) :
    Vec Ideal S256x14336 .f32 := fun y =>
  adapter al zt (fun t => gateGrad (dact yd zd (fun k => deq sc wc 0 0 (ix2 k (y 1))) (fun r => ad (ix2 r (y 1))) t) (g (ix2 t (y 1))) (u (ix2 t (y 1)))) (y 0)

/-- The whole gradient of the up projection's adapter. -/
def upTotal (al : Vec Ideal S4 .f32) (sc : Vec Ideal S32x112 .f32) (yd : Vec Ideal S1536x4096 .bf16) (zd : Vec Ideal S1536x256 .bf16)
    (zt : Vec Ideal S256x1536 .bf16) (g : Vec Ideal S1536x14336 .bf16) (wc : Vec Ideal S4096x14336 .fp8e4m3) (ad : Vec Ideal S256x14336 .bf16) :
    Vec Ideal S256x14336 .f32 := fun y =>
  adapter al zt (fun t => upGrad (dact yd zd (fun k => deq sc wc 0 0 (ix2 k (y 1))) (fun r => ad (ix2 r (y 1))) t) (g (ix2 t (y 1)))) (y 0)

/-- The activations' gradient of a row block, as the body spells it. -/
def dactTile (p : FVec Ideal S512x4096 .bf16) (q : FVec Ideal S4096x256 .bf16) (z : FVec Ideal S512x256 .bf16) (b : FVec Ideal S256x256 .bf16) : FVec Ideal S512x256 .f32 :=
  addf (matmul dot_S512x4096_S4096x256_S512x256_1_0_0_1_n_n none p q (constant (F := Ideal) S512x256 .f32 0x00000000#32))
    (matmul dot_S512x256_S256x256_S512x256_1_0_0_1_n_n none z (shapeCast S256x256 b shapeCasts_S256x256_S256x256) (constant (F := Ideal) S512x256 .f32 0x00000000#32))

theorem dactTile_apply (p : FVec Ideal S512x4096 .bf16) (q : FVec Ideal S4096x256 .bf16) (z : FVec Ideal S512x256 .bf16) (b : FVec Ideal S256x256 .bf16) (x : S512x256.Idx) :
    (dactTile p q z b x : EReal) = (∑ k : Fin 4096, (p (ix2 (x 0) k) : EReal) * q (ix2 k (x 1))) + ∑ r : Fin 256, (z (ix2 (x 0) r) : EReal) * b (ix2 r (x 1)) := by
  pointwise [dactTile]

/-- The logistic function, as the body spells it. -/
def sigTile (g : FVec Ideal S512x128 .bf16) : FVec Ideal S512x128 .f32 :=
  divf (broadcast S512x128 (Scalar.ofBits (F := Ideal) .f32 0x3F800000#32)) (addf (broadcast S512x128 (Scalar.ofBits (F := Ideal) .f32 0x3F800000#32))
    (exp (subf (broadcast S512x128 (Scalar.ofBits (F := Ideal) .f32 0x00000000#32)) (extf .f32 g bitsLt_bf16_f32))))

theorem sigTile_apply (g : FVec Ideal S512x128 .bf16) (x : S512x128.Idx) : (sigTile g x : EReal) = Ideal.logistic (g x) := by
  pointwise [sigTile, Ideal.logistic]
  exact congrArg (fun z : EReal => Ideal.div 1 (1 + Ideal.exp z)) (zero_sub _)

/-- A tile of the gate's gradient, as the body spells it. -/
def gateTile (n : ℕ) (h : S512x256.Slices ![0, n] S512x128) (da : FVec Ideal S512x256 .f32) (g u : FVec Ideal S512x128 .bf16) : FVec Ideal S512x128 .bf16 :=
  shapeCast S512x128 (truncf .bf16 (mulf (mulf (mulf (extractStridedSlice S512x128 ![0, n] da h) (extf .f32 u bitsLt_bf16_f32)) (sigTile g))
    (addf (broadcast S512x128 (Scalar.ofBits (F := Ideal) .f32 0x3F800000#32)) (mulf (extf .f32 g bitsLt_bf16_f32)
      (subf (broadcast S512x128 (Scalar.ofBits (F := Ideal) .f32 0x3F800000#32)) (sigTile g))))) bitsLt_bf16_f32) shapeCasts_S512x128_S512x128

theorem gateTile_apply (n : ℕ) (hn : n + 128 ≤ 256) (h) (da : FVec Ideal S512x256 .f32) (g u : FVec Ideal S512x128 .bf16) (x : S512x128.Idx) :
    (gateTile n h da g u x : EReal) = gateGrad (da (ix2 (x 0) ⟨n + (x 1).val, lt_of_lt_of_le (Nat.add_lt_add_left (x 1).isLt n) hn⟩)) (g x) (u x) := by
  unfold gateGrad
  rw [← sigTile_apply]
  pointwise [gateTile]

/-- A tile of the up projection's gradient, as the body spells it. -/
def upTile (n : ℕ) (h : S512x256.Slices ![0, n] S512x128) (da : FVec Ideal S512x256 .f32) (g : FVec Ideal S512x128 .bf16) : FVec Ideal S512x128 .bf16 :=
  shapeCast S512x128 (truncf .bf16 (mulf (mulf (extractStridedSlice S512x128 ![0, n] da h) (extf .f32 g bitsLt_bf16_f32)) (sigTile g)) bitsLt_bf16_f32) shapeCasts_S512x128_S512x128

theorem upTile_apply (n : ℕ) (hn : n + 128 ≤ 256) (h) (da : FVec Ideal S512x256 .f32) (g : FVec Ideal S512x128 .bf16) (x : S512x128.Idx) :
    (upTile n h da g x : EReal) = upGrad (da (ix2 (x 0) ⟨n + (x 1).val, lt_of_lt_of_le (Nat.add_lt_add_left (x 1).isLt n) hn⟩)) (g x) := by
  unfold upGrad
  rw [← sigTile_apply]
  pointwise [upTile]

/-- The activations' gradient of a row block, read by the body from its buffers, is the gradient in its rows and columns. -/
theorem dact_read {m5 : Memref sig .tc .vmem S1536x4096 .bf16} (hm5 : m5.IsWhole) {m6 : Memref sig .tc .vmem S1536x256 .bf16} (hm6 : m6.IsWhole)
    {m14 : Memref sig .tc .vmem S256x512 .bf16} (hm14 : m14.IsWhole)
    (v1 : View sig .tc .vmem S4096x512 .bf16) (L1 : List (View.Piece (Elt Ideal) S4096x512 .bf16)) (w : Vec Ideal S4096x512 .bf16) (h1 : View.canon L1 = w)
    (yd : Vec Ideal S1536x4096 .bf16) (zd : Vec Ideal S1536x256 .bf16) (ad : Vec Ideal S256x512 .bf16)
    (a : Fin 3) (g : Fin 2) (inb5 inb6 inb14 inbw) (x : S512x256.Idx) (t : Fin 1536) (j : Fin 512) (ht : t.val = 512 * a.val + (x 0).val) (hj : j.val = 256 * g.val + (x 1).val) :
    (dactTile (View.readAt (Elt Ideal) m5.view (Rect.unit (s := S1536x4096) ![512 * a.val, 0] S512x4096.size inb5).toLoadRect (hm5.unread yd))
          (v1.readCov L1 (Rect.unit (s := S4096x512) ![0, 256 * g.val] S4096x256.size inbw).toLoadRect)
        (View.readAt (Elt Ideal) m6.view (Rect.unit (s := S1536x256) ![512 * a.val, 0] S512x256.size inb6).toLoadRect (hm6.unread zd))
          (View.readAt (Elt Ideal) m14.view (Rect.unit (s := S256x512) ![0, 256 * g.val] S256x256.size inb14).toLoadRect (hm14.unread ad)) x : EReal)
      = dact yd zd (fun k => w (ix2 k j)) (fun r => ad (ix2 r j)) t := by
  subst h1
  rw [dactTile_apply, View.readCov_eq_canon']
  simp only [hm5.readAt_unread, hm6.readAt_unread, hm14.readAt_unread]
  refine congrArg₂ (fun a b : EReal => a + b)
    (Finset.sum_congr rfl fun k _ => congrArg₂ (fun a b : EReal => a * b) (congrArg yd ?_) (congrArg (View.canon L1) ?_))
    (Finset.sum_congr rfl fun r _ => congrArg₂ (fun a b : EReal => a * b) (congrArg zd ?_) (congrArg ad ?_))
  · funext ax; apply Fin.ext; fin_cases ax
    · exact (by show 512 * a.val + 1 * (x 0).val = 512 * a.val + (x 0).val; omega : _ = 512 * a.val + (x 0).val).trans ht.symm
    · show 0 + 1 * k.val = k.val; omega
  · funext ax; apply Fin.ext; fin_cases ax
    · show 0 + 1 * k.val = k.val; omega
    · exact (by show 256 * g.val + 1 * (x 1).val = 256 * g.val + (x 1).val; omega : _ = 256 * g.val + (x 1).val).trans hj.symm
  · funext ax; apply Fin.ext; fin_cases ax
    · exact (by show 512 * a.val + 1 * (x 0).val = 512 * a.val + (x 0).val; omega : _ = 512 * a.val + (x 0).val).trans ht.symm
    · show 0 + 1 * r.val = r.val; omega
  · funext ax; apply Fin.ext; fin_cases ax
    · show 0 + 1 * r.val = r.val; omega
    · exact (by show 256 * g.val + 1 * (x 1).val = 256 * g.val + (x 1).val; omega : _ = 256 * g.val + (x 1).val).trans hj.symm

theorem piece_gate {m5 : Memref sig .tc .vmem S1536x4096 .bf16} (hm5 : m5.IsWhole) {m6 : Memref sig .tc .vmem S1536x256 .bf16} (hm6 : m6.IsWhole)
    {m14 : Memref sig .tc .vmem S256x512 .bf16} (hm14 : m14.IsWhole) {m9 : Memref sig .tc .vmem S1536x512 .bf16} (hm9 : m9.IsWhole)
    {m10 : Memref sig .tc .vmem S1536x512 .bf16} (hm10 : m10.IsWhole)
    (v1 : View sig .tc .vmem S4096x512 .bf16) (L1 : List (View.Piece (Elt Ideal) S4096x512 .bf16)) (w : Vec Ideal S4096x512 .bf16) (h1 : View.canon L1 = w)
    (yd : Vec Ideal S1536x4096 .bf16) (zd : Vec Ideal S1536x256 .bf16) (ad : Vec Ideal S256x512 .bf16) (g u : Vec Ideal S1536x512 .bf16)
    (a : Fin 3) (b s : Fin 2) (inb inb5 inb6 inb14 inbw h) (x : S512x128.Idx) :
    gateTile (128 * s.val) h
        (dactTile (View.readAt (Elt Ideal) m5.view (Rect.unit (s := S1536x4096) ![512 * a.val, 0] S512x4096.size inb5).toLoadRect (hm5.unread yd))
            (v1.readCov L1 (Rect.unit (s := S4096x512) ![0, 256 * b.val] S4096x256.size inbw).toLoadRect)
          (View.readAt (Elt Ideal) m6.view (Rect.unit (s := S1536x256) ![512 * a.val, 0] S512x256.size inb6).toLoadRect (hm6.unread zd))
            (View.readAt (Elt Ideal) m14.view (Rect.unit (s := S256x512) ![0, 256 * b.val] S256x256.size inb14).toLoadRect (hm14.unread ad)))
        (View.readAt (Elt Ideal) m9.view (Rect.unit (s := S1536x512) ![512 * a.val, 256 * b.val + 128 * s.val] S512x128.size inb).toLoadRect (hm9.unread g))
        (View.readAt (Elt Ideal) m10.view (Rect.unit (s := S1536x512) ![512 * a.val, 256 * b.val + 128 * s.val] S512x128.size inb).toLoadRect (hm10.unread u)) x
      = gateBlock yd zd w ad g u ((Rect.unit (s := S1536x512) ![512 * a.val, 256 * b.val + 128 * s.val] S512x128.size inb).emb x) := by
  have hs : s.val < 2 := s.isLt
  refine (gateTile_apply _ (by omega) _ _ _ _ x).trans ?_
  rw [dact_read hm5 hm6 hm14 v1 L1 w h1 yd zd ad a b _ _ _ _ _
    (((Rect.unit (s := S1536x512) ![512 * a.val, 256 * b.val + 128 * s.val] S512x128.size inb).emb x) 0)
    (((Rect.unit (s := S1536x512) ![512 * a.val, 256 * b.val + 128 * s.val] S512x128.size inb).emb x) 1)
    (by show 512 * a.val + 1 * (x 0).val = 512 * a.val + (x 0).val; omega)
    (by show 256 * b.val + 128 * s.val + 1 * (x 1).val = 256 * b.val + (128 * s.val + (x 1).val); omega),
    hm9.readAt_unread, hm10.readAt_unread]
  rfl

theorem piece_up {m5 : Memref sig .tc .vmem S1536x4096 .bf16} (hm5 : m5.IsWhole) {m6 : Memref sig .tc .vmem S1536x256 .bf16} (hm6 : m6.IsWhole)
    {m14 : Memref sig .tc .vmem S256x512 .bf16} (hm14 : m14.IsWhole) {m9 : Memref sig .tc .vmem S1536x512 .bf16} (hm9 : m9.IsWhole)
    (v1 : View sig .tc .vmem S4096x512 .bf16) (L1 : List (View.Piece (Elt Ideal) S4096x512 .bf16)) (w : Vec Ideal S4096x512 .bf16) (h1 : View.canon L1 = w)
    (yd : Vec Ideal S1536x4096 .bf16) (zd : Vec Ideal S1536x256 .bf16) (ad : Vec Ideal S256x512 .bf16) (g : Vec Ideal S1536x512 .bf16)
    (a : Fin 3) (b s : Fin 2) (inb inb5 inb6 inb14 inbw h) (x : S512x128.Idx) :
    upTile (128 * s.val) h
        (dactTile (View.readAt (Elt Ideal) m5.view (Rect.unit (s := S1536x4096) ![512 * a.val, 0] S512x4096.size inb5).toLoadRect (hm5.unread yd))
            (v1.readCov L1 (Rect.unit (s := S4096x512) ![0, 256 * b.val] S4096x256.size inbw).toLoadRect)
          (View.readAt (Elt Ideal) m6.view (Rect.unit (s := S1536x256) ![512 * a.val, 0] S512x256.size inb6).toLoadRect (hm6.unread zd))
            (View.readAt (Elt Ideal) m14.view (Rect.unit (s := S256x512) ![0, 256 * b.val] S256x256.size inb14).toLoadRect (hm14.unread ad)))
        (View.readAt (Elt Ideal) m9.view (Rect.unit (s := S1536x512) ![512 * a.val, 256 * b.val + 128 * s.val] S512x128.size inb).toLoadRect (hm9.unread g)) x
      = upBlock yd zd w ad g ((Rect.unit (s := S1536x512) ![512 * a.val, 256 * b.val + 128 * s.val] S512x128.size inb).emb x) := by
  have hs : s.val < 2 := s.isLt
  refine (upTile_apply _ (by omega) _ _ _ x).trans ?_
  rw [dact_read hm5 hm6 hm14 v1 L1 w h1 yd zd ad a b _ _ _ _ _
    (((Rect.unit (s := S1536x512) ![512 * a.val, 256 * b.val + 128 * s.val] S512x128.size inb).emb x) 0)
    (((Rect.unit (s := S1536x512) ![512 * a.val, 256 * b.val + 128 * s.val] S512x128.size inb).emb x) 1)
    (by show 512 * a.val + 1 * (x 0).val = 512 * a.val + (x 0).val; omega)
    (by show 256 * b.val + 128 * s.val + 1 * (x 1).val = 256 * b.val + (128 * s.val + (x 1).val); omega),
    hm9.readAt_unread]
  rfl

theorem rows64 : ∀ (j : Fin 4) (i : Fin 256), IntOp.andi (IntOp.cmpi .sge (BitVec.ofNat 32 i.val) (BitVec.ofNat 32 (64 * j.val)))
    (IntOp.cmpi .slt (BitVec.ofNat 32 i.val) (BitVec.ofNat 32 (64 * j.val + 64))) = if i.val / 64 = j.val then 1#1 else 0#1 := by decide +kernel

theorem pick (a : Vec Ideal S4 .f32) : ∀ (q : ℕ) (hq : q < 4), Scalar.select (if q = 3 then 1#1 else 0#1) (a (ix1 3)) (Scalar.select (if q = 2 then 1#1 else 0#1) (a (ix1 2))
    (Scalar.select (if q = 1 then 1#1 else 0#1) (a (ix1 1)) (Scalar.select (if q = 0 then 1#1 else 0#1) (a (ix1 0)) (0 : EReal)))) = (a (ix1 ⟨q, hq⟩) : EReal) := by
  intro q hq
  interval_cases q <;> rfl

theorem alphas (a : Vec Ideal S4 .f32) (y : S256x1.Idx) :
    (k0_pay529 (F := Ideal) (k0_pay527 (a (ix1 0)) (a (ix1 1)) (a (ix1 2))) k0_pay528 (a (ix1 3)) y : EReal) = a (ix1 ⟨(y 0).val / 64, Nat.div_lt_of_lt_mul (y 0).isLt⟩) := by
  pointwise [k0_pay529, k0_pay527, k0_pay528]
  have e0 := rows64 0 (y 0)
  have e1 := rows64 1 (y 0)
  have e2 := rows64 2 (y 0)
  have e3 := rows64 3 (y 0)
  simp only [Fin.val_zero, Fin.val_one, Fin.val_two, show ((3 : Fin 4) : ℕ) = 3 from rfl, Nat.reduceMul, Nat.reduceAdd] at e0 e1 e2 e3
  rw [e0, e1, e2, e3]
  exact pick a _ _

/-- The gate adapter's gradient the body stores. -/
theorem pay_gate (a : Vec Ideal S4 .f32) (zt : Vec Ideal S256x1536 .bf16) (gb : Vec Ideal S1536x512 .bf16) :
    k0_pay532 (F := Ideal) (k0_pay527 (a (ix1 0)) (a (ix1 1)) (a (ix1 2))) k0_pay528 (a (ix1 3)) zt gb = fun y => adapter a zt (fun t => gb (ix2 t (y 1))) (y 0) := by
  funext y
  pointwise [k0_pay532, adapter]
  exact congrArg (fun z : EReal => z * _) (alphas a _)

/-- The up adapter's gradient the body stores. -/
theorem pay_up (a : Vec Ideal S4 .f32) (zt : Vec Ideal S256x1536 .bf16) (ub : Vec Ideal S1536x512 .bf16) :
    k0_pay533 (F := Ideal) (k0_pay529 (k0_pay527 (a (ix1 0)) (a (ix1 1)) (a (ix1 2))) k0_pay528 (a (ix1 3))) zt ub = fun y => adapter a zt (fun t => ub (ix2 t (y 1))) (y 0) := by
  funext y
  pointwise [k0_pay533, adapter]
  exact congrArg (fun z : EReal => z * _) (alphas a _)

end Cert.BwdIdeal.Val
-- ==== Proof.BwdScratch.lean ====
/-
  The arrays the feed-forward gradients' body keeps during a grid point: the dequantised weight block, and the blocks of the gate's and the up projection's gradients.
-/
module

public import proofs.«01_k».proof.Proof.BwdRunA
public import proofs.«01_k».proof.Proof.BwdRunB
public import proofs.«01_k».proof.Proof.BwdRunC
public import proofs.«01_k».proof.Proof.BwdTile

@[expose] public section

set_option maxRecDepth 16384

noncomputable section

namespace Cert.BwdIdeal.Val

open Cert.BwdIdeal Cert.BwdIdeal.Gen Cert.BwdIdeal.Named Idealize.ShloMosaic Idealize.ShloMosaic.TcCoe Cert.Tiles
open Idealize.ShloMosaic.Tactic

variable (c : Dev nD) (i : grid0.Coords) (a4 : Memref sig .tc .smem S32x112 .f32) (w4 : a4.IsWhole) (a5 : Memref sig .tc .vmem S1536x4096 .bf16) (w5 : a5.IsWhole)
  (a6 : Memref sig .tc .vmem S1536x256 .bf16) (w6 : a6.IsWhole) (a9 : Memref sig .tc .vmem S1536x512 .bf16) (w9 : a9.IsWhole) (a10 : Memref sig .tc .vmem S1536x512 .bf16) (w10 : a10.IsWhole)
  (a11 : Memref sig .tc .vmem S4096x512 .fp8e4m3) (w11 : a11.IsWhole) (a14 : Memref sig .tc .vmem S256x512 .bf16) (w14 : a14.IsWhole) (a25 : Memref sig .tc .vmem S4096x512 .bf16)
  (x3 : Vec Ideal S32x112 .f32) (x4 : Vec Ideal S1536x4096 .bf16) (x5 : Vec Ideal S1536x256 .bf16) (x8 x9 : Vec Ideal S1536x512 .bf16) (x10 : Vec Ideal S4096x512 .fp8e4m3) (x13 : Vec Ideal S256x512 .bf16)

theorem weightB : View.canon (kernelRun0_B.sl.HS0_128 (F := Ideal) c i a4 w4 a11 w11 x3 x10) = deq x3 x10 0 (4 * (i 0).val) := by
  have p := @piece a4 w4 a11 w11 i x3 x10
  exact canon_eq_of_piecesOf _ _
    ⟨p 31 3 _ (k0_off32_eq i 3) _ _ _, p 31 2 _ (k0_off32_eq i 2) _ _ _, p 31 1 _ (k0_off32_eq i 1) _ _ _, p 31 0 _ (k0_off32_eq i 0) _ _ _,
    p 30 3 _ (k0_off31_eq i 3) _ _ _, p 30 2 _ (k0_off31_eq i 2) _ _ _, p 30 1 _ (k0_off31_eq i 1) _ _ _, p 30 0 _ (k0_off31_eq i 0) _ _ _,
    p 29 3 _ (k0_off30_eq i 3) _ _ _, p 29 2 _ (k0_off30_eq i 2) _ _ _, p 29 1 _ (k0_off30_eq i 1) _ _ _, p 29 0 _ (k0_off30_eq i 0) _ _ _,
    p 28 3 _ (k0_off29_eq i 3) _ _ _, p 28 2 _ (k0_off29_eq i 2) _ _ _, p 28 1 _ (k0_off29_eq i 1) _ _ _, p 28 0 _ (k0_off29_eq i 0) _ _ _,
    p 27 3 _ (k0_off28_eq i 3) _ _ _, p 27 2 _ (k0_off28_eq i 2) _ _ _, p 27 1 _ (k0_off28_eq i 1) _ _ _, p 27 0 _ (k0_off28_eq i 0) _ _ _,
    p 26 3 _ (k0_off27_eq i 3) _ _ _, p 26 2 _ (k0_off27_eq i 2) _ _ _, p 26 1 _ (k0_off27_eq i 1) _ _ _, p 26 0 _ (k0_off27_eq i 0) _ _ _,
    p 25 3 _ (k0_off26_eq i 3) _ _ _, p 25 2 _ (k0_off26_eq i 2) _ _ _, p 25 1 _ (k0_off26_eq i 1) _ _ _, p 25 0 _ (k0_off26_eq i 0) _ _ _,
    p 24 3 _ (k0_off25_eq i 3) _ _ _, p 24 2 _ (k0_off25_eq i 2) _ _ _, p 24 1 _ (k0_off25_eq i 1) _ _ _, p 24 0 _ (k0_off25_eq i 0) _ _ _,
    p 23 3 _ (k0_off24_eq i 3) _ _ _, p 23 2 _ (k0_off24_eq i 2) _ _ _, p 23 1 _ (k0_off24_eq i 1) _ _ _, p 23 0 _ (k0_off24_eq i 0) _ _ _,
    p 22 3 _ (k0_off23_eq i 3) _ _ _, p 22 2 _ (k0_off23_eq i 2) _ _ _, p 22 1 _ (k0_off23_eq i 1) _ _ _, p 22 0 _ (k0_off23_eq i 0) _ _ _,
    p 21 3 _ (k0_off22_eq i 3) _ _ _, p 21 2 _ (k0_off22_eq i 2) _ _ _, p 21 1 _ (k0_off22_eq i 1) _ _ _, p 21 0 _ (k0_off22_eq i 0) _ _ _,
    p 20 3 _ (k0_off21_eq i 3) _ _ _, p 20 2 _ (k0_off21_eq i 2) _ _ _, p 20 1 _ (k0_off21_eq i 1) _ _ _, p 20 0 _ (k0_off21_eq i 0) _ _ _,
    p 19 3 _ (k0_off20_eq i 3) _ _ _, p 19 2 _ (k0_off20_eq i 2) _ _ _, p 19 1 _ (k0_off20_eq i 1) _ _ _, p 19 0 _ (k0_off20_eq i 0) _ _ _,
    p 18 3 _ (k0_off19_eq i 3) _ _ _, p 18 2 _ (k0_off19_eq i 2) _ _ _, p 18 1 _ (k0_off19_eq i 1) _ _ _, p 18 0 _ (k0_off19_eq i 0) _ _ _,
    p 17 3 _ (k0_off18_eq i 3) _ _ _, p 17 2 _ (k0_off18_eq i 2) _ _ _, p 17 1 _ (k0_off18_eq i 1) _ _ _, p 17 0 _ (k0_off18_eq i 0) _ _ _,
    p 16 3 _ (k0_off17_eq i 3) _ _ _, p 16 2 _ (k0_off17_eq i 2) _ _ _, p 16 1 _ (k0_off17_eq i 1) _ _ _, p 16 0 _ (k0_off17_eq i 0) _ _ _,
    p 15 3 _ (k0_off16_eq i 3) _ _ _, p 15 2 _ (k0_off16_eq i 2) _ _ _, p 15 1 _ (k0_off16_eq i 1) _ _ _, p 15 0 _ (k0_off16_eq i 0) _ _ _,
    p 14 3 _ (k0_off15_eq i 3) _ _ _, p 14 2 _ (k0_off15_eq i 2) _ _ _, p 14 1 _ (k0_off15_eq i 1) _ _ _, p 14 0 _ (k0_off15_eq i 0) _ _ _,
    p 13 3 _ (k0_off14_eq i 3) _ _ _, p 13 2 _ (k0_off14_eq i 2) _ _ _, p 13 1 _ (k0_off14_eq i 1) _ _ _, p 13 0 _ (k0_off14_eq i 0) _ _ _,
    p 12 3 _ (k0_off13_eq i 3) _ _ _, p 12 2 _ (k0_off13_eq i 2) _ _ _, p 12 1 _ (k0_off13_eq i 1) _ _ _, p 12 0 _ (k0_off13_eq i 0) _ _ _,
    p 11 3 _ (k0_off12_eq i 3) _ _ _, p 11 2 _ (k0_off12_eq i 2) _ _ _, p 11 1 _ (k0_off12_eq i 1) _ _ _, p 11 0 _ (k0_off12_eq i 0) _ _ _,
    p 10 3 _ (k0_off11_eq i 3) _ _ _, p 10 2 _ (k0_off11_eq i 2) _ _ _, p 10 1 _ (k0_off11_eq i 1) _ _ _, p 10 0 _ (k0_off11_eq i 0) _ _ _,
    p 9 3 _ (k0_off10_eq i 3) _ _ _, p 9 2 _ (k0_off10_eq i 2) _ _ _, p 9 1 _ (k0_off10_eq i 1) _ _ _, p 9 0 _ (k0_off10_eq i 0) _ _ _,
    p 8 3 _ (k0_off9_eq i 3) _ _ _, p 8 2 _ (k0_off9_eq i 2) _ _ _, p 8 1 _ (k0_off9_eq i 1) _ _ _, p 8 0 _ (k0_off9_eq i 0) _ _ _,
    p 7 3 _ (k0_off8_eq i 3) _ _ _, p 7 2 _ (k0_off8_eq i 2) _ _ _, p 7 1 _ (k0_off8_eq i 1) _ _ _, p 7 0 _ (k0_off8_eq i 0) _ _ _,
    p 6 3 _ (k0_off7_eq i 3) _ _ _, p 6 2 _ (k0_off7_eq i 2) _ _ _, p 6 1 _ (k0_off7_eq i 1) _ _ _, p 6 0 _ (k0_off7_eq i 0) _ _ _,
    p 5 3 _ (k0_off6_eq i 3) _ _ _, p 5 2 _ (k0_off6_eq i 2) _ _ _, p 5 1 _ (k0_off6_eq i 1) _ _ _, p 5 0 _ (k0_off6_eq i 0) _ _ _,
    p 4 3 _ (k0_off5_eq i 3) _ _ _, p 4 2 _ (k0_off5_eq i 2) _ _ _, p 4 1 _ (k0_off5_eq i 1) _ _ _, p 4 0 _ (k0_off5_eq i 0) _ _ _,
    p 3 3 _ (k0_off4_eq i 3) _ _ _, p 3 2 _ (k0_off4_eq i 2) _ _ _, p 3 1 _ (k0_off4_eq i 1) _ _ _, p 3 0 _ (k0_off4_eq i 0) _ _ _,
    p 2 3 _ (k0_off3_eq i 3) _ _ _, p 2 2 _ (k0_off3_eq i 2) _ _ _, p 2 1 _ (k0_off3_eq i 1) _ _ _, p 2 0 _ (k0_off3_eq i 0) _ _ _,
    p 1 3 _ (k0_off2_eq i 3) _ _ _, p 1 2 _ (k0_off2_eq i 2) _ _ _, p 1 1 _ (k0_off2_eq i 1) _ _ _, p 1 0 _ (k0_off2_eq i 0) _ _ _,
    p 0 3 _ (k0_off1_eq i 3) _ _ _, p 0 2 _ (k0_off1_eq i 2) _ _ _, p 0 1 _ (k0_off1_eq i 1) _ _ _, p 0 0 _ (k0_off1_eq i 0) _ _ _, trivial⟩
    (View.cover_of_tiledL _ S128x128.size (by sl_kernel_rfl))

theorem weightA : View.canon (kernelRun0_A.sl.HS0_128 (F := Ideal) c i a4 w4 a11 w11 x3 x10) = deq x3 x10 0 (4 * (i 0).val) :=
  weightB c i a4 w4 a11 w11 x3 x10

theorem weightC : View.canon (kernelRun0_C.sl.HS0_128 (F := Ideal) c i a4 w4 a11 w11 x3 x10) = deq x3 x10 0 (4 * (i 0).val) :=
  weightB c i a4 w4 a11 w11 x3 x10

theorem gateB : View.canon (kernelRun0_B.sl.HS1_12 (F := Ideal) c i a4 w4 a5 w5 a6 w6 a9 w9 a10 w10 a11 w11 a14 w14 a25 x3 x4 x5 x8 x9 x10 x13) = gateBlock x4 x5 (deq x3 x10 0 (4 * (i 0).val)) x13 x8 x9 := by
  have p := piece_gate w5 w6 w14 w9 w10 a25.view _ _ (weightB c i a4 w4 a11 w11 x3 x10) x4 x5 x13 x8 x9
  refine canon_eq_of_piecesOf _ _ ?_ (View.cover_of_tiledL _ S512x128.size (by sl_kernel_rfl))
  exact ⟨p 2 1 1 inb_S1536x512_S512x128_1024_384 _ _ _ _ slices_S512x256_o0_128_S512x128,
    p 2 1 0 inb_S1536x512_S512x128_1024_256 _ _ _ _ slices_S512x256_o0_0_S512x128,
    p 1 1 1 inb_S1536x512_S512x128_512_384 _ _ _ _ slices_S512x256_o0_128_S512x128,
    p 1 1 0 inb_S1536x512_S512x128_512_256 _ _ _ _ slices_S512x256_o0_0_S512x128,
    p 0 1 1 inb_S1536x512_S512x128_0_384 _ _ _ _ slices_S512x256_o0_128_S512x128,
    p 0 1 0 inb_S1536x512_S512x128_0_256 _ _ _ _ slices_S512x256_o0_0_S512x128,
    p 2 0 1 inb_S1536x512_S512x128_1024_128 _ _ _ _ slices_S512x256_o0_128_S512x128,
    p 2 0 0 inb_S1536x512_S512x128_1024_0 _ _ _ _ slices_S512x256_o0_0_S512x128,
    p 1 0 1 inb_S1536x512_S512x128_512_128 _ _ _ _ slices_S512x256_o0_128_S512x128,
    p 1 0 0 inb_S1536x512_S512x128_512_0 _ _ _ _ slices_S512x256_o0_0_S512x128,
    p 0 0 1 inb_S1536x512_S512x128_0_128 _ _ _ _ slices_S512x256_o0_128_S512x128,
    p 0 0 0 inb_S1536x512_S512x128_0_0 _ _ _ _ slices_S512x256_o0_0_S512x128, trivial⟩

theorem gateA : View.canon (kernelRun0_A.sl.HS1_12 (F := Ideal) c i a4 w4 a5 w5 a6 w6 a9 w9 a10 w10 a11 w11 a14 w14 a25 x3 x4 x5 x8 x9 x10 x13) = gateBlock x4 x5 (deq x3 x10 0 (4 * (i 0).val)) x13 x8 x9 :=
  gateB c i a4 w4 a5 w5 a6 w6 a9 w9 a10 w10 a11 w11 a14 w14 a25 x3 x4 x5 x8 x9 x10 x13

theorem gateC : View.canon (kernelRun0_C.sl.HS1_12 (F := Ideal) c i a4 w4 a5 w5 a6 w6 a9 w9 a10 w10 a11 w11 a14 w14 a25 x3 x4 x5 x8 x9 x10 x13) = gateBlock x4 x5 (deq x3 x10 0 (4 * (i 0).val)) x13 x8 x9 :=
  gateB c i a4 w4 a5 w5 a6 w6 a9 w9 a10 w10 a11 w11 a14 w14 a25 x3 x4 x5 x8 x9 x10 x13

theorem upB : View.canon (kernelRun0_B.sl.HS2_12 (F := Ideal) c i a4 w4 a5 w5 a6 w6 a9 w9 a11 w11 a14 w14 a25 x3 x4 x5 x8 x10 x13) = upBlock x4 x5 (deq x3 x10 0 (4 * (i 0).val)) x13 x8 := by
  have p := piece_up w5 w6 w14 w9 a25.view _ _ (weightB c i a4 w4 a11 w11 x3 x10) x4 x5 x13 x8
  refine canon_eq_of_piecesOf _ _ ?_ (View.cover_of_tiledL _ S512x128.size (by sl_kernel_rfl))
  exact ⟨p 2 1 1 inb_S1536x512_S512x128_1024_384 _ _ _ _ slices_S512x256_o0_128_S512x128,
    p 2 1 0 inb_S1536x512_S512x128_1024_256 _ _ _ _ slices_S512x256_o0_0_S512x128,
    p 1 1 1 inb_S1536x512_S512x128_512_384 _ _ _ _ slices_S512x256_o0_128_S512x128,
    p 1 1 0 inb_S1536x512_S512x128_512_256 _ _ _ _ slices_S512x256_o0_0_S512x128,
    p 0 1 1 inb_S1536x512_S512x128_0_384 _ _ _ _ slices_S512x256_o0_128_S512x128,
    p 0 1 0 inb_S1536x512_S512x128_0_256 _ _ _ _ slices_S512x256_o0_0_S512x128,
    p 2 0 1 inb_S1536x512_S512x128_1024_128 _ _ _ _ slices_S512x256_o0_128_S512x128,
    p 2 0 0 inb_S1536x512_S512x128_1024_0 _ _ _ _ slices_S512x256_o0_0_S512x128,
    p 1 0 1 inb_S1536x512_S512x128_512_128 _ _ _ _ slices_S512x256_o0_128_S512x128,
    p 1 0 0 inb_S1536x512_S512x128_512_0 _ _ _ _ slices_S512x256_o0_0_S512x128,
    p 0 0 1 inb_S1536x512_S512x128_0_128 _ _ _ _ slices_S512x256_o0_128_S512x128,
    p 0 0 0 inb_S1536x512_S512x128_0_0 _ _ _ _ slices_S512x256_o0_0_S512x128, trivial⟩

theorem upA : View.canon (kernelRun0_A.sl.HS2_12 (F := Ideal) c i a4 w4 a5 w5 a6 w6 a9 w9 a11 w11 a14 w14 a25 x3 x4 x5 x8 x10 x13) = upBlock x4 x5 (deq x3 x10 0 (4 * (i 0).val)) x13 x8 :=
  upB c i a4 w4 a5 w5 a6 w6 a9 w9 a11 w11 a14 w14 a25 x3 x4 x5 x8 x10 x13

theorem upC : View.canon (kernelRun0_C.sl.HS2_12 (F := Ideal) c i a4 w4 a5 w5 a6 w6 a9 w9 a11 w11 a14 w14 a25 x3 x4 x5 x8 x10 x13) = upBlock x4 x5 (deq x3 x10 0 (4 * (i 0).val)) x13 x8 :=
  upB c i a4 w4 a5 w5 a6 w6 a9 w9 a11 w11 a14 w14 a25 x3 x4 x5 x8 x10 x13

end Cert.BwdIdeal.Val
-- ==== Proof.BwdBody.lean ====
/-
  The blocks of the two adapter gradients the body stores at every grid point.
-/
module

public import proofs.«01_k».proof.Proof.BwdRun
public import proofs.«01_k».proof.Proof.BwdScratch

@[expose] public section

set_option maxRecDepth 16384

noncomputable section

namespace Cert.BwdIdeal.Val

open Cert.BwdIdeal Cert.BwdIdeal.Gen Cert.BwdIdeal.Named Idealize.ShloMosaic Idealize.ShloMosaic.TcCoe Cert.Tiles

variable (m : (ℓ : Loc nD τ sig) → Buf (Elt Ideal) ℓ)

theorem zero2 : (![0, 0] : Fin 2 → ℕ) = fun _ => 0 := by funext a; fin_cases a <;> rfl

theorem whole_read {sp : Space} {s : Shape} {e : EltTy} {mr : Memref sig .tc sp s e} (h : mr.IsWhole) (X : s.Idx → Elt Ideal e) {off : Fin s.rank → ℕ}
    (hz : off = fun _ => 0) (inb) : View.readAt (Elt Ideal) mr.view (Rect.unit (s := s) off s.size inb).toLoadRect (h.unread X) = X := by
  rw [View.readAt_eq_ld, View.ld_unit_zero hz]
  exact h.read_unread X

theorem whole_cov (v : View sig .tc .vmem S1536x512 .bf16) (L : List (View.Piece (Elt Ideal) S1536x512 .bf16)) (iv) :
    v.readCov L (Rect.unit (s := S1536x512) ![0, 0] S1536x512.size iv).toLoadRect = View.canon L := by
  rw [View.readCov_eq_canon']
  funext j
  refine congrArg (View.canon L) ?_
  funext a
  apply Fin.ext
  fin_cases a
  · show 0 + 1 * (j 0).val = (j 0).val
    omega
  · show 0 + 1 * (j 1).val = (j 1).val
    omega

theorem alpha_read {m1 : Memref sig .tc .smem S4 .f32} (h1 : m1.IsWhole) (al : Vec Ideal S4 .f32) (j : Fin 4) (inb h) :
    View.readAt (Elt Ideal) m1.view (Rect.unit (s := S4) ![j.val] S1.size inb).toLoadRect (h1.unread al) (Shape.Idx.first h) = al (ix1 j) :=
  (h1.readAt_unread _ _ _).trans (congrArg _ (by funext a; apply Fin.ext; fin_cases a; rfl))

section
variable {m1 : Memref sig .tc .smem S4 .f32} (h1 : m1.IsWhole) {m7 : Memref sig .tc .vmem S256x1536 .bf16} (h7 : m7.IsWhole)
  (v : View sig .tc .vmem S1536x512 .bf16) (L : List (View.Piece (Elt Ideal) S1536x512 .bf16)) (gb : Vec Ideal S1536x512 .bf16) (hL : View.canon L = gb)
  (al : Vec Ideal S4 .f32) (zt : Vec Ideal S256x1536 .bf16) (inb i7 iv i0 i1 i2 i3 h)

include hL

theorem store_gate : View.canon [(⟨Rect.unit (s := S256x512) ![0, 0] S256x512.size inb, k0_pay532 (F := Ideal)
      (k0_pay527 (View.readAt (Elt Ideal) m1.view (Rect.unit (s := S4) ![0] S1.size i0).toLoadRect (h1.unread al) (Shape.Idx.first h))
        (View.readAt (Elt Ideal) m1.view (Rect.unit (s := S4) ![1] S1.size i1).toLoadRect (h1.unread al) (Shape.Idx.first h))
        (View.readAt (Elt Ideal) m1.view (Rect.unit (s := S4) ![2] S1.size i2).toLoadRect (h1.unread al) (Shape.Idx.first h))) k0_pay528
      (View.readAt (Elt Ideal) m1.view (Rect.unit (s := S4) ![3] S1.size i3).toLoadRect (h1.unread al) (Shape.Idx.first h))
      (View.readAt (Elt Ideal) m7.view (Rect.unit (s := S256x1536) ![0, 0] S256x1536.size i7).toLoadRect (h7.unread zt))
      (v.readCov L (Rect.unit (s := S1536x512) ![0, 0] S1536x512.size iv).toLoadRect)⟩ : View.Piece (Elt Ideal) S256x512 .f32)]
    = fun y => adapter al zt (fun t => gb (ix2 t (y 1))) (y 0) := by
  subst hL
  refine (View.canon_unit_zero zero2 _ _).trans ?_
  rw [whole_read h7 zt zero2, whole_cov v L]
  refine Eq.trans ?_ (pay_gate al zt _)
  exact congr (congrArg₂ (fun a b => k0_pay532 (F := Ideal) a k0_pay528 b zt)
    (congr (congrArg₂ (fun a b => k0_pay527 (F := Ideal) a b) (alpha_read h1 al 0 _ _) (alpha_read h1 al 1 _ _)) (alpha_read h1 al 2 _ _)) (alpha_read h1 al 3 _ _)) rfl

theorem store_up : View.canon [(⟨Rect.unit (s := S256x512) ![0, 0] S256x512.size inb, k0_pay533 (F := Ideal)
      (k0_pay529 (k0_pay527 (View.readAt (Elt Ideal) m1.view (Rect.unit (s := S4) ![0] S1.size i0).toLoadRect (h1.unread al) (Shape.Idx.first h))
        (View.readAt (Elt Ideal) m1.view (Rect.unit (s := S4) ![1] S1.size i1).toLoadRect (h1.unread al) (Shape.Idx.first h))
        (View.readAt (Elt Ideal) m1.view (Rect.unit (s := S4) ![2] S1.size i2).toLoadRect (h1.unread al) (Shape.Idx.first h))) k0_pay528
      (View.readAt (Elt Ideal) m1.view (Rect.unit (s := S4) ![3] S1.size i3).toLoadRect (h1.unread al) (Shape.Idx.first h)))
      (View.readAt (Elt Ideal) m7.view (Rect.unit (s := S256x1536) ![0, 0] S256x1536.size i7).toLoadRect (h7.unread zt))
      (v.readCov L (Rect.unit (s := S1536x512) ![0, 0] S1536x512.size iv).toLoadRect)⟩ : View.Piece (Elt Ideal) S256x512 .f32)]
    = fun y => adapter al zt (fun t => gb (ix2 t (y 1))) (y 0) := by
  subst hL
  refine (View.canon_unit_zero zero2 _ _).trans ?_
  rw [whole_read h7 zt zero2, whole_cov v L]
  refine Eq.trans ?_ (pay_up al zt _)
  exact congr (congrArg₂ (fun a b => k0_pay533 (F := Ideal) (k0_pay529 a k0_pay528 b) zt)
    (congr (congrArg₂ (fun a b => k0_pay527 (F := Ideal) a b) (alpha_read h1 al 0 _ _) (alpha_read h1 al 1 _ _)) (alpha_read h1 al 2 _ _)) (alpha_read h1 al 3 _ _)) rfl
end

theorem gate_block (c : Dev nD) (t : Fin cfg0.N) : (outsAt0 m c t.val t.isLt).1
    = fun y => adapter (iblk m c 0 t) (iblk m c 6 t) (fun s => gateBlock (iblk m c 4 t) (iblk m c 5 t) (deq (iblk m c 3 t) (iblk m c 10 t) 0 (4 * (grid0.coords t 0).val)) (iblk m c 13 t) (iblk m c 8 t) (iblk m c 9 t) (ix2 s (y 1))) (y 0) := by
  by_cases h0 : t.val % 28 = 0
  · have h1 : ¬t.val % 28 = 27 := by omega
    rw [outsAt0_A m c t h0 h1]
    unfold outsA out0_A_20
    dsimp only
    rw [View.read_writes_junk_eq_canon]
    exact store_gate (hs0_0 t) (hs0_6 t) _ _ _ (gateA ..) _ _ _ _ _ _ _ _ _ _
  · by_cases h1 : t.val % 28 = 27
    · rw [outsAt0_C m c t h0 h1]
      unfold outsC out0_C_20
      dsimp only
      rw [View.read_writes_junk_eq_canon]
      exact store_gate (hs0_0 t) (hs0_6 t) _ _ _ (gateC ..) _ _ _ _ _ _ _ _ _ _
    · rw [outsAt0_B m c t h0 h1]
      unfold outsB out0_B_20
      dsimp only
      rw [View.read_writes_junk_eq_canon]
      exact store_gate (hs0_0 t) (hs0_6 t) _ _ _ (gateB ..) _ _ _ _ _ _ _ _ _ _

theorem up_block (c : Dev nD) (t : Fin cfg0.N) : (outsAt0 m c t.val t.isLt).2.1
    = fun y => adapter (iblk m c 0 t) (iblk m c 7 t) (fun s => upBlock (iblk m c 4 t) (iblk m c 5 t) (deq (iblk m c 3 t) (iblk m c 10 t) 0 (4 * (grid0.coords t 0).val)) (iblk m c 13 t) (iblk m c 8 t) (ix2 s (y 1))) (y 0) := by
  by_cases h0 : t.val % 28 = 0
  · have h1 : ¬t.val % 28 = 27 := by omega
    rw [outsAt0_A m c t h0 h1]
    unfold outsA out0_A_21
    dsimp only
    rw [View.read_writes_junk_eq_canon]
    exact store_up (hs0_0 t) (hs0_7 t) _ _ _ (upA ..) _ _ _ _ _ _ _ _ _ _
  · by_cases h1 : t.val % 28 = 27
    · rw [outsAt0_C m c t h0 h1]
      unfold outsC out0_C_21
      dsimp only
      rw [View.read_writes_junk_eq_canon]
      exact store_up (hs0_0 t) (hs0_7 t) _ _ _ (upC ..) _ _ _ _ _ _ _ _ _ _
    · rw [outsAt0_B m c t h0 h1]
      unfold outsB out0_B_21
      dsimp only
      rw [View.read_writes_junk_eq_canon]
      exact store_up (hs0_0 t) (hs0_7 t) _ _ _ (upB ..) _ _ _ _ _ _ _ _ _ _

end Cert.BwdIdeal.Val
-- ==== Proof.BwdValue.lean ====
/-
  The feed-forward gradients' two adapter gradients, each as one formula over the arguments.
-/
module

public import proofs.«01_k».proof.Proof.BwdBody

@[expose] public section

set_option maxRecDepth 16384

noncomputable section

namespace Cert.BwdIdeal.Val

open Cert.BwdIdeal Cert.BwdIdeal.Gen Cert.BwdIdeal.Named Idealize.ShloMosaic Idealize.ShloMosaic.TcCoe Idealize.SL.Sem Cert.Tiles
open Idealize.ShloMosaic.Pipeline (Dat)
open Idealize.ShloMosaic.Tactic

variable (m : (ℓ : Loc nD τ sig) → Buf (Elt Ideal) ℓ)

theorem idx_val : ∀ t : Fin cfg0.N, win0_0.index t = ![0] ∧ win0_3.index t = ![0, 0] ∧ win0_4.index t = ![0, 0] ∧ win0_5.index t = ![0, 0] ∧ win0_6.index t = ![0, 0]
    ∧ win0_7.index t = ![0, 0] ∧ win0_8.index t = ![0, t.val] ∧ win0_9.index t = ![0, t.val] ∧ win0_10.index t = ![0, t.val]
    ∧ win0_13.index t = ![0, t.val] ∧ win0_20.index t = ![0, t.val] ∧ win0_21.index t = ![0, t.val] ∧ (grid0.coords t 0).val = t.val :=
  (by decide +kernel : ∀ t : Fin grid0.N, _)

theorem weight (c : Dev nD) (t : Fin cfg0.N) (x : S4096x512.Idx) :
    deq (iblk m c 3 t) (iblk m c 10 t) 0 (4 * (grid0.coords t 0).val) x
      = deq (m ((c : Thread nD τ).loc main_arg3)) (m ((c : Thread nD τ).loc main_arg10)) 0 0 (((cfg0.win 10).blk t).view.emb x) := by
  have e : (iblk m c 3 t : S32x112.Idx → Elt Ideal .f32) = m ((c : Thread nD τ).loc main_arg3) := by blk_ext! [iblk, V, idx_val t]
  unfold deq
  refine congrArg₂ (fun a b : EReal => a * b) (by blk_ext [iblk, V, idx_val t]) ?_
  refine (congrArg (fun s => scAt s _ _) e).trans (congrArg₂ (scAt _) ?_ ?_) <;> (blk_simp [idx_val t]; try omega)

set_option maxHeartbeats 1000000 in
theorem final_gate (c : Dev nD) : (dats m 0 c).arrAt 20 (cfgs 0).N
    = gateTotal (m ((c : Thread nD τ).loc main_arg0)) (m ((c : Thread nD τ).loc main_arg3)) (m ((c : Thread nD τ).loc main_arg4)) (m ((c : Thread nD τ).loc main_arg5))
      (m ((c : Thread nD τ).loc main_arg6)) (m ((c : Thread nD τ).loc main_arg8)) (m ((c : Thread nD τ).loc main_arg9)) (m ((c : Thread nD τ).loc main_arg10)) (V m c main_v2) := by
  refine (dats m 0 c).arrAt_eq_of_covers 20 _ (by decide +kernel) fun t hf y => ?_
  blk_simp
  rw [after0_20, gate_block]
  unfold gateTotal adapter gateBlock dact
  refine congrArg₂ (fun a b : EReal => a * b) ?_ (Finset.sum_congr rfl fun s _ => congrArg₂ (fun a b : EReal => a * b) ?_
    (congr (congrArg₂ gateGrad (congrArg₂ (fun a b : EReal => a + b) (Finset.sum_congr rfl fun k _ => congrArg₂ (fun a b : EReal => a * b) ?_ ((weight m c t _).trans (congrArg _ ?_)))
      (Finset.sum_congr rfl fun r _ => congrArg₂ (fun a b : EReal => a * b) ?_ ?_)) ?_) ?_))
  all_goals blk_ext [iblk, V, idx_val t]

set_option maxHeartbeats 1000000 in
theorem final_up (c : Dev nD) : (dats m 0 c).arrAt 21 (cfgs 0).N
    = upTotal (m ((c : Thread nD τ).loc main_arg0)) (m ((c : Thread nD τ).loc main_arg3)) (m ((c : Thread nD τ).loc main_arg4)) (m ((c : Thread nD τ).loc main_arg5))
      (m ((c : Thread nD τ).loc main_arg7)) (m ((c : Thread nD τ).loc main_arg8)) (m ((c : Thread nD τ).loc main_arg10)) (V m c main_v2) := by
  refine (dats m 0 c).arrAt_eq_of_covers 21 _ (by decide +kernel) fun t hf y => ?_
  blk_simp
  rw [after0_21, up_block]
  unfold upTotal adapter upBlock dact
  refine congrArg₂ (fun a b : EReal => a * b) ?_ (Finset.sum_congr rfl fun s _ => congrArg₂ (fun a b : EReal => a * b) ?_
    (congrArg₂ upGrad (congrArg₂ (fun a b : EReal => a + b) (Finset.sum_congr rfl fun k _ => congrArg₂ (fun a b : EReal => a * b) ?_ ((weight m c t _).trans (congrArg _ ?_)))
      (Finset.sum_congr rfl fun r _ => congrArg₂ (fun a b : EReal => a * b) ?_ ?_)) ?_))
  all_goals blk_ext [iblk, V, idx_val t]

/-- The run, with the two result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3_6) = (dats m 0 c).arrAt 20 cfg0.N
      ∧ r.2.mem ((c : Thread nD τ).loc main_v3_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨((dats m 0 c).toRForget_arrAt_iff forgets0_20 _ _).mp ((h.1 c).1 20),
      ((dats m 0 c).toRForget_arrAt_iff forgets0_21 _ _).mp ((h.1 c).1 21), h.2 c⟩)
    (θ_run_and (run_main m ρ) (unchanged m ρ))

end Cert.BwdIdeal.Val
-- ==== Proof.BwdReference.lean ====
/-
  The feed-forward gradients' reference: each of its result arrays is the same formula.
-/
module

public import proofs.«01_k».proof.Proof.BwdTile
public import proofs.«01_k».proof.Proof.Gen.ReferenceBwdIdeal.Value

@[expose] public section

set_option maxRecDepth 16384

noncomputable section

namespace Cert.ReferenceBwdIdeal.Val

open Cert.ReferenceBwdIdeal Cert.ReferenceBwdIdeal.Gen Idealize.ShloMosaic Idealize.ShloMosaic.TcCoe Cert.Tiles
open Idealize.ShloMosaic.Pipeline (Dat)
open Idealize.ShloMosaic.Tactic
open Cert.BwdIdeal.Val (gateGrad upGrad)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- The scales spread over the weight's entries, as the reference's host code does it. -/
def spread (S : FVec Ideal S32x112 .f32) : FVec Ideal S4096x14336 .bf16 :=
  shapeCast S4096x14336 (broadcastInDim S32x128x112x128 ![0, 1, 2, 3] bcast_S32x1x112x1_S32x128x112x128_0_1_2_3
    (broadcastInDim S32x1x112x1 ![0, 2] bcast_S32x112_S32x1x112x1_0_2 (truncf FTy.bf16 S bitsLt_bf16_f32))) shapeCasts_S32x128x112x128_S4096x14336

theorem spread_apply (S : FVec Ideal S32x112 .f32) (j : S4096x14336.Idx) : spread S j = scAt S (0 + (j 0).val / 128) (0 + (j 1).val / 128) := by
  have h0 : (j 0).val < 4096 := (j 0).isLt
  have h1 : (j 1).val < 14336 := (j 1).isLt
  unfold scAt
  rw [dif_pos (by constructor <;> omega)]
  pointwise [spread]

/-- Each job's alpha spread over the job's rows, as the reference's host code does it. -/
def alphaCol (a : FVec Ideal S4 .f32) : FVec Ideal S256x1 .f32 :=
  broadcastInDim S256x1 ![0] bcast_S256_S256x1_0 (shapeCast S256 (broadcastInDim S4x64 ![0] bcast_S4_S4x64_0 a) shapeCasts_S4x64_S256)

theorem alphaCol_apply (a : FVec Ideal S4 .f32) (i : Fin 256) (l : Fin 1) : alphaCol a (ix2 i l) = a (ix1 ⟨i.val / 64, Nat.div_lt_of_lt_mul i.isLt⟩) := by
  pointwise [alphaCol]

/-- The activations' gradient the reference computes. -/
def dAct (wc : FVec Ideal S4096x14336 .fp8e4m3) (ws : FVec Ideal S4096x14336 .bf16) (dy : FVec Ideal S1536x4096 .bf16) (dz : FVec Ideal S1536x256 .bf16)
    (ad : FVec Ideal S256x14336 .bf16) (t : Fin 1536) (j : Fin 14336) : EReal :=
  (∑ k : Fin 4096, (dy (ix2 t k) : EReal) * ((wc (ix2 k j) : EReal) * ws (ix2 k j))) + ∑ r : Fin 256, (dz (ix2 t r) : EReal) * ad (ix2 r j)

theorem pay_gate (wc : FVec Ideal S4096x14336 .fp8e4m3) (ws : FVec Ideal S4096x14336 .bf16) (g u : FVec Ideal S1536x14336 .bf16) (dy : FVec Ideal S1536x4096 .bf16)
    (dz : FVec Ideal S1536x256 .bf16) (ad : FVec Ideal S256x14336 .bf16) (al : FVec Ideal S256x1 .f32) (zt : FVec Ideal S256x1536 .bf16) (y : S256x14336.Idx) :
    (k0_pay6 wc ws g u dy dz ad al zt y : Ideal .f32)
      = ((al (ix2 (y 0) 0) : EReal) * ∑ t : Fin 1536, (zt (ix2 (y 0) t) : EReal)
          * gateGrad (dAct wc ws dy dz ad t (y 1)) (g (ix2 t (y 1))) (u (ix2 t (y 1))) : EReal) := by
  pointwise [k0_pay6, k0_pay4, k0_pay3, k0_pay2, gateGrad, dAct]

theorem pay_up (wc : FVec Ideal S4096x14336 .fp8e4m3) (ws : FVec Ideal S4096x14336 .bf16) (g : FVec Ideal S1536x14336 .bf16) (dy : FVec Ideal S1536x4096 .bf16)
    (dz : FVec Ideal S1536x256 .bf16) (ad : FVec Ideal S256x14336 .bf16) (al : FVec Ideal S256x1 .f32) (zt : FVec Ideal S256x1536 .bf16) (y : S256x14336.Idx) :
    (k0_pay1 (k0_pay5 wc ws g dy dz ad) al zt y : Ideal .f32)
      = ((al (ix2 (y 0) 0) : EReal) * ∑ t : Fin 1536, (zt (ix2 (y 0) t) : EReal)
          * upGrad (dAct wc ws dy dz ad t (y 1)) (g (ix2 t (y 1))) : EReal) := by
  pointwise [k0_pay1, k0_pay5, k0_pay4, k0_pay3, k0_pay2, upGrad, dAct]

theorem e0 (c : Dev nD) : (iblk m c 0 t0_0 : FVec Ideal S256x1 .f32) = alphaCol (m ((c : Thread nD τ).loc main_arg0)) :=
  Eq.trans (b := V m c main_v2) (by blk_ext! [iblk, idx t0_0]) (by entry_read; rfl)

theorem e1 (c : Dev nD) : (iblk m c 1 t0_0 : FVec Ideal S4096x14336 .bf16) = spread (m ((c : Thread nD τ).loc main_arg3)) :=
  Eq.trans (b := V m c main_v6) (by blk_ext! [iblk, idx t0_0]) (by entry_read; rfl)

theorem e2 (c : Dev nD) : (iblk m c 2 t0_0 : FVec Ideal S1536x4096 .bf16) = m ((c : Thread nD τ).loc main_arg4) := by blk_ext! [iblk, V, idx t0_0]

theorem e3 (c : Dev nD) : (iblk m c 3 t0_0 : FVec Ideal S1536x256 .bf16) = m ((c : Thread nD τ).loc main_arg5) := by blk_ext! [iblk, V, idx t0_0]

theorem e4 (c : Dev nD) : (iblk m c 4 t0_0 : FVec Ideal S256x1536 .bf16) = m ((c : Thread nD τ).loc main_arg6) := by blk_ext! [iblk, V, idx t0_0]

theorem e5 (c : Dev nD) : (iblk m c 5 t0_0 : FVec Ideal S256x1536 .bf16) = m ((c : Thread nD τ).loc main_arg7) := by blk_ext! [iblk, V, idx t0_0]

theorem e6 (c : Dev nD) : (iblk m c 6 t0_0 : FVec Ideal S1536x14336 .bf16) = m ((c : Thread nD τ).loc main_arg8) := by blk_ext! [iblk, V, idx t0_0]

theorem e7 (c : Dev nD) : (iblk m c 7 t0_0 : FVec Ideal S1536x14336 .bf16) = m ((c : Thread nD τ).loc main_arg9) := by blk_ext! [iblk, V, idx t0_0]

theorem e8 (c : Dev nD) : (iblk m c 8 t0_0 : FVec Ideal S4096x14336 .fp8e4m3) = m ((c : Thread nD τ).loc main_arg10) := by blk_ext! [iblk, V, idx t0_0]

theorem e9 (c : Dev nD) : (iblk m c 9 t0_0 : FVec Ideal S256x14336 .bf16) = V m c main_v7 := by blk_ext! [iblk, idx t0_0]

theorem final_gate (c : Dev nD) : (dats m 0 c).arrAt 10 (cfgs 0).N
    = Cert.BwdIdeal.Val.gateTotal (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg8)) (m ((c : Thread nD τ).loc main_arg9))
      (m ((c : Thread nD τ).loc main_arg10)) (V m c main_v7) := by
  refine (dats m 0 c).arrAt_eq_of_after_last 10 t0_0 (by decide +kernel) _ fun j => ?_
  blk_simp
  rw [after0_10]
  frame_out
  rw [e0 m c, e1 m c, e2 m c, e3 m c, e4 m c, e6 m c, e7 m c, e8 m c, e9 m c]
  refine (pay_gate _ _ _ _ _ _ _ _ _ j).trans ?_
  simp only [dAct, spread_apply]
  exact congrArg (fun z : EReal => z * _) (alphaCol_apply _ _ _)

theorem final_up (c : Dev nD) : (dats m 0 c).arrAt 11 (cfgs 0).N
    = Cert.BwdIdeal.Val.upTotal (m ((c : Thread nD τ).loc main_arg0)) (m ((c : Thread nD τ).loc main_arg3)) (m ((c : Thread nD τ).loc main_arg4))
      (m ((c : Thread nD τ).loc main_arg5)) (m ((c : Thread nD τ).loc main_arg7)) (m ((c : Thread nD τ).loc main_arg8))
      (m ((c : Thread nD τ).loc main_arg10)) (V m c main_v7) := by
  refine (dats m 0 c).arrAt_eq_of_after_last 11 t0_0 (by decide +kernel) _ fun j => ?_
  blk_simp
  rw [after0_11]
  frame_out
  rw [e0 m c, e1 m c, e2 m c, e3 m c, e5 m c, e6 m c, e8 m c, e9 m c]
  refine (pay_up _ _ _ _ _ _ _ _ j).trans ?_
  simp only [dAct, spread_apply]
  exact congrArg (fun z : EReal => z * _) (alphaCol_apply _ _ _)

end Cert.ReferenceBwdIdeal.Val
-- ==== Proof.BwdClaim.lean ====
/-
  The feed-forward gradients' two adapter gradients against their reference.
-/
module

public import proofs.«01_k».proof.Proof.BwdValue
public import proofs.«01_k».proof.Proof.BwdReference
public import proofs.«01_k».proof.Defs

@[expose] public section

set_option maxRecDepth 16384

noncomputable section

open Idealize.ShloMosaic Idealize.ShloMosaic.TcCoe Idealize.ShloMosaic.Tactic

/-- The down projection's adapter as the kernel's host code reshapes it. -/
theorem Cert.BwdIdeal.Val.entry (m : (ℓ : Loc Cert.BwdIdeal.nD Cert.BwdIdeal.τ Cert.BwdIdeal.sig) → Buf (Elt Ideal) ℓ) (c : Dev Cert.BwdIdeal.nD) :
    Cert.BwdIdeal.Named.V m c Cert.BwdIdeal.main_v2 = shapeCast Cert.BwdIdeal.S256x14336 (m ((c : Thread Cert.BwdIdeal.nD Cert.BwdIdeal.τ).loc Cert.BwdIdeal.main_arg13)) Cert.BwdIdeal.Gen.shapeCasts_S4x64x14336_S256x14336 := by
  entry_read; rfl

/-- The down projection's adapter as the reference's host code reshapes it. -/
theorem Cert.ReferenceBwdIdeal.Val.entry (m : (ℓ : Loc Cert.ReferenceBwdIdeal.nD Cert.ReferenceBwdIdeal.τ Cert.ReferenceBwdIdeal.sig) → Buf (Elt Ideal) ℓ) (c : Dev Cert.ReferenceBwdIdeal.nD) :
    Cert.ReferenceBwdIdeal.Gen.V m c Cert.ReferenceBwdIdeal.main_v7 = shapeCast Cert.BwdIdeal.S256x14336 (m ((c : Thread Cert.ReferenceBwdIdeal.nD Cert.ReferenceBwdIdeal.τ).loc Cert.ReferenceBwdIdeal.main_arg13)) Cert.BwdIdeal.Gen.shapeCasts_S4x64x14336_S256x14336 := by
  entry_read; rfl

set_option maxHeartbeats 2000000 in
/-- The kernel's two result arrays are the reference's. -/
theorem Cert.Bwd.algebraic : Cert.algebraic_BwdIdeal_ReferenceBwdIdeal := by
  pair_intro
  · run_from Cert.BwdIdeal.Val.run_blocks m g
  · run_from Cert.ReferenceBwdIdeal.Value.run_blocks m' g'
    · obtain ⟨h0, h1, h2, h3, h4, h5, h6, h7, h8, h9, h10, h11, h12, h13⟩ := hagree c
      refine (Cert.ReferenceBwdIdeal.Val.final_gate m' c).trans (Eq.trans ?_ (Cert.BwdIdeal.Val.final_gate m c).symm)
      rw [Cert.BwdIdeal.Val.entry m c, Cert.ReferenceBwdIdeal.Val.entry m' c, h0, h3, h4, h5, h6, h8, h9, h10, h13]
    · obtain ⟨h0, h1, h2, h3, h4, h5, h6, h7, h8, h9, h10, h11, h12, h13⟩ := hagree c
      refine (Cert.ReferenceBwdIdeal.Val.final_up m' c).trans (Eq.trans ?_ (Cert.BwdIdeal.Val.final_up m c).symm)
      rw [Cert.BwdIdeal.Val.entry m c, Cert.ReferenceBwdIdeal.Val.entry m' c, h0, h3, h4, h5, h7, h8, h10, h13]
-- ==== Proof.BwdFrame.lean ====
/-
  The printed feed-forward gradients call: its text is the idealized program's own, so its frame is that program's run read at the machine's floats.
-/
module

public import proofs.«01_k».proof.Proof.BwdRun
public import proofs.«01_k».proof.Proof.Gen.Bwd
public import proofs.«01_k».proof.Defs

@[expose] public section

set_option maxRecDepth 16384

noncomputable section

namespace Cert.Bwd.Named

open Idealize.ShloMosaic Idealize.ShloMosaic.TcCoe

set_option maxHeartbeats 4000000

/-- The kernel's body is the idealized program's. -/
theorem body_eq : @Cert.Bwd.cc0_bwd_ffn Bits _ _ = @Cert.BwdIdeal.cc0_bwd_ffn Bits _ _ := rfl

/-- The table of kernel bodies is the idealized program's. -/
theorem defs₀_eq : Cert.Bwd.defs₀ (F := Bits) = Cert.BwdIdeal.defs₀ (F := Bits) := by
  unfold Cert.Bwd.defs₀ Cert.BwdIdeal.defs₀
  congr 1
  funext l p
  fin_cases l
  rfl

/-- The body table is the idealized program's. -/
theorem defs_eq : Cert.Bwd.defs (F := Bits) = Cert.BwdIdeal.defs (F := Bits) := by
  unfold Cert.Bwd.defs Cert.BwdIdeal.defs
  rw [defs₀_eq]
  rfl

/-- The host function is the idealized program's. -/
theorem main_eq : Cert.Bwd.main (F := Bits) = Cert.BwdIdeal.main (F := Bits) := rfl

theorem quiescent : Cert.quiescent_Bwd := fun m g _ => by
  have h := Cert.BwdIdeal.Named.frame (F := Bits) m g
  rw [← defs_eq, ← main_eq] at h
  exact h

end Cert.Bwd.Named
-- ==== Proof.lean ====
module

public import proofs.«01_k».proof.Defs
public import proofs.«01_k».proof.Proof.DownClaim
public import proofs.«01_k».proof.Proof.DnormClaim
public import proofs.«01_k».proof.Proof.FinishClaim
public import proofs.«01_k».proof.Proof.FwdClaim
public import proofs.«01_k».proof.Proof.FwdFrame
public import proofs.«01_k».proof.Proof.BwdClaim
public import proofs.«01_k».proof.Proof.BwdFrame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.ReferenceDownIdeal
public import proofs.«01_k».proof.Proof.Gen.ReferenceDownIdeal.Skeleton
public import proofs.«01_k».proof.Proof.Gen.ReferenceDownIdeal.Launch
public import proofs.«01_k».proof.Proof.Gen.ReferenceDownIdeal.Points
public import proofs.«01_k».proof.Proof.Gen.ReferenceDownIdeal.Frame
public import proofs.«01_k».proof.Proof.Gen.Dnorm
public import proofs.«01_k».proof.Proof.Gen.Dnorm.Skeleton
public import proofs.«01_k».proof.Proof.Gen.Dnorm.Launch
public import proofs.«01_k».proof.Proof.Gen.Dnorm.Points
public import proofs.«01_k».proof.Proof.Gen.Dnorm.Frame
public import proofs.«01_k».proof.Proof.Gen.DnormIdeal
public import proofs.«01_k».proof.Proof.Gen.DnormIdeal.Skeleton
public import proofs.«01_k».proof.Proof.Gen.DnormIdeal.Launch
public import proofs.«01_k».proof.Proof.Gen.DnormIdeal.Points
public import proofs.«01_k».proof.Proof.Gen.DnormIdeal.Frame
public import proofs.«01_k».proof.Proof.Gen.ReferenceDnormIdeal
public import proofs.«01_k».proof.Proof.Gen.ReferenceDnormIdeal.Skeleton
public import proofs.«01_k».proof.Proof.Gen.ReferenceDnormIdeal.Launch
public import proofs.«01_k».proof.Proof.Gen.ReferenceDnormIdeal.Points
public import proofs.«01_k».proof.Proof.Gen.ReferenceDnormIdeal.Frame
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.ReferenceFinishIdeal
public import proofs.«01_k».proof.Proof.Gen.DownIdeal.Value
public import proofs.«01_k».proof.Proof.Gen.DnormIdeal.Value
public import proofs.«01_k».proof.Proof.Gen.FinishIdeal.Value
public import proofs.«01_k».proof.Proof.Gen.ReferenceDownIdeal.Value
public import proofs.«01_k».proof.Proof.Gen.ReferenceDnormIdeal.Value
public import proofs.«01_k».proof.Proof.Gen.ReferenceFinishIdeal.Run
public import proofs.«01_k».proof.Proof.Gen.Fwd
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.ReferenceFwdIdeal
public import proofs.«01_k».proof.Proof.Gen.ReferenceFwdIdeal.Skeleton
public import proofs.«01_k».proof.Proof.Gen.ReferenceFwdIdeal.Launch
public import proofs.«01_k».proof.Proof.Gen.ReferenceFwdIdeal.Points
public import proofs.«01_k».proof.Proof.Gen.ReferenceFwdIdeal.Frame
public import proofs.«01_k».proof.Proof.Gen.ReferenceFwdIdeal.Value
public import proofs.«01_k».proof.Proof.Gen.Bwd
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.ReferenceBwdIdeal
public import proofs.«01_k».proof.Proof.Gen.ReferenceBwdIdeal.Skeleton
public import proofs.«01_k».proof.Proof.Gen.ReferenceBwdIdeal.Launch
public import proofs.«01_k».proof.Proof.Gen.ReferenceBwdIdeal.Points
public import proofs.«01_k».proof.Proof.Gen.ReferenceBwdIdeal.Frame
public import proofs.«01_k».proof.Proof.Gen.ReferenceBwdIdeal.Value
public import Idealize.ShloMosaic.Adequacy
public import Idealize.ShloMosaic.Init

@[expose] public section

noncomputable section

namespace Cert.Proof

open Idealize.ShloMosaic Idealize.SL.Sem Cert.Down

theorem quiescent_finish : Cert.quiescent_ReferenceFinishIdeal := fun m g _ =>
  (θ_run Cert.ReferenceFinishIdeal.defs _ _).mono (fun r h => ⟨fun c => (h c).2.2.2.2.2, sem_eq_zero_of_no_sems (by decide) r.2⟩)
    (Cert.ReferenceFinishIdeal.Value.run m g)

theorem claim : Cert.Claim := ⟨Cert.Down.Gen.facts, Cert.DownIdeal.Gen.facts, Cert.ReferenceDownIdeal.Gen.facts, Cert.Dnorm.Gen.facts, Cert.DnormIdeal.Gen.facts, Cert.ReferenceDnormIdeal.Gen.facts, Cert.Finish.Gen.facts, Cert.FinishIdeal.Gen.facts, Cert.ReferenceFinishIdeal.Gen.facts, Cert.Fwd.Gen.facts, Cert.FwdIdeal.Gen.facts, Cert.ReferenceFwdIdeal.Gen.facts, Cert.Bwd.Gen.facts, Cert.BwdIdeal.Gen.facts, Cert.ReferenceBwdIdeal.Gen.facts, fun m g _ => Cert.Down.Gen.frame m g,
    fun m g _ => Cert.DownIdeal.Gen.frame m g,
    fun m g _ => Cert.ReferenceDownIdeal.Gen.frame m g,
    fun m g _ => Cert.Dnorm.Gen.frame m g,
    fun m g _ => Cert.DnormIdeal.Gen.frame m g,
    fun m g _ => Cert.ReferenceDnormIdeal.Gen.frame m g,
    fun m g _ => Cert.Finish.Gen.frame m g,
    fun m g _ => Cert.FinishIdeal.Gen.frame m g,
    quiescent_finish,
    Cert.Fwd.Named.quiescent,
    fun m g _ => Cert.FwdIdeal.Named.frame m g,
    fun m g _ => Cert.ReferenceFwdIdeal.Gen.frame m g,
    Cert.Bwd.Named.quiescent,
    fun m g _ => Cert.BwdIdeal.Named.frame m g,
    fun m g _ => Cert.ReferenceBwdIdeal.Gen.frame m g,
    trivial,
    Cert.Down.algebraic,
    trivial,
    Cert.Dnorm.algebraic,
    trivial,
    Cert.Finish.algebraic,
    trivial,
    Cert.Fwd.algebraic,
    trivial,
    Cert.Bwd.algebraic⟩

end Cert.Proof

end
